-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "scale" .f32 0x3E38AA3B#32 (((1 / 8) * (Real.log 2)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  IdealRules.named_const.Statement Cert.Kernel10Ideal.κ "scale" .f32 0x3DD53B95#32 (((Real.sqrt 192)⁻¹ * (Real.log 2)⁻¹ : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v44) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S8192x4096 : Shape := ⟨2, ![8192, 4096]⟩
abbrev S4096x15936 : Shape := ⟨2, ![4096, 15936]⟩
abbrev S15936x4096 : Shape := ⟨2, ![15936, 4096]⟩
abbrev S8192x8192 : Shape := ⟨2, ![8192, 8192]⟩
abbrev S1024x4096 : Shape := ⟨2, ![1024, 4096]⟩
abbrev S512x4096 : Shape := ⟨2, ![512, 4096]⟩
abbrev S1024x512 : Shape := ⟨2, ![1024, 512]⟩
abbrev S4096x512 : Shape := ⟨2, ![4096, 512]⟩
abbrev S256x256 : Shape := ⟨2, ![256, 256]⟩
abbrev S512x256 : Shape := ⟨2, ![512, 256]⟩
abbrev S256x512 : Shape := ⟨2, ![256, 512]⟩
abbrev S256x4096 : Shape := ⟨2, ![256, 4096]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x15936, .f32⟩
  | .hbm, ⟨2, _⟩ => ⟨S15936x4096, .f32⟩
  | .hbm, ⟨3, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![129], ![false]⟩

def k0_mult1 (i : grid0.Coords) : BitVec 32 :=
  let c7744_i32 : BitVec 32 := 7744#32
  let c512_i32 : BitVec 32 := 512#32
  let arg0 : BitVec 32 := BitVec.ofNat 32 (i 0).val
  let c127_i32 : BitVec 32 := 127#32
  let v0 : BitVec 32 := Scalar.minsi arg0 c127_i32
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c8_i32_3 : BitVec 32 := 8#32
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let v11 : BitVec 32 := Scalar.divsi v0 c8_i32_3
  let c1_i32_9 : BitVec 32 := 1#32
  let v26 : BitVec 32 := Scalar.subi v11 c1_i32_9
  let v27 : BitVec 32 := Scalar.select v25 v26 v11
  let v28 : BitVec 32 := Scalar.muli c512_i32 v27
  let v29 : BitVec 32 := Scalar.addi c7744_i32 v28
  v29
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  ![v10.toNat, c0_i32_10.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c512_i32 : BitVec 32 := 512#32
  let v28 : BitVec 32 := Scalar.muli c512_i32 v27
  let c7744_i32 : BitVec 32 := 7744#32
  let v29 : BitVec 32 := Scalar.addi c7744_i32 v28
  let v30 : BitVec 32 := v29
  let c0_i32_10 : BitVec 32 := 0#32
  let c0_i32_11 : BitVec 32 := 0#32
  ![v30.toNat, c0_i32_10.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x4096 : Shape := ⟨2, ![8192, 4096]⟩
abbrev S4096x15936 : Shape := ⟨2, ![4096, 15936]⟩
abbrev S8192x15936 : Shape := ⟨2, ![8192, 15936]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x15936, .f32⟩
  | .hbm, ⟨2, _⟩ => ⟨S8192x4096, .f32⟩
  | .hbm, ⟨3, _⟩ => ⟨S8192x15936, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel2.lean ====
abbrev S8192x11008 : Shape := ⟨2, ![8192, 11008]⟩
abbrev S11008x4096 : Shape := ⟨2, ![11008, 4096]⟩
abbrev S8192x4096 : Shape := ⟨2, ![8192, 4096]⟩
abbrev S1024x5504 : Shape := ⟨2, ![1024, 5504]⟩
abbrev S5504x512 : Shape := ⟨2, ![5504, 512]⟩
abbrev S1024x512 : Shape := ⟨2, ![1024, 512]⟩
abbrev S256x512 : Shape := ⟨2, ![256, 512]⟩
abbrev S256x5504 : Shape := ⟨2, ![256, 5504]⟩

abbrev nBuf : Space → Nat
  | .hbm => 4
  | .vmem => 10
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S8192x4096, .f32⟩
  | .hbm, ⟨3, _⟩ => ⟨S8192x4096, .f32⟩
  | .local _ .vmem, ⟨0, _⟩ => ⟨S1024x5504, .bf16⟩
  | .local _ .vmem, ⟨1, _⟩ => ⟨S1024x5504, .bf16⟩
  | .local _ .vmem, ⟨2, _⟩ => ⟨S5504x512, .f32⟩
  | .local _ .vmem, ⟨3, _⟩ => ⟨S5504x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S5504x512, .bf16⟩
  | .local _ .vmem, ⟨9, _⟩ => ⟨S1024x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  ![v10.toNat, c0_i32_10.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let v28 : BitVec 32 := Scalar.addi c0_i32_10 v27
  let c0_i32_11 : BitVec 32 := 0#32
  let c0_i32_12 : BitVec 32 := 0#32
  ![c0_i32_11.toNat, v28.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5504x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8192x11008 : Shape := ⟨2, ![8192, 11008]⟩
abbrev S11008x4096 : Shape := ⟨2, ![11008, 4096]⟩
abbrev S8192x4096 : Shape := ⟨2, ![8192, 4096]⟩
abbrev S8192x5504 : Shape := ⟨2, ![8192, 5504]⟩
abbrev S5504x4096 : Shape := ⟨2, ![5504, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S8192x4096, .f32⟩
  | .hbm, ⟨3, _⟩ => ⟨S8192x5504, .bf16⟩
  | .hbm, ⟨4, _⟩ => ⟨S8192x5504, .f32⟩
  | .hbm, ⟨5, _⟩ => ⟨S5504x4096, .f32⟩
  | .hbm, ⟨6, _⟩ => ⟨S8192x4096, .f32⟩
  | .hbm, ⟨7, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x11008 : Shape := ⟨2, ![8192, 11008]⟩
abbrev S11008x4096 : Shape := ⟨2, ![11008, 4096]⟩
abbrev S8192x4096 : Shape := ⟨2, ![8192, 4096]⟩
abbrev S1024x5504 : Shape := ⟨2, ![1024, 5504]⟩
abbrev S5504x512 : Shape := ⟨2, ![5504, 512]⟩
abbrev S1024x512 : Shape := ⟨2, ![1024, 512]⟩
abbrev S256x512 : Shape := ⟨2, ![256, 512]⟩
abbrev S256x5504 : Shape := ⟨2, ![256, 5504]⟩

abbrev nBuf : Space → Nat
  | .hbm => 4
  | .vmem => 10
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S8192x4096, .f32⟩
  | .hbm, ⟨3, _⟩ => ⟨S8192x4096, .f32⟩
  | .local _ .vmem, ⟨0, _⟩ => ⟨S1024x5504, .bf16⟩
  | .local _ .vmem, ⟨1, _⟩ => ⟨S1024x5504, .bf16⟩
  | .local _ .vmem, ⟨2, _⟩ => ⟨S5504x512, .f32⟩
  | .local _ .vmem, ⟨3, _⟩ => ⟨S5504x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S5504x512, .bf16⟩
  | .local _ .vmem, ⟨9, _⟩ => ⟨S1024x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c1_i32_10 : BitVec 32 := 1#32
  let c0_i32_11 : BitVec 32 := 0#32
  ![v10.toNat, c1_i32_10.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let v28 : BitVec 32 := Scalar.addi c0_i32_10 v27
  let c1_i32_11 : BitVec 32 := 1#32
  let c0_i32_12 : BitVec 32 := 0#32
  ![c1_i32_11.toNat, v28.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5504x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8192x11008 : Shape := ⟨2, ![8192, 11008]⟩
abbrev S11008x4096 : Shape := ⟨2, ![11008, 4096]⟩
abbrev S8192x4096 : Shape := ⟨2, ![8192, 4096]⟩
abbrev S8192x5504 : Shape := ⟨2, ![8192, 5504]⟩
abbrev S5504x4096 : Shape := ⟨2, ![5504, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S8192x4096, .f32⟩
  | .hbm, ⟨3, _⟩ => ⟨S8192x5504, .bf16⟩
  | .hbm, ⟨4, _⟩ => ⟨S8192x5504, .f32⟩
  | .hbm, ⟨5, _⟩ => ⟨S5504x4096, .f32⟩
  | .hbm, ⟨6, _⟩ => ⟨S8192x4096, .f32⟩
  | .hbm, ⟨7, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x2048 : Shape := ⟨2, ![8192, 2048]⟩
abbrev S2048x4096 : Shape := ⟨2, ![2048, 4096]⟩
abbrev S8192x8192 : Shape := ⟨2, ![8192, 8192]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩
abbrev S256x512 : Shape := ⟨2, ![256, 512]⟩
abbrev S256x2048 : Shape := ⟨2, ![256, 2048]⟩

abbrev nBuf : Space → Nat
  | .hbm => 6
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x2048, .bf16⟩
  | .hbm, ⟨3, _⟩ => ⟨S2048x4096, .f32⟩
  | .hbm, ⟨4, _⟩ => ⟨S8192x8192, .bf16⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x2048, .bf16⟩
  | .local _ .vmem, ⟨8, _⟩ => ⟨S2048x512, .f32⟩
  | .local _ .vmem, ⟨9, _⟩ => ⟨S2048x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2048x512, .bf16⟩
  | .local _ .vmem, ⟨15, _⟩ => ⟨S2048x512, .bf16⟩
  | .local _ .vmem, ⟨16, _⟩ => ⟨S1024x512, .f32⟩
  | .local _ .vmem, ⟨17, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  ![v10.toNat, c0_i32_10.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let v28 : BitVec 32 := Scalar.addi c0_i32_10 v27
  let c0_i32_11 : BitVec 32 := 0#32
  let c0_i32_12 : BitVec 32 := 0#32
  ![c0_i32_11.toNat, v28.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let v29 : BitVec 32 := Scalar.addi c0_i32_12 v28
  let c0_i32_13 : BitVec 32 := 0#32
  ![v11.toNat, v29.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  ![v10.toNat, c0_i32_10.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let v28 : BitVec 32 := Scalar.addi c0_i32_10 v27
  let c0_i32_11 : BitVec 32 := 0#32
  let c0_i32_12 : BitVec 32 := 0#32
  ![c0_i32_11.toNat, v28.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c8_i32_12 : BitVec 32 := 8#32
  let v29 : BitVec 32 := Scalar.addi c8_i32_12 v28
  let c0_i32_13 : BitVec 32 := 0#32
  ![v11.toNat, v29.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x2048 : Shape := ⟨2, ![8192, 2048]⟩
abbrev S2048x4096 : Shape := ⟨2, ![2048, 4096]⟩
abbrev S8192x8192 : Shape := ⟨2, ![8192, 8192]⟩
abbrev S8192x4096 : Shape := ⟨2, ![8192, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x2048, .bf16⟩
  | .hbm, ⟨3, _⟩ => ⟨S2048x4096, .f32⟩
  | .hbm, ⟨4, _⟩ => ⟨S8192x8192, .bf16⟩
  | .hbm, ⟨5, _⟩ => ⟨S8192x8192, .f32⟩
  | .hbm, ⟨6, _⟩ => ⟨S8192x4096, .f32⟩
  | .hbm, ⟨7, _⟩ => ⟨S8192x2048, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x2048, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S8192x4096 : Shape := ⟨2, ![8192, 4096]⟩
abbrev S4096x22016 : Shape := ⟨2, ![4096, 22016]⟩
abbrev S3x22016 : Shape := ⟨2, ![3, 22016]⟩
abbrev S22016 : Shape := ⟨1, ![22016]⟩
abbrev S1x22016 : Shape := ⟨2, ![1, 22016]⟩
abbrev S8192x11008 : Shape := ⟨2, ![8192, 11008]⟩
abbrev S2048x4096 : Shape := ⟨2, ![2048, 4096]⟩
abbrev S4096x256 : Shape := ⟨2, ![4096, 256]⟩
abbrev S3x256 : Shape := ⟨2, ![3, 256]⟩
abbrev S1x256 : Shape := ⟨2, ![1, 256]⟩
abbrev S2048x256 : Shape := ⟨2, ![2048, 256]⟩
abbrev S2056x256 : Shape := ⟨2, ![2056, 256]⟩
abbrev S8x256 : Shape := ⟨2, ![8, 256]⟩
abbrev S256x256 : Shape := ⟨2, ![256, 256]⟩
abbrev S256x4096 : Shape := ⟨2, ![256, 4096]⟩

abbrev nBuf : Space → Nat
  | .hbm => 6
  | .vmem => 20
  | .smem => 0
  | _ => 0

abbrev bufTy : (tb : Table) → Fin (tcTables nBuf tb) → BufTy
  | .hbm, ⟨0, _⟩ => ⟨S8192x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S1x22016, .f32⟩
  | .hbm, ⟨5, _⟩ => ⟨S8192x11008, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2048x256, .bf16⟩
  | .local _ .vmem, ⟨15, _⟩ => ⟨S2048x256, .bf16⟩
  | .local _ .vmem, ⟨16, _⟩ => ⟨S4096x256, .bf16⟩
  | .local _ .vmem, ⟨17, _⟩ => ⟨S4096x256, .bf16⟩
  | .local _ .vmem, ⟨18, _⟩ => ⟨S2056x256, .f32⟩
  | .local _ .vmem, ⟨19, _⟩ => ⟨S2056x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![173], ![false]⟩

def cc0_transform_0 (i : grid0.Coords) : Fin 2 → Nat :=
  let arg0 : BitVec 32 := BitVec.ofNat 32 (i 0).val
  let c171_i32 : BitVec 32 := 171#32
  let v0 : BitVec 32 := Scalar.minsi arg0 c171_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.divsi v0 c4_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c4_i32_3 c0_i32_6
  let v18 : BitVec 32 := Scalar.extui v17
  let c0_i32_7 : BitVec 32 := 0#32
  let v19 : BitVec 1 := Scalar.cmpi .slt c4_i32_3 c0_i32_7
  let v20 : BitVec 32 := Scalar.extui v19
  let v21 : BitVec 32 := Scalar.subi v18 v20
  let v22 : BitVec 1 := Scalar.cmpi .ne v16 v21
  let v23 : BitVec 32 := Scalar.remsi v0 c4_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  ![v10.toNat, c0_i32_10.toNat]

def cc0_transform_1 (i : grid0.Coords) : Fin 2 → Nat :=
  let arg0 : BitVec 32 := BitVec.ofNat 32 (i 0).val
  let c171_i32 : BitVec 32 := 171#32
  let v0 : BitVec 32 := Scalar.minsi arg0 c171_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.divsi v0 c4_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c4_i32_3 c0_i32_6
  let v18 : BitVec 32 := Scalar.extui v17
  let c0_i32_7 : BitVec 32 := 0#32
  let v19 : BitVec 1 := Scalar.cmpi .slt c4_i32_3 c0_i32_7
  let v20 : BitVec 32 := Scalar.extui v19
  let v21 : BitVec 32 := Scalar.subi v18 v20
  let v22 : BitVec 1 := Scalar.cmpi .ne v16 v21
  let v23 : BitVec 32 := Scalar.remsi v0 c4_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  ![c0_i32_10.toNat, v27.toNat]

def cc0_transform_2 (i : grid0.Coords) : Fin 2 → Nat :=
  let arg0 : BitVec 32 := BitVec.ofNat 32 (i 0).val
  let c171_i32 : BitVec 32 := 171#32
  let v0 : BitVec 32 := Scalar.minsi arg0 c171_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.divsi v0 c4_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c4_i32_3 c0_i32_6
  let v18 : BitVec 32 := Scalar.extui v17
  let c0_i32_7 : BitVec 32 := 0#32
  let v19 : BitVec 1 := Scalar.cmpi .slt c4_i32_3 c0_i32_7
  let v20 : BitVec 32 := Scalar.extui v19
  let v21 : BitVec 32 := Scalar.subi v18 v20
  let v22 : BitVec 1 := Scalar.cmpi .ne v16 v21
  let v23 : BitVec 32 := Scalar.remsi v0 c4_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c43_i32 : BitVec 32 := 43#32
  let v28 : BitVec 32 := Scalar.addi c43_i32 v27
  let c0_i32_10 : BitVec 32 := 0#32
  let c0_i32_11 : BitVec 32 := 0#32
  ![c0_i32_10.toNat, v28.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c4_i32_5 : BitVec 32 := 4#32
  let v12 : BitVec 32 := Scalar.divsi v1 c4_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c4_i32_5 c0_i32_8
  let v19 : BitVec 32 := Scalar.extui v18
  let c0_i32_9 : BitVec 32 := 0#32
  let v20 : BitVec 1 := Scalar.cmpi .slt c4_i32_5 c0_i32_9
  let v21 : BitVec 32 := Scalar.extui v20
  let v22 : BitVec 32 := Scalar.subi v19 v21
  let v23 : BitVec 1 := Scalar.cmpi .ne v17 v22
  let v24 : BitVec 32 := Scalar.remsi v1 c4_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let c0_i32_13 : BitVec 32 := 0#32
  ![c0_i32_12.toNat, v28.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c4_i32_5 : BitVec 32 := 4#32
  let v12 : BitVec 32 := Scalar.divsi v1 c4_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c4_i32_5 c0_i32_8
  let v19 : BitVec 32 := Scalar.extui v18
  let c0_i32_9 : BitVec 32 := 0#32
  let v20 : BitVec 1 := Scalar.cmpi .slt c4_i32_5 c0_i32_9
  let v21 : BitVec 32 := Scalar.extui v20
  let v22 : BitVec 32 := Scalar.subi v19 v21
  let v23 : BitVec 1 := Scalar.cmpi .ne v17 v22
  let v24 : BitVec 32 := Scalar.remsi v1 c4_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c43_i32 : BitVec 32 := 43#32
  let v29 : BitVec 32 := Scalar.addi c43_i32 v28
  let c0_i32_12 : BitVec 32 := 0#32
  let c0_i32_13 : BitVec 32 := 0#32
  ![c0_i32_12.toNat, v29.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c4_i32_5 : BitVec 32 := 4#32
  let v12 : BitVec 32 := Scalar.divsi v1 c4_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c4_i32_5 c0_i32_8
  let v19 : BitVec 32 := Scalar.extui v18
  let c0_i32_9 : BitVec 32 := 0#32
  let v20 : BitVec 1 := Scalar.cmpi .slt c4_i32_5 c0_i32_9
  let v21 : BitVec 32 := Scalar.extui v20
  let v22 : BitVec 32 := Scalar.subi v19 v21
  let v23 : BitVec 1 := Scalar.cmpi .ne v17 v22
  let v24 : BitVec 32 := Scalar.remsi v1 c4_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let c0_i32_13 : BitVec 32 := 0#32
  ![c0_i32_12.toNat, v28.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c4_i32_5 : BitVec 32 := 4#32
  let v12 : BitVec 32 := Scalar.divsi v1 c4_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c4_i32_5 c0_i32_8
  let v19 : BitVec 32 := Scalar.extui v18
  let c0_i32_9 : BitVec 32 := 0#32
  let v20 : BitVec 1 := Scalar.cmpi .slt c4_i32_5 c0_i32_9
  let v21 : BitVec 32 := Scalar.extui v20
  let v22 : BitVec 32 := Scalar.subi v19 v21
  let v23 : BitVec 1 := Scalar.cmpi .ne v17 v22
  let v24 : BitVec 32 := Scalar.remsi v1 c4_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c43_i32 : BitVec 32 := 43#32
  let v29 : BitVec 32 := Scalar.addi c43_i32 v28
  let c0_i32_12 : BitVec 32 := 0#32
  let c0_i32_13 : BitVec 32 := 0#32
  ![c0_i32_12.toNat, v29.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c4_i32_5 : BitVec 32 := 4#32
  let v12 : BitVec 32 := Scalar.divsi v1 c4_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c4_i32_5 c0_i32_8
  let v19 : BitVec 32 := Scalar.extui v18
  let c0_i32_9 : BitVec 32 := 0#32
  let v20 : BitVec 1 := Scalar.cmpi .slt c4_i32_5 c0_i32_9
  let v21 : BitVec 32 := Scalar.extui v20
  let v22 : BitVec 32 := Scalar.subi v19 v21
  let v23 : BitVec 1 := Scalar.cmpi .ne v17 v22
  let v24 : BitVec 32 := Scalar.remsi v1 c4_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8192x4096 : Shape := ⟨2, ![8192, 4096]⟩
abbrev S4096x22016 : Shape := ⟨2, ![4096, 22016]⟩
abbrev S3x22016 : Shape := ⟨2, ![3, 22016]⟩
abbrev S22016 : Shape := ⟨1, ![22016]⟩
abbrev S8192x22016 : Shape := ⟨2, ![8192, 22016]⟩
abbrev S_ : Shape := ⟨0, ![]⟩
abbrev S8194x22016 : Shape := ⟨2, ![8194, 22016]⟩
abbrev S1x22016 : Shape := ⟨2, ![1, 22016]⟩
abbrev S8192x11008 : Shape := ⟨2, ![8192, 11008]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S8192x4096, .f32⟩
  | .hbm, ⟨5, _⟩ => ⟨S8192x22016, .f32⟩
  | .hbm, ⟨6, _⟩ => ⟨S_, .i32⟩
  | .hbm, ⟨7, _⟩ => ⟨S_, .f32⟩
  | .hbm, ⟨8, _⟩ => ⟨S8194x22016, .f32⟩
  | .hbm, ⟨9, _⟩ => ⟨S1x22016, .f32⟩
  | .hbm, ⟨10, _⟩ => ⟨S22016, .f32⟩
  | .hbm, ⟨11, _⟩ => ⟨S8192x22016, .f32⟩
  | .hbm, ⟨12, _⟩ => ⟨S1x22016, .f32⟩
  | .hbm, ⟨13, _⟩ => ⟨S8192x22016, .f32⟩
  | .hbm, ⟨14, _⟩ => ⟨S8192x22016, .f32⟩
  | .hbm, ⟨15, _⟩ => ⟨S1x22016, .f32⟩
  | .hbm, ⟨16, _⟩ => ⟨S8192x22016, .f32⟩
  | .hbm, ⟨17, _⟩ => ⟨S8192x22016, .f32⟩
  | .hbm, ⟨18, _⟩ => ⟨S1x22016, .f32⟩
  | .hbm, ⟨19, _⟩ => ⟨S22016, .f32⟩
  | .hbm, ⟨20, _⟩ => ⟨S8192x22016, .f32⟩
  | .hbm, ⟨21, _⟩ => ⟨S1x22016, .f32⟩
  | .hbm, ⟨22, _⟩ => ⟨S8192x22016, .f32⟩
  | .hbm, ⟨23, _⟩ => ⟨S8192x22016, .f32⟩
  | .hbm, ⟨24, _⟩ => ⟨S8192x22016, .f32⟩
  | .hbm, ⟨25, _⟩ => ⟨S1x22016, .f32⟩
  | .hbm, ⟨26, _⟩ => ⟨S22016, .f32⟩
  | .hbm, ⟨27, _⟩ => ⟨S8192x22016, .f32⟩
  | .hbm, ⟨28, _⟩ => ⟨S1x22016, .f32⟩
  | .hbm, ⟨29, _⟩ => ⟨S8192x22016, .f32⟩
  | .hbm, ⟨30, _⟩ => ⟨S8192x22016, .f32⟩
  | .hbm, ⟨31, _⟩ => ⟨S8192x22016, .f32⟩
  | .hbm, ⟨32, _⟩ => ⟨S8192x11008, .f32⟩
  | .hbm, ⟨33, _⟩ => ⟨S8192x11008, .f32⟩
  | .hbm, ⟨34, _⟩ => ⟨S8192x11008, .f32⟩
  | .hbm, ⟨35, _⟩ => ⟨S8192x11008, .f32⟩
  | .hbm, ⟨36, _⟩ => ⟨S_, .f32⟩
  | .hbm, ⟨37, _⟩ => ⟨S8192x11008, .f32⟩
  | .hbm, ⟨38, _⟩ => ⟨S8192x11008, .f32⟩
  | .hbm, ⟨39, _⟩ => ⟨S_, .f32⟩
  | .hbm, ⟨40, _⟩ => ⟨S8192x11008, .f32⟩
  | .hbm, ⟨41, _⟩ => ⟨S8192x11008, .f32⟩
  | .hbm, ⟨42, _⟩ => ⟨S8192x11008, .f32⟩
  | .hbm, ⟨43, _⟩ => ⟨S8192x11008, .f32⟩
  | .hbm, ⟨44, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel6.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩
abbrev S256x512 : Shape := ⟨2, ![256, 512]⟩
abbrev S256x4096 : Shape := ⟨2, ![256, 4096]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  ![v10.toNat, c0_i32_10.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let v28 : BitVec 32 := Scalar.addi c0_i32_10 v27
  let c0_i32_11 : BitVec 32 := 0#32
  let c0_i32_12 : BitVec 32 := 0#32
  ![c0_i32_11.toNat, v28.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S8192x4096 : Shape := ⟨2, ![8192, 4096]⟩
abbrev S4096x15936 : Shape := ⟨2, ![4096, 15936]⟩
abbrev S8192x128 : Shape := ⟨2, ![8192, 128]⟩
abbrev S15936x4096 : Shape := ⟨2, ![15936, 4096]⟩
abbrev S8192x7680 : Shape := ⟨2, ![8192, 7680]⟩
abbrev S1024x4096 : Shape := ⟨2, ![1024, 4096]⟩
abbrev S512x4096 : Shape := ⟨2, ![512, 4096]⟩
abbrev S1024x128 : Shape := ⟨2, ![1024, 128]⟩
abbrev S1024x512 : Shape := ⟨2, ![1024, 512]⟩
abbrev S4096x512 : Shape := ⟨2, ![4096, 512]⟩
abbrev S256x256 : Shape := ⟨2, ![256, 256]⟩
abbrev S512x256 : Shape := ⟨2, ![512, 256]⟩
abbrev S256x512 : Shape := ⟨2, ![256, 512]⟩
abbrev S256x128 : Shape := ⟨2, ![256, 128]⟩
abbrev S256x4096 : Shape := ⟨2, ![256, 4096]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x15936, .f32⟩
  | .hbm, ⟨2, _⟩ => ⟨S8192x128, .f32⟩
  | .hbm, ⟨3, _⟩ => ⟨S8192x128, .f32⟩
  | .hbm, ⟨4, _⟩ => ⟨S15936x4096, .f32⟩
  | .hbm, ⟨5, _⟩ => ⟨S8192x7680, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | .local _ .vmem, ⟨10, _⟩ => ⟨S4096x512, .bf16⟩
  | .local _ .vmem, ⟨11, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![121], ![false]⟩

def k0_cond3 (i : grid0.Coords) : BitVec 1 :=
  let arg0 : BitVec 32 := BitVec.ofNat 32 (i 0).val
  let c1_i32_3 : BitVec 32 := 1#32
  let v11 : BitVec 32 := Scalar.subi arg0 c1_i32_3
  let c0_i32_4 : BitVec 32 := 0#32
  let v12 : BitVec 32 := Scalar.maxsi v11 c0_i32_4
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c8_i32_5 : BitVec 32 := 8#32
  let c0_i32_8 : BitVec 32 := 0#32
  let v19 : BitVec 1 := Scalar.cmpi .sgt c8_i32_5 c0_i32_8
  let v20 : BitVec 32 := Scalar.extui v19
  let c0_i32_9 : BitVec 32 := 0#32
  let v21 : BitVec 1 := Scalar.cmpi .slt c8_i32_5 c0_i32_9
  let v22 : BitVec 32 := Scalar.extui v21
  let v23 : BitVec 32 := Scalar.subi v20 v22
  let v24 : BitVec 1 := Scalar.cmpi .ne v18 v23
  let v25 : BitVec 32 := Scalar.remsi v12 c8_i32_5
  let c0_i32_10 : BitVec 32 := 0#32
  let v26 : BitVec 1 := Scalar.cmpi .ne v25 c0_i32_10
  let v27 : BitVec 1 := Scalar.andi v24 v26
  let v13 : BitVec 32 := Scalar.divsi v12 c8_i32_5
  let c1_i32_11 : BitVec 32 := 1#32
  let v28 : BitVec 32 := Scalar.subi v13 c1_i32_11
  let v29 : BitVec 32 := Scalar.select v27 v28 v13
  let c8_i32_16 : BitVec 32 := 8#32
  let v36 : BitVec 1 := Scalar.cmpi .slt v29 c8_i32_16
  let v37 : BitVec 32 := Scalar.extui v36
  let c0_i32_17 : BitVec 32 := 0#32
  let v38 : BitVec 1 := Scalar.cmpi .ne v37 c0_i32_17
  v38

def k0_cond4 (i : grid0.Coords) : BitVec 1 :=
  let arg0 : BitVec 32 := BitVec.ofNat 32 (i 0).val
  let c1_i32_3 : BitVec 32 := 1#32
  let v11 : BitVec 32 := Scalar.subi arg0 c1_i32_3
  let c0_i32_4 : BitVec 32 := 0#32
  let v12 : BitVec 32 := Scalar.maxsi v11 c0_i32_4
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c8_i32_5 : BitVec 32 := 8#32
  let c0_i32_8 : BitVec 32 := 0#32
  let v19 : BitVec 1 := Scalar.cmpi .sgt c8_i32_5 c0_i32_8
  let v20 : BitVec 32 := Scalar.extui v19
  let c0_i32_9 : BitVec 32 := 0#32
  let v21 : BitVec 1 := Scalar.cmpi .slt c8_i32_5 c0_i32_9
  let v22 : BitVec 32 := Scalar.extui v21
  let v23 : BitVec 32 := Scalar.subi v20 v22
  let v24 : BitVec 1 := Scalar.cmpi .ne v18 v23
  let v25 : BitVec 32 := Scalar.remsi v12 c8_i32_5
  let c0_i32_10 : BitVec 32 := 0#32
  let v26 : BitVec 1 := Scalar.cmpi .ne v25 c0_i32_10
  let v27 : BitVec 1 := Scalar.andi v24 v26
  let v13 : BitVec 32 := Scalar.divsi v12 c8_i32_5
  let c1_i32_11 : BitVec 32 := 1#32
  let v28 : BitVec 32 := Scalar.subi v13 c1_i32_11
  let v29 : BitVec 32 := Scalar.select v27 v28 v13
  let c8_i32_18 : BitVec 32 := 8#32
  let v39 : BitVec 1 := Scalar.cmpi .sge v29 c8_i32_18
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let c119_i32 : BitVec 32 := 119#32
  let v0 : BitVec 32 := Scalar.minsi arg0 c119_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  ![v10.toNat, c0_i32_10.toNat]

def cc0_transform_1 (i : grid0.Coords) : Fin 2 → Nat :=
  let arg0 : BitVec 32 := BitVec.ofNat 32 (i 0).val
  let c119_i32 : BitVec 32 := 119#32
  let v0 : BitVec 32 := Scalar.minsi arg0 c119_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let v28 : BitVec 32 := Scalar.addi c0_i32_10 v27
  let c0_i32_11 : BitVec 32 := 0#32
  let c0_i32_12 : BitVec 32 := 0#32
  ![v28.toNat, c0_i32_11.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let c0_i32_13 : BitVec 32 := 0#32
  ![v11.toNat, c0_i32_12.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let c0_i32_13 : BitVec 32 := 0#32
  ![v11.toNat, c0_i32_12.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel8Ideal.lean ====
variable {F : FTy → Type} [FloatOps F] [Named F]
def κ : String → Option EReal := fun
  | "scale" => some (((1 / 8) * (Real.log 2)⁻¹ : ℝ) : EReal)
  | _ => none
-- ==== Reference8Ideal.lean ====
abbrev S8192x4096 : Shape := ⟨2, ![8192, 4096]⟩
abbrev S4096x15936 : Shape := ⟨2, ![4096, 15936]⟩
abbrev S8192x128 : Shape := ⟨2, ![8192, 128]⟩
abbrev S8192x15936 : Shape := ⟨2, ![8192, 15936]⟩
abbrev S8192x2048 : Shape := ⟨2, ![8192, 2048]⟩
abbrev S8192x32x64 : Shape := ⟨3, ![8192, 32, 64]⟩
abbrev S8192x32x32 : Shape := ⟨3, ![8192, 32, 32]⟩
abbrev S8192x1x128 : Shape := ⟨3, ![8192, 1, 128]⟩
abbrev S8192x16x128 : Shape := ⟨3, ![8192, 16, 128]⟩
abbrev S_ : Shape := ⟨0, ![]⟩
abbrev S8192x3584 : Shape := ⟨2, ![8192, 3584]⟩
abbrev S8192x7680 : Shape := ⟨2, ![8192, 7680]⟩

abbrev nBuf : Space → Nat
  | .hbm => 47
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x15936, .f32⟩
  | .hbm, ⟨2, _⟩ => ⟨S8192x128, .f32⟩
  | .hbm, ⟨3, _⟩ => ⟨S8192x128, .f32⟩
  | .hbm, ⟨4, _⟩ => ⟨S8192x4096, .f32⟩
  | .hbm, ⟨5, _⟩ => ⟨S8192x15936, .f32⟩
  | .hbm, ⟨6, _⟩ => ⟨S8192x2048, .f32⟩
  | .hbm, ⟨7, _⟩ => ⟨S8192x32x64, .f32⟩
  | .hbm, ⟨8, _⟩ => ⟨S8192x32x32, .f32⟩
  | .hbm, ⟨9, _⟩ => ⟨S8192x32x32, .f32⟩
  | .hbm, ⟨10, _⟩ => ⟨S8192x32x64, .f32⟩
  | .hbm, ⟨11, _⟩ => ⟨S8192x1x128, .f32⟩
  | .hbm, ⟨12, _⟩ => ⟨S8192x1x128, .f32⟩
  | .hbm, ⟨13, _⟩ => ⟨S8192x16x128, .f32⟩
  | .hbm, ⟨14, _⟩ => ⟨S8192x16x128, .f32⟩
  | .hbm, ⟨15, _⟩ => ⟨S8192x16x128, .f32⟩
  | .hbm, ⟨16, _⟩ => ⟨S8192x16x128, .f32⟩
  | .hbm, ⟨17, _⟩ => ⟨S8192x16x128, .f32⟩
  | .hbm, ⟨18, _⟩ => ⟨S8192x16x128, .f32⟩
  | .hbm, ⟨19, _⟩ => ⟨S8192x16x128, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x32x64, .f32⟩
  | .hbm, ⟨31, _⟩ => ⟨S8192x32x32, .f32⟩
  | .hbm, ⟨32, _⟩ => ⟨S8192x32x32, .f32⟩
  | .hbm, ⟨33, _⟩ => ⟨S8192x32x64, .f32⟩
  | .hbm, ⟨34, _⟩ => ⟨S8192x1x128, .f32⟩
  | .hbm, ⟨35, _⟩ => ⟨S8192x1x128, .f32⟩
  | .hbm, ⟨36, _⟩ => ⟨S8192x16x128, .f32⟩
  | .hbm, ⟨37, _⟩ => ⟨S8192x16x128, .f32⟩
  | .hbm, ⟨38, _⟩ => ⟨S8192x16x128, .f32⟩
  | .hbm, ⟨39, _⟩ => ⟨S8192x16x128, .f32⟩
  | .hbm, ⟨40, _⟩ => ⟨S8192x16x128, .f32⟩
  | .hbm, ⟨41, _⟩ => ⟨S8192x16x128, .f32⟩
  | .hbm, ⟨42, _⟩ => ⟨S8192x16x128, .f32⟩
  | .hbm, ⟨43, _⟩ => ⟨S8192x2048, .f32⟩
  | .hbm, ⟨44, _⟩ => ⟨S8192x3584, .f32⟩
  | .hbm, ⟨45, _⟩ => ⟨S8192x7680, .f32⟩
  | .hbm, ⟨46, _⟩ => ⟨S8192x7680, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩

abbrev nD : Nat := 1
abbrev τ : Topo := Topo.v7x

variable {F : FTy → Type} [FloatOps F]
-- ==== Kernel9.lean ====
abbrev S8192x4096 : Shape := ⟨2, ![8192, 4096]⟩
abbrev S4096x15936 : Shape := ⟨2, ![4096, 15936]⟩
abbrev S8192x128 : Shape := ⟨2, ![8192, 128]⟩
abbrev S15936x4096 : Shape := ⟨2, ![15936, 4096]⟩
abbrev S1024x4096 : Shape := ⟨2, ![1024, 4096]⟩
abbrev S128x4096 : Shape := ⟨2, ![128, 4096]⟩
abbrev S1024x128 : Shape := ⟨2, ![1024, 128]⟩
abbrev S4096x128 : Shape := ⟨2, ![4096, 128]⟩
abbrev S256x256 : Shape := ⟨2, ![256, 256]⟩
abbrev S128x256 : Shape := ⟨2, ![128, 256]⟩
abbrev S256x128 : Shape := ⟨2, ![256, 128]⟩
abbrev S256x4096 : Shape := ⟨2, ![256, 4096]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x15936, .f32⟩
  | .hbm, ⟨2, _⟩ => ⟨S8192x128, .f32⟩
  | .hbm, ⟨3, _⟩ => ⟨S8192x128, .f32⟩
  | .hbm, ⟨4, _⟩ => ⟨S15936x4096, .f32⟩
  | .hbm, ⟨5, _⟩ => ⟨S8192x128, .bf16⟩
  | .local _ .vmem, ⟨0, _⟩ => ⟨S1024x4096, .bf16⟩
  | .local _ .vmem, ⟨1, _⟩ => ⟨S1024x4096, .bf16⟩
  | .local _ .vmem, ⟨2, _⟩ => ⟨S128x4096, .f32⟩
  | .local _ .vmem, ⟨3, _⟩ => ⟨S128x4096, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S4096x128, .bf16⟩
  | .local _ .vmem, ⟨11, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  ![v10.toNat, c0_i32_10.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.divsi v0 c8_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi v0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c60_i32 : BitVec 32 := 60#32
  let v28 : BitVec 32 := Scalar.addi c60_i32 v27
  let c0_i32_10 : BitVec 32 := 0#32
  let c0_i32_11 : BitVec 32 := 0#32
  ![v28.toNat, c0_i32_10.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let c0_i32_13 : BitVec 32 := 0#32
  ![v11.toNat, c0_i32_12.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let c0_i32_13 : BitVec 32 := 0#32
  ![v11.toNat, c0_i32_12.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x4096 : Shape := ⟨2, ![8192, 4096]⟩
abbrev S4096x15936 : Shape := ⟨2, ![4096, 15936]⟩
abbrev S8192x128 : Shape := ⟨2, ![8192, 128]⟩
abbrev S8192x15936 : Shape := ⟨2, ![8192, 15936]⟩
abbrev S8192x32 : Shape := ⟨2, ![8192, 32]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x15936, .f32⟩
  | .hbm, ⟨2, _⟩ => ⟨S8192x128, .f32⟩
  | .hbm, ⟨3, _⟩ => ⟨S8192x128, .f32⟩
  | .hbm, ⟨4, _⟩ => ⟨S8192x4096, .f32⟩
  | .hbm, ⟨5, _⟩ => ⟨S8192x15936, .f32⟩
  | .hbm, ⟨6, _⟩ => ⟨S8192x32, .f32⟩
  | .hbm, ⟨7, _⟩ => ⟨S8192x32, .f32⟩
  | .hbm, ⟨8, _⟩ => ⟨S8192x32, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x128, .f32⟩
  | .hbm, ⟨19, _⟩ => ⟨S8192x128, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel10.lean ====
abbrev S8192x7680 : Shape := ⟨2, ![8192, 7680]⟩
abbrev S1024 : Shape := ⟨1, ![1024]⟩
abbrev S1024x3072 : Shape := ⟨2, ![1024, 3072]⟩
abbrev S8192x128 : Shape := ⟨2, ![8192, 128]⟩
abbrev S1024x16x192 : Shape := ⟨3, ![1024, 16, 192]⟩
abbrev S1024x16x128 : Shape := ⟨3, ![1024, 16, 128]⟩
abbrev S1024x2048 : Shape := ⟨2, ![1024, 2048]⟩
abbrev S1024x16x64 : Shape := ⟨3, ![1024, 16, 64]⟩
abbrev S1024x1024 : Shape := ⟨2, ![1024, 1024]⟩
abbrev S1x1024 : Shape := ⟨2, ![1, 1024]⟩
abbrev S8192x3072 : Shape := ⟨2, ![8192, 3072]⟩
abbrev S2048x1024 : Shape := ⟨2, ![2048, 1024]⟩
abbrev S2048x128 : Shape := ⟨2, ![2048, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x7680, .bf16⟩
  | .hbm, ⟨1, _⟩ => ⟨S1024, .f32⟩
  | .hbm, ⟨2, _⟩ => ⟨S1024x3072, .f32⟩
  | .hbm, ⟨3, _⟩ => ⟨S8192x128, .f32⟩
  | .hbm, ⟨4, _⟩ => ⟨S8192x128, .f32⟩
  | .hbm, ⟨5, _⟩ => ⟨S1024x16x192, .f32⟩
  | .hbm, ⟨6, _⟩ => ⟨S1024x16x128, .f32⟩
  | .hbm, ⟨7, _⟩ => ⟨S1024x2048, .f32⟩
  | .hbm, ⟨8, _⟩ => ⟨S1024x16x64, .f32⟩
  | .hbm, ⟨9, _⟩ => ⟨S1024x1024, .f32⟩
  | .hbm, ⟨10, _⟩ => ⟨S1024x3072, .f32⟩
  | .hbm, ⟨11, _⟩ => ⟨S1x1024, .f32⟩
  | .hbm, ⟨12, _⟩ => ⟨S8192x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x1024, .bf16⟩
  | .local _ .vmem, ⟨10, _⟩ => ⟨S2048x1024, .bf16⟩
  | .local _ .vmem, ⟨11, _⟩ => ⟨S1024x1024, .bf16⟩
  | .local _ .vmem, ⟨12, _⟩ => ⟨S2048x1024, .f32⟩
  | _, _ => ⟨S8192x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![13], ![false]⟩

def k0_cond3 (i : grid0.Coords) : BitVec 1 :=
  let arg0 : BitVec 32 := BitVec.ofNat 32 (i 0).val
  let c1_i32_3 : BitVec 32 := 1#32
  let v11 : BitVec 32 := Scalar.subi arg0 c1_i32_3
  let c0_i32_4 : BitVec 32 := 0#32
  let v12 : BitVec 32 := Scalar.maxsi v11 c0_i32_4
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c4_i32_5 : BitVec 32 := 4#32
  let c0_i32_8 : BitVec 32 := 0#32
  let v19 : BitVec 1 := Scalar.cmpi .sgt c4_i32_5 c0_i32_8
  let v20 : BitVec 32 := Scalar.extui v19
  let c0_i32_9 : BitVec 32 := 0#32
  let v21 : BitVec 1 := Scalar.cmpi .slt c4_i32_5 c0_i32_9
  let v22 : BitVec 32 := Scalar.extui v21
  let v23 : BitVec 32 := Scalar.subi v20 v22
  let v24 : BitVec 1 := Scalar.cmpi .ne v18 v23
  let v25 : BitVec 32 := Scalar.remsi v12 c4_i32_5
  let c0_i32_10 : BitVec 32 := 0#32
  let v26 : BitVec 1 := Scalar.cmpi .ne v25 c0_i32_10
  let v27 : BitVec 1 := Scalar.andi v24 v26
  let v13 : BitVec 32 := Scalar.divsi v12 c4_i32_5
  let c1_i32_11 : BitVec 32 := 1#32
  let v28 : BitVec 32 := Scalar.subi v13 c1_i32_11
  let v29 : BitVec 32 := Scalar.select v27 v28 v13
  let c2_i32 : BitVec 32 := 2#32
  let v36 : BitVec 1 := Scalar.cmpi .sge v29 c2_i32
  let v37 : BitVec 32 := Scalar.extui v36
  let c0_i32_16 : BitVec 32 := 0#32
  let v38 : BitVec 1 := Scalar.cmpi .ne v37 c0_i32_16
  v38

def k0_cond4 (i : grid0.Coords) : BitVec 1 :=
  let arg0 : BitVec 32 := BitVec.ofNat 32 (i 0).val
  let c1_i32_3 : BitVec 32 := 1#32
  let v11 : BitVec 32 := Scalar.subi arg0 c1_i32_3
  let c0_i32_4 : BitVec 32 := 0#32
  let v12 : BitVec 32 := Scalar.maxsi v11 c0_i32_4
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c4_i32_5 : BitVec 32 := 4#32
  let c0_i32_8 : BitVec 32 := 0#32
  let v19 : BitVec 1 := Scalar.cmpi .sgt c4_i32_5 c0_i32_8
  let v20 : BitVec 32 := Scalar.extui v19
  let c0_i32_9 : BitVec 32 := 0#32
  let v21 : BitVec 1 := Scalar.cmpi .slt c4_i32_5 c0_i32_9
  let v22 : BitVec 32 := Scalar.extui v21
  let v23 : BitVec 32 := Scalar.subi v20 v22
  let v24 : BitVec 1 := Scalar.cmpi .ne v18 v23
  let v25 : BitVec 32 := Scalar.remsi v12 c4_i32_5
  let c0_i32_10 : BitVec 32 := 0#32
  let v26 : BitVec 1 := Scalar.cmpi .ne v25 c0_i32_10
  let v27 : BitVec 1 := Scalar.andi v24 v26
  let v13 : BitVec 32 := Scalar.divsi v12 c4_i32_5
  let c1_i32_11 : BitVec 32 := 1#32
  let v28 : BitVec 32 := Scalar.subi v13 c1_i32_11
  let v29 : BitVec 32 := Scalar.select v27 v28 v13
  let c2_i32_17 : BitVec 32 := 2#32
  let v39 : BitVec 1 := Scalar.cmpi .slt v29 c2_i32_17
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let c11_i32 : BitVec 32 := 11#32
  let v0 : BitVec 32 := Scalar.minsi arg0 c11_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.divsi v0 c4_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c4_i32_3 c0_i32_6
  let v18 : BitVec 32 := Scalar.extui v17
  let c0_i32_7 : BitVec 32 := 0#32
  let v19 : BitVec 1 := Scalar.cmpi .slt c4_i32_3 c0_i32_7
  let v20 : BitVec 32 := Scalar.extui v19
  let v21 : BitVec 32 := Scalar.subi v18 v20
  let v22 : BitVec 1 := Scalar.cmpi .ne v16 v21
  let v23 : BitVec 32 := Scalar.remsi v0 c4_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c6_i32 : BitVec 32 := 6#32
  let c0_i32_10 : BitVec 32 := 0#32
  ![v10.toNat, c6_i32.toNat]

def cc0_transform_1 (i : grid0.Coords) : Fin 2 → Nat :=
  let arg0 : BitVec 32 := BitVec.ofNat 32 (i 0).val
  let c11_i32 : BitVec 32 := 11#32
  let v0 : BitVec 32 := Scalar.minsi arg0 c11_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.divsi v0 c4_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c4_i32_3 c0_i32_6
  let v18 : BitVec 32 := Scalar.extui v17
  let c0_i32_7 : BitVec 32 := 0#32
  let v19 : BitVec 1 := Scalar.cmpi .slt c4_i32_3 c0_i32_7
  let v20 : BitVec 32 := Scalar.extui v19
  let v21 : BitVec 32 := Scalar.subi v18 v20
  let v22 : BitVec 1 := Scalar.cmpi .ne v16 v21
  let v23 : BitVec 32 := Scalar.remsi v0 c4_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let v28 : BitVec 32 := Scalar.addi c0_i32_10 v27
  let c0_i32_11 : BitVec 32 := 0#32
  let c0_i32_12 : BitVec 32 := 0#32
  ![c0_i32_11.toNat, v28.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c4_i32_5 : BitVec 32 := 4#32
  let v12 : BitVec 32 := Scalar.divsi v1 c4_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c4_i32_5 c0_i32_8
  let v19 : BitVec 32 := Scalar.extui v18
  let c0_i32_9 : BitVec 32 := 0#32
  let v20 : BitVec 1 := Scalar.cmpi .slt c4_i32_5 c0_i32_9
  let v21 : BitVec 32 := Scalar.extui v20
  let v22 : BitVec 32 := Scalar.subi v19 v21
  let v23 : BitVec 1 := Scalar.cmpi .ne v17 v22
  let v24 : BitVec 32 := Scalar.remsi v1 c4_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let c0_i32_13 : BitVec 32 := 0#32
  ![v11.toNat, c0_i32_12.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c4_i32_5 : BitVec 32 := 4#32
  let v12 : BitVec 32 := Scalar.divsi v1 c4_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c4_i32_5 c0_i32_8
  let v19 : BitVec 32 := Scalar.extui v18
  let c0_i32_9 : BitVec 32 := 0#32
  let v20 : BitVec 1 := Scalar.cmpi .slt c4_i32_5 c0_i32_9
  let v21 : BitVec 32 := Scalar.extui v20
  let v22 : BitVec 32 := Scalar.subi v19 v21
  let v23 : BitVec 1 := Scalar.cmpi .ne v17 v22
  let v24 : BitVec 32 := Scalar.remsi v1 c4_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let c0_i32_13 : BitVec 32 := 0#32
  ![v11.toNat, c0_i32_12.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c4_i32_5 : BitVec 32 := 4#32
  let v12 : BitVec 32 := Scalar.divsi v1 c4_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c4_i32_5 c0_i32_8
  let v19 : BitVec 32 := Scalar.extui v18
  let c0_i32_9 : BitVec 32 := 0#32
  let v20 : BitVec 1 := Scalar.cmpi .slt c4_i32_5 c0_i32_9
  let v21 : BitVec 32 := Scalar.extui v20
  let v22 : BitVec 32 := Scalar.subi v19 v21
  let v23 : BitVec 1 := Scalar.cmpi .ne v17 v22
  let v24 : BitVec 32 := Scalar.remsi v1 c4_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel10Ideal.lean ====
variable {F : FTy → Type} [FloatOps F] [Named F]
def κ : String → Option EReal := fun
  | "scale" => some (((Real.sqrt 192)⁻¹ * (Real.log 2)⁻¹ : ℝ) : EReal)
  | _ => none
-- ==== Reference10Ideal.lean ====
abbrev S8192x7680 : Shape := ⟨2, ![8192, 7680]⟩
abbrev S1024 : Shape := ⟨1, ![1024]⟩
abbrev S1024x3072 : Shape := ⟨2, ![1024, 3072]⟩
abbrev S8192x128 : Shape := ⟨2, ![8192, 128]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S8192x16x192 : Shape := ⟨3, ![8192, 16, 192]⟩
abbrev S8192x16x128 : Shape := ⟨3, ![8192, 16, 128]⟩
abbrev S8192x2048 : Shape := ⟨2, ![8192, 2048]⟩
abbrev S8192x16x64 : Shape := ⟨3, ![8192, 16, 64]⟩
abbrev S8192x16x32 : Shape := ⟨3, ![8192, 16, 32]⟩
abbrev S8192x1x128 : Shape := ⟨3, ![8192, 1, 128]⟩
abbrev S8192x8x128 : Shape := ⟨3, ![8192, 8, 128]⟩

abbrev nBuf : Space → Nat
  | .hbm => 55
  | .vmem => 0
  | .smem => 0
  | _ => 0

abbrev bufTy : (tb : Table) → Fin (tcTables nBuf tb) → BufTy
  | .hbm, ⟨0, _⟩ => ⟨S8192x7680, .bf16⟩
  | .hbm, ⟨1, _⟩ => ⟨S1024, .f32⟩
  | .hbm, ⟨2, _⟩ => ⟨S1024x3072, .f32⟩
  | .hbm, ⟨3, _⟩ => ⟨S8192x128, .f32⟩
  | .hbm, ⟨4, _⟩ => ⟨S8192x128, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x3072, .f32⟩
  | .hbm, ⟨24, _⟩ => ⟨S8192x16x192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x16x192, .f32⟩
  | .hbm, ⟨29, _⟩ => ⟨S8192x16x192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192x16x192, .f32⟩
  | .hbm, ⟨34, _⟩ => ⟨S8192x16x192, .f32⟩
  | .hbm, ⟨35, _⟩ => ⟨S8192x16x128, .f32⟩
  | .hbm, ⟨36, _⟩ => ⟨S8192x2048, .f32⟩
  | .hbm, ⟨37, _⟩ => ⟨S8192x16x64, .f32⟩
  | .hbm, ⟨38, _⟩ => ⟨S8192x1024, .f32⟩
  | .hbm, ⟨39, _⟩ => ⟨S8192x16x64, .f32⟩
  | .hbm, ⟨40, _⟩ => ⟨S8192x16x32, .f32⟩
  | .hbm, ⟨41, _⟩ => ⟨S8192x16x32, .f32⟩
  | .hbm, ⟨42, _⟩ => ⟨S8192x16x64, .f32⟩
  | .hbm, ⟨43, _⟩ => ⟨S8192x1x128, .f32⟩
  | .hbm, ⟨44, _⟩ => ⟨S8192x1x128, .f32⟩
  | .hbm, ⟨45, _⟩ => ⟨S8192x8x128, .f32⟩
  | .hbm, ⟨46, _⟩ => ⟨S8192x8x128, .f32⟩
  | .hbm, ⟨47, _⟩ => ⟨S8192x8x128, .f32⟩
  | .hbm, ⟨48, _⟩ => ⟨S8192x8x128, .f32⟩
  | .hbm, ⟨49, _⟩ => ⟨S8192x8x128, .f32⟩
  | .hbm, ⟨50, _⟩ => ⟨S8192x8x128, .f32⟩
  | .hbm, ⟨51, _⟩ => ⟨S8192x8x128, .f32⟩
  | .hbm, ⟨52, _⟩ => ⟨S8192x1024, .f32⟩
  | .hbm, ⟨53, _⟩ => ⟨S8192x3072, .f32⟩
  | .hbm, ⟨54, _⟩ => ⟨S8192x3072, .bf16⟩
  | _, _ => ⟨S8192x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Kernel11.lean ====
abbrev S8192x7680 : Shape := ⟨2, ![8192, 7680]⟩
abbrev S512 : Shape := ⟨1, ![512]⟩
abbrev S512x4096 : Shape := ⟨2, ![512, 4096]⟩
abbrev S1x512 : Shape := ⟨2, ![1, 512]⟩
abbrev S8192x4096 : Shape := ⟨2, ![8192, 4096]⟩
abbrev S2048x512 : Shape := ⟨2, ![2048, 512]⟩
abbrev S512x1024 : Shape := ⟨2, ![512, 1024]⟩
abbrev S2048x1024 : Shape := ⟨2, ![2048, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x7680, .bf16⟩
  | .hbm, ⟨1, _⟩ => ⟨S512, .f32⟩
  | .hbm, ⟨2, _⟩ => ⟨S512x4096, .f32⟩
  | .hbm, ⟨3, _⟩ => ⟨S1x512, .f32⟩
  | .hbm, ⟨4, _⟩ => ⟨S8192x4096, .bf16⟩
  | .local _ .vmem, ⟨0, _⟩ => ⟨S2048x512, .bf16⟩
  | .local _ .vmem, ⟨1, _⟩ => ⟨S2048x512, .bf16⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S2048x1024, .bf16⟩
  | .local _ .vmem, ⟨6, _⟩ => ⟨S2048x1024, .bf16⟩
  | .local _ .vmem, ⟨7, _⟩ => ⟨S512x1024, .bf16⟩
  | .local _ .vmem, ⟨8, _⟩ => ⟨S2048x1024, .f32⟩
  | _, _ => ⟨S8192x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.divsi v0 c4_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c4_i32_3 c0_i32_6
  let v18 : BitVec 32 := Scalar.extui v17
  let c0_i32_7 : BitVec 32 := 0#32
  let v19 : BitVec 1 := Scalar.cmpi .slt c4_i32_3 c0_i32_7
  let v20 : BitVec 32 := Scalar.extui v19
  let v21 : BitVec 32 := Scalar.subi v18 v20
  let v22 : BitVec 1 := Scalar.cmpi .ne v16 v21
  let v23 : BitVec 32 := Scalar.remsi v0 c4_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c14_i32 : BitVec 32 := 14#32
  let c0_i32_10 : BitVec 32 := 0#32
  ![v10.toNat, c14_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.divsi v0 c4_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c4_i32_3 c0_i32_6
  let v18 : BitVec 32 := Scalar.extui v17
  let c0_i32_7 : BitVec 32 := 0#32
  let v19 : BitVec 1 := Scalar.cmpi .slt c4_i32_3 c0_i32_7
  let v20 : BitVec 32 := Scalar.extui v19
  let v21 : BitVec 32 := Scalar.subi v18 v20
  let v22 : BitVec 1 := Scalar.cmpi .ne v16 v21
  let v23 : BitVec 32 := Scalar.remsi v0 c4_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let v28 : BitVec 32 := Scalar.addi c0_i32_10 v27
  let c0_i32_11 : BitVec 32 := 0#32
  let c0_i32_12 : BitVec 32 := 0#32
  ![c0_i32_11.toNat, v28.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c4_i32_5 : BitVec 32 := 4#32
  let v12 : BitVec 32 := Scalar.divsi v1 c4_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c4_i32_5 c0_i32_8
  let v19 : BitVec 32 := Scalar.extui v18
  let c0_i32_9 : BitVec 32 := 0#32
  let v20 : BitVec 1 := Scalar.cmpi .slt c4_i32_5 c0_i32_9
  let v21 : BitVec 32 := Scalar.extui v20
  let v22 : BitVec 32 := Scalar.subi v19 v21
  let v23 : BitVec 1 := Scalar.cmpi .ne v17 v22
  let v24 : BitVec 32 := Scalar.remsi v1 c4_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S8192x7680 : Shape := ⟨2, ![8192, 7680]⟩
abbrev S512 : Shape := ⟨1, ![512]⟩
abbrev S512x4096 : Shape := ⟨2, ![512, 4096]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x4096 : Shape := ⟨2, ![8192, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x7680, .bf16⟩
  | .hbm, ⟨1, _⟩ => ⟨S512, .f32⟩
  | .hbm, ⟨2, _⟩ => ⟨S512x4096, .f32⟩
  | .hbm, ⟨3, _⟩ => ⟨S8192x512, .bf16⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x4096, .f32⟩
  | .hbm, ⟨22, _⟩ => ⟨S8192x4096, .bf16⟩
  | _, _ => ⟨S8192x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel12.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Tile.lean ====
/-
  Facts about stored tiles that hold for every kernel: a buffer covered by later stores forgets the earlier ones, a whole
  buffer read back is what its stores left, and the identity matrix built from two coordinate grids. With the logistic
  function.
-/
module

public import Idealize.ShloMosaic.Lib.Pipeline.ValueKit
public import Idealize.ShloMosaic.Lib.Pipeline.ReadBack
public import Idealize.ShloMosaic.Lib.Pointwise

@[expose] public section

set_option maxRecDepth 16384

noncomputable section

namespace Cert.Tile

open Idealize.ShloMosaic Idealize.ShloMosaic.TcCoe Idealize.SL.Sem

/-- Stores that cover an index decide its value, whatever was stored before them. -/
theorem canon_append_of_cover {S : Shape} {e : EltTy} (L L' : List (View.Piece (Elt Ideal) S e)) (y : S.Idx) (v : Elt Ideal e)
    (hc : ∃ p ∈ L, y ∈ p.1.set) (h : View.canon L y = v) : View.canon (L ++ L') y = v := by
  induction L with
  | nil => obtain ⟨p, hp, _⟩ := hc; simp at hp
  | cons p L ih =>
    rw [List.cons_append]
    by_cases hm : y ∈ p.1.set
    · obtain ⟨x, rfl⟩ := p.1.exists_idx_of_mem hm
      rw [show p.1.idx x = p.1.emb x from rfl, View.canon_cons_emb] at h ⊢
      exact h
    · rw [View.canon_cons_of_not_mem _ _ hm] at h ⊢
      refine ih ?_ h
      obtain ⟨q, hq, hyq⟩ := hc
      rcases List.mem_cons.mp hq with rfl | hq'
      · exact absurd hyq hm
      · exact ⟨q, hq', hyq⟩

/-- A whole buffer loaded back is what its stores left. -/
theorem readCov_whole {sig : RefSig} {κ : Kind} {sp : Space} {S : Shape} {e : EltTy} (v : View sig κ sp S e)
    (L : List (View.Piece (Elt Ideal) S e)) {off : Fin S.rank → ℕ} (inb : ∀ a, off a + S.size a ≤ S.size a) (h : ∀ a, off a = 0) :
    v.readCov L (Rect.unit off (no_index S.size) inb).toLoadRect = View.canon L := by
  rw [View.readCov_eq_canon']
  exact View.ld_unit_lit (Val := Elt Ideal) inb (View.canon L) h

/-- Small coordinates are told apart as 32-bit numbers. -/
theorem ofNat_eq_iff {n : ℕ} (hn : n ≤ 2 ^ 32) (r c : Fin n) : BitVec.ofNat 32 r.val = BitVec.ofNat 32 c.val ↔ r = c := by
  constructor
  · intro h
    have := congrArg BitVec.toNat h
    simp only [BitVec.toNat_ofNat] at this
    exact Fin.ext (by omega)
  · rintro rfl; rfl

/-- The identity matrix as it is built: one where the two coordinates, as 32-bit numbers, agree. -/
theorem select_diag {n : ℕ} (hn : n ≤ 2 ^ 32) (r c : Fin n) (a b : EReal) :
    Scalar.select (IntOp.cmpi CmpIPredicate.eq (BitVec.ofNat 32 r.val) (BitVec.ofNat 32 c.val)) a b = if r = c then a else b := by
  by_cases h : r = c
  · simp [Scalar.select, IntOp.cmpi, h]
  · have h' : (BitVec.ofNat 32 r.val == BitVec.ofNat 32 c.val) = false := by
      rw [beq_eq_false_iff_ne]; exact fun he => h ((ofNat_eq_iff hn r c).mp he)
    simp [Scalar.select, IntOp.cmpi, h, h']

/-- The logistic function, as the kernel writes it. -/
def logi (x : EReal) : EReal := Ideal.div 1 (1 + Ideal.exp (0 - x))

end Cert.Tile

end
-- ==== Proof.GatesPoint.lean ====
/-
  The gate projection, one grid point at a time: what a point leaves in the transposed weight tile, in the raw product
  and in the result block, over the blocks it reads and what the point before left.
-/
module

public import proofs.«01_k».proof.Proof.Gen.KernelIdeal.Value
public import proofs.«01_k».proof.Proof.Tile

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Tile

variable (m : (ℓ : Loc nD τ sig) → Buf (Elt Ideal) ℓ)

/-- The identity matrix the kernel transposes with. -/
theorem eye_apply (r c : Fin 256) : k0_pay4 (F := Ideal) (ix2 r c) = if r = c then (1 : EReal) else 0 := by
  unfold k0_pay4
  pointwise
  exact select_diag (by decide) r c 1 0

/-- The product of the identity with the rows of a block of the weight is that block transposed. -/
theorem tr_apply (v : Vec Ideal S512x256 .f32) (r : Fin 256) (c : Fin 512) : k0_pay5 v (ix2 r c) = v (ix2 c r) := by
  unfold k0_pay5
  pointwise
  simp only [eye_apply, ite_mul, one_mul, zero_mul, Finset.sum_ite_eq, Finset.mem_univ, if_true]

/-- One row block of the product. -/
theorem dot_apply (a : Vec Ideal S256x4096 .bf16) (b : Vec Ideal S4096x512 .bf16) (r : Fin 256) (c : Fin 512) :
    k0_pay3 a b (ix2 r c) = ∑ k : Fin 4096, a (ix2 r k) * b (ix2 k c) := by
  unfold k0_pay3
  pointwise

/-- One row block of the epilogue: the logistic function, element by element. -/
theorem sig_apply (a : Vec Ideal S256x512 .f32) (y : S256x512.Idx) :
    k0_pay2 a y = Ideal.div 1 (1 + Ideal.exp (0 - a y)) := by
  unfold k0_pay2
  pointwise

/-- A stored tile of the transposed weight, at an index of the whole buffer. -/
theorem weight_tile (B : Vec Ideal S512x4096 .f32) {o : ℕ} {inb} (x : S256x512.Idx) (r : Fin 4096) (q : Fin 512)
    (hr : (r : ℕ) = o + x 0) (hq : (q : ℕ) = x 1) :
    k0_pay5 (View.ld (Val := Elt Ideal) B (Rect.unit ![0, o] ![512, 256] inb)) x = B (ix2 q r) := by
  rw [eq_ix2 x]
  refine (tr_apply _ (x 0) (x 1)).trans (View.ld_unit_apply_of _ _ _ _ _ _ ?_)
  rw [Fin.forall_fin_two]
  exact ⟨hq.trans (Nat.zero_add _).symm, hr⟩

/-- A stored row block of the product, at an index of the whole buffer. -/
theorem row_tile (A : Vec Ideal S1024x4096 .bf16) (U : Vec Ideal S4096x512 .bf16) {o : ℕ} {inb} (x : S256x512.Idx)
    (r : Fin 1024) (q : Fin 512) (hr : (r : ℕ) = o + x 0) (hq : (q : ℕ) = x 1) :
    k0_pay3 (View.ld (Val := Elt Ideal) A (Rect.unit ![o, 0] ![256, 4096] inb)) U x
      = ∑ k : Fin 4096, A (ix2 r k) * U (ix2 k q) := by
  rw [eq_ix2 x]
  refine (dot_apply _ _ (x 0) (x 1)).trans (Finset.sum_congr rfl fun k _ => ?_)
  refine congrArg₂ (· * ·) (View.ld_unit_apply_of _ _ _ _ _ _ ?_) (congrArg U ?_)
  · rw [Fin.forall_fin_two]
    exact ⟨hr, (Nat.zero_add _).symm⟩
  · exact congrArg (ix2 k) (Fin.ext hq.symm)

/-- The block of the activations a point reads. -/
abbrev xblk (c : Dev nD) (t : Fin cfg0.N) : Vec Ideal S1024x4096 .bf16 := iblk m c 0 t
/-- The block of the weight a point reads (placed by element). -/
abbrev wblk (c : Dev nD) (t : Fin cfg0.N) : Vec Ideal S512x4096 .f32 := iblk m c 1 t
/-- What a point leaves in the result block. -/
abbrev outAt (c : Dev nD) (t : Fin cfg0.N) : Vec Ideal S1024x512 .bf16 := (outsAt0 m c t.val t.isLt).1
/-- What a point leaves in the transposed weight tile. -/
abbrev wbfAt (c : Dev nD) (t : Fin cfg0.N) : Vec Ideal S4096x512 .bf16 := (outsAt0 m c t.val t.isLt).2.1
/-- What a point leaves in the raw product. -/
abbrev accAt (c : Dev nD) (t : Fin cfg0.N) : Vec Ideal S1024x512 .f32 := (outsAt0 m c t.val t.isLt).2.2

/-- Where a new column tile begins, the weight tile is the transposed block. -/
theorem s0_C (c : Dev nD) (t : Fin cfg0.N) (h0 : ¬t.val % 129 = 0) (h1 : t.val % 8 = 0) (h2 : t.val ≤ 120) (r : Fin 4096) (q : Fin 512) :
    wbfAt m c t (ix2 r q) = wblk m c t (ix2 q r) := by
  unfold wbfAt
  have ht : t.val < 129 := lt_of_lt_of_eq t.isLt N_0
  rw [outsAt0_C m c t h0 (by rw [Nat.mod_eq_of_lt ht]; omega)]
  dsimp only
  frame_out
  canon_tiles x h <;> exact weight_tile (iblk m c 1 t) x r q (by have : (r : ℕ) = _ := h0; omega) h1

/-- The raw product at the first point (the earlier zeros are overwritten). -/
theorem s1_A (c : Dev nD) (t : Fin cfg0.N) (h0 : t.val % 129 = 0) (r : Fin 1024) (q : Fin 512) :
    accAt m c t (ix2 r q) = ∑ k : Fin 4096, xblk m c t (ix2 r k) * wbfAt m c t (ix2 k q) := by
  unfold accAt wbfAt
  rw [outsAt0_A m c t h0 (.inl h0)]
  dsimp only
  frame_out
  simp (disch := decide) only [readCov_whole]
  generalize View.canon (Val := Elt Ideal) (s := S4096x512) (e := .bf16) _ = U
  refine canon_append_of_cover [_, _, _, _] [_] _ _ ?_ ?_
  · exact View.cover_of_tiledL _ ![256, 512] (by sl_kernel_rfl) _
  canon_tiles x h <;> exact row_tile (iblk m c 0 t) U x r q (by have : (r : ℕ) = _ := h0; omega) h1

/-- A new column tile begins at the points 0, 8, …, 120. -/
theorem fresh_iff (t : Fin cfg0.N) : (t.val % 129 = 0 ∨ t.val % 129 = 8 ∨ t.val % 129 = 16 ∨ t.val % 129 = 24 ∨ t.val % 129 = 32 ∨ t.val % 129 = 40 ∨ t.val % 129 = 48 ∨ t.val % 129 = 56 ∨ t.val % 129 = 64 ∨ t.val % 129 = 72 ∨ t.val % 129 = 80 ∨ t.val % 129 = 88 ∨ t.val % 129 = 96 ∨ t.val % 129 = 104 ∨ t.val % 129 = 112 ∨ t.val % 129 = 120) ↔ t.val % 8 = 0 ∧ t.val ≤ 120 := by
  have ht : t.val < 129 := lt_of_lt_of_eq t.isLt N_0
  rw [Nat.mod_eq_of_lt ht]
  omega

/-- The raw product where a new column tile begins. -/
theorem s1_C (c : Dev nD) (t : Fin cfg0.N) (h0 : ¬ t.val % 129 = 0) (h1 : t.val % 8 = 0 ∧ t.val ≤ 120) (r : Fin 1024) (q : Fin 512) :
    accAt m c t (ix2 r q) = ∑ k : Fin 4096, xblk m c t (ix2 r k) * wbfAt m c t (ix2 k q) := by
  unfold accAt wbfAt
  rw [outsAt0_C m c t h0 ((fresh_iff t).mpr h1)]
  dsimp only
  frame_out
  simp (disch := decide) only [readCov_whole]
  generalize View.canon (Val := Elt Ideal) (s := S4096x512) (e := .bf16) _ = U
  canon_tiles x h <;> exact row_tile (iblk m c 0 t) U x r q (by have : (r : ℕ) = _ := h0; omega) h1

/-- The raw product elsewhere: the weight tile is the one kept. -/
theorem s1_B (c : Dev nD) (t : Fin cfg0.N) (h0 : ¬ t.val % 129 = 0) (h1 : ¬(t.val % 8 = 0 ∧ t.val ≤ 120)) (r : Fin 1024) (q : Fin 512) :
    accAt m c t (ix2 r q) = ∑ k : Fin 4096, xblk m c t (ix2 r k) * wbfAt m c t (ix2 k q) := by
  unfold accAt wbfAt
  rw [outsAt0_B m c t h0 (fun h => h1 ((fresh_iff t).mp h))]
  dsimp only
  frame_out
  simp only [read_unread_whole]
  generalize (outsAt0 m c _ _).2.1 = U
  canon_tiles x h <;> exact row_tile (iblk m c 0 t) U x r q (by have : (r : ℕ) = _ := h0; omega) h1

/-- A stored row block of the result, at an index of the whole buffer. -/
theorem logi_tile (A : Vec Ideal S1024x512 .f32) {o : ℕ} {inb} (x : S256x512.Idx) (y : S1024x512.Idx)
    (hr : (y 0 : ℕ) = o + x 0) (hq : (y 1 : ℕ) = x 1) :
    k0_pay2 (View.ld (Val := Elt Ideal) A (Rect.unit ![o, 0] ![256, 512] inb)) x = logi (A y) := by
  refine (sig_apply _ x).trans (congrArg logi (View.ld_unit_apply_of A _ _ _ _ _ ?_))
  rw [Fin.forall_fin_two]
  exact ⟨hr, hq.trans (Nat.zero_add _).symm⟩

/-- The point before. -/
abbrev before (t : Fin cfg0.N) : Fin cfg0.N := ⟨t.val - 1, lt_of_le_of_lt (Nat.sub_le _ _) t.isLt⟩

/-- The result block is the epilogue of the product the point before left. -/
theorem out_B (c : Dev nD) (t : Fin cfg0.N) (h0 : ¬ t.val % 129 = 0) (h1 : ¬(t.val % 8 = 0 ∧ t.val ≤ 120)) (y : S1024x512.Idx) :
    outAt m c t y = logi (accAt m c (before t) y) := by
  unfold accAt outAt
  rw [outsAt0_B m c t h0 (fun h => h1 ((fresh_iff t).mp h))]
  dsimp only
  frame_out
  simp only [read_unread_whole]
  generalize (outsAt0 m c _ _).2.2 = U
  canon_tiles x h <;> exact logi_tile U x y (by have : (y 0 : ℕ) = _ := h0; omega) h1

/-- … and so where a new column tile begins. -/
theorem out_C (c : Dev nD) (t : Fin cfg0.N) (h0 : ¬ t.val % 129 = 0) (h1 : t.val % 8 = 0 ∧ t.val ≤ 120) (y : S1024x512.Idx) :
    outAt m c t y = logi (accAt m c (before t) y) := by
  unfold accAt outAt
  rw [outsAt0_C m c t h0 ((fresh_iff t).mpr h1)]
  dsimp only
  frame_out
  simp only [read_unread_whole]
  generalize (outsAt0 m c _ _).2.2 = U
  canon_tiles x h <;> exact logi_tile U x y (by have : (y 0 : ℕ) = _ := h0; omega) h1

/-- The weight tile at the first point. -/
theorem s0_A (c : Dev nD) (t : Fin cfg0.N) (h0 : t.val % 129 = 0) (r : Fin 4096) (q : Fin 512) :
    wbfAt m c t (ix2 r q) = wblk m c t (ix2 q r) := by
  unfold wbfAt
  rw [outsAt0_A m c t h0 (.inl h0)]
  dsimp only
  frame_out
  canon_tiles x h <;> exact weight_tile (iblk m c 1 t) x r q (by have : (r : ℕ) = _ := h0; omega) h1

/-- Elsewhere the weight tile stays. -/
theorem s0_B (c : Dev nD) (t : Fin cfg0.N) (h0 : ¬ t.val % 129 = 0) (h1 : ¬(t.val % 8 = 0 ∧ t.val ≤ 120)) :
    wbfAt m c t = wbfAt m c (before t) := by
  unfold wbfAt
  rw [outsAt0_B m c t h0 (fun h => h1 ((fresh_iff t).mp h))]
  rfl

end Cert.KernelIdeal.Value

end
-- ==== Proof.GatesArray.lean ====
/-
  The gate projection as a whole: where the blocks lie, the weight tile and the raw product after any point, and the
  result array after the run.
-/
module

public import proofs.«01_k».proof.Proof.GatesPoint

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Tile

variable (m : (ℓ : Loc nD τ sig) → Buf (Elt Ideal) ℓ)

/-- The column tile of a step of the walk (the walk goes down the rows first). -/
abbrev colTile (n : ℕ) : ℕ := min n 127 / 8
/-- The row tile of a step of the walk. -/
abbrev rowTile (n : ℕ) : ℕ := min n 127 % 8

/-- Where the activations' block lies. -/
theorem index0 (t : Fin cfg0.N) : win0_0.index t 0 = rowTile t.val ∧ win0_0.index t 1 = 0 := by
  revert t; decide +kernel
/-- Where the weight's block lies: an element offset, past the first 7744 columns of the projection. -/
theorem index1 (t : Fin cfg0.N) : win0_1.index t 0 = 7744 + 512 * colTile t.val ∧ win0_1.index t 1 = 0 := by
  revert t; decide +kernel
/-- Where the result's block lies: one step behind. -/
theorem index2 (t : Fin cfg0.N) : win0_2.index t 0 = rowTile (t.val - 1) ∧ win0_2.index t 1 = colTile (t.val - 1) := by
  revert t; decide +kernel

/-- The activations. -/
abbrev hArr (c : Dev nD) : Vec Ideal S8192x4096 .bf16 := m ((c : Thread nD τ).loc main_arg0)
/-- The weight of the projection. -/
abbrev wArr (c : Dev nD) : Vec Ideal S4096x15936 .f32 := m ((c : Thread nD τ).loc main_arg1)

/-- The activations' block, read off the array. -/
theorem xblk_apply (c : Dev nD) (t : Fin cfg0.N) (r : Fin 1024) (k : Fin 4096) (R : Fin 8192)
    (hR : (R : ℕ) = 1024 * rowTile t.val + r) : xblk m c t (ix2 r k) = hArr m c (ix2 R k) := by
  obtain ⟨e0, e1⟩ := index0 t
  unfold xblk
  blk_simp [iblk]
  refine (congrFun (V_main_arg0 m c) _).trans (congrArg (hArr m c) ?_)
  blk_ext [e0, e1]

/-- The place of an element of the weight's block in the transposed array. -/
theorem wblk_emb (t : Fin cfg0.N) (q : Fin 512) (k : Fin 4096) (C : Fin 15936)
    (hC : (C : ℕ) = 7744 + 512 * colTile t.val + q) :
    ((win0_1.blk t).view.emb (ix2 q k) : S15936x4096.Idx) = ix2 C k := by
  obtain ⟨e0, e1⟩ := index1 t
  have h := win0_1.rect_emb_val_off t (ix2 q k)
  have h0 := h 0
  have h1 := h 1
  rw [e0] at h0
  rw [e1] at h1
  refine (eq_ix2 _).trans (congrArg₂ ix2 (Fin.ext ?_) (Fin.ext ?_))
  · exact h0.trans hC.symm
  · exact h1.trans (Nat.zero_add _)

/-- The weight's block, read off the array. -/
theorem wblk_apply (c : Dev nD) (t : Fin cfg0.N) (q : Fin 512) (k : Fin 4096) (C : Fin 15936)
    (hC : (C : ℕ) = 7744 + 512 * colTile t.val + q) : wblk m c t (ix2 q k) = wArr m c (ix2 k C) := by
  unfold wblk
  blk_simp [iblk]
  rw [wblk_emb t q k C hC]
  entry_read
  pointwise

/-- The written blocks cover the result. -/
theorem covers2 : (cfg0.win 2).Covers := by decide +kernel

/-- After any point the weight tile is the transposed column tile of that point (by induction over the points). -/
theorem wbf_apply (c : Dev nD) : ∀ (n : ℕ) (hn : n < cfg0.N) (q : Fin 512) (k : Fin 4096) (C : Fin 15936),
    (C : ℕ) = 7744 + 512 * colTile n + q → wbfAt m c ⟨n, hn⟩ (ix2 k q) = wArr m c (ix2 k C)
  | 0, hn, q, k, C, hC => (s0_A m c ⟨0, hn⟩ rfl k q).trans (wblk_apply m c ⟨0, hn⟩ q k C hC)
  | n + 1, hn, q, k, C, hC => by
    have ht : n + 1 < 129 := lt_of_lt_of_eq hn N_0
    have h0 : ¬ (n + 1) % 129 = 0 := by omega
    by_cases h1 : (n + 1) % 8 = 0 ∧ n + 1 ≤ 120
    · exact (s0_C m c ⟨n + 1, hn⟩ h0 h1.1 h1.2 k q).trans (wblk_apply m c ⟨n + 1, hn⟩ q k C hC)
    · rw [s0_B m c ⟨n + 1, hn⟩ h0 h1]
      exact wbf_apply c n (Nat.lt_of_succ_lt hn) q k C (by rw [hC]; unfold colTile; omega)

/-- The raw product after a point is the full product of the point's tile. -/
theorem acc_apply (c : Dev nD) (t : Fin cfg0.N) (r : Fin 1024) (q : Fin 512) (R : Fin 8192) (C : Fin 15936)
    (hR : (R : ℕ) = 1024 * rowTile t.val + r) (hC : (C : ℕ) = 7744 + 512 * colTile t.val + q) :
    accAt m c t (ix2 r q) = ∑ k : Fin 4096, hArr m c (ix2 R k) * wArr m c (ix2 k C) := by
  have e : accAt m c t (ix2 r q) = ∑ k : Fin 4096, xblk m c t (ix2 r k) * wbfAt m c t (ix2 k q) := by
    by_cases h0 : t.val % 129 = 0
    · exact s1_A m c t h0 r q
    by_cases h1 : t.val % 8 = 0 ∧ t.val ≤ 120
    · exact s1_C m c t h0 h1 r q
    · exact s1_B m c t h0 h1 r q
  rw [e]
  exact Finset.sum_congr rfl fun k _ => congrArg₂ (· * ·) (xblk_apply m c t r k R hR) (wbf_apply m c t.val t.isLt q k C hC)

/-- After the first point, the result block is the epilogue of the point before. -/
theorem out_apply (c : Dev nD) (t : Fin cfg0.N) (h0 : t.val ≠ 0) (y : S1024x512.Idx) :
    outAt m c t y = logi (accAt m c (before t) y) := by
  have ht : t.val < 129 := lt_of_lt_of_eq t.isLt N_0
  by_cases h1 : t.val % 8 = 0 ∧ t.val ≤ 120
  · exact out_C m c t (by omega) h1 y
  · exact out_B m c t (by omega) h1 y

/-- A gate's column among the columns of the projection. -/
def gateCol (j : Fin 8192) : Fin 15936 := ⟨7744 + j.val, by omega⟩

/-- The gates: the logistic function of the last 8192 columns of the projection. -/
def gates (h : Vec Ideal S8192x4096 .bf16) (w : Vec Ideal S4096x15936 .f32) : Vec Ideal S8192x8192 .bf16 := fun j =>
  logi (∑ k : Fin 4096, h (ix2 (j 0) k) * w (ix2 k (gateCol (j 1))))

/-- Nothing is written back at the first point. -/
theorem flush_pos (t : Fin cfg0.N) (hf : (cfg0.win 2).flush t = true) : t.val ≠ 0 := by
  revert t; decide +kernel

/-- The result array after the run. -/
theorem final (c : Dev nD) : (dats m 0 c).arrAt 2 cfg0.N = gates (hArr m c) (wArr m c) := by
  refine (dats m 0 c).arrAt_eq_of_covers 2 _ covers2 fun t hf y => ?_
  obtain ⟨e0, e1⟩ := index2 t
  blk_simp
  rw [after0_2]
  have ht := flush_pos t hf
  refine (out_apply m c t ht y).trans ?_
  unfold gates
  refine congrArg logi ?_
  rw [eq_ix2 y]
  refine acc_apply m c (before t) (y 0) (y 1) _ _ ?_ ?_
  · blk_simp
    rw [e0]
    exact congrArg (· + _) (Nat.mul_comm _ _)
  · refine (congrArg (7744 + ·) ?_).trans (Nat.add_assoc _ _ _).symm
    blk_simp
    rw [e1]
    exact congrArg (· + _) (Nat.mul_comm _ _)

end Cert.KernelIdeal.Value

end
-- ==== Proof.GatesClaim.lean ====
/-
  The claims about the gate projection: the programs run and keep their arguments, and the kernel's result is the
  reference's.
-/
module

public import proofs.«01_k».proof.Defs
public import proofs.«01_k».proof.Proof.GatesArray
public import proofs.«01_k».proof.Proof.Gen.Kernel.Frame
public import proofs.«01_k».proof.Proof.Gen.ReferenceIdeal.Run
public import Idealize.ShloMosaic.Lib.Claim

@[expose] public section

set_option maxRecDepth 16384

noncomputable section

namespace Cert.Proof.Gates

open Idealize.ShloMosaic Idealize.ShloMosaic.TcCoe Idealize.SL.Sem Cert.Tile

/-- The reference runs and keeps its arguments. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The kernel's gates are the reference's. -/
theorem algebraic : Cert.algebraic_KernelIdeal_ReferenceIdeal := by
  pair_intro
  · run_from Cert.KernelIdeal.Value.run_blocks m g
  · run_from Cert.ReferenceIdeal.Value.run m' g'
    rw [Cert.KernelIdeal.Value.final m c]
    funext j
    unfold Cert.KernelIdeal.Value.gates logi
    pointwise
    rw [zero_sub]
    rfl

end Cert.Proof.Gates

end
-- ==== Proof.Product.lean ====
/-
  Facts shared by the tiled matrix products: a row block of a product or of a sum, stored from loads of row blocks, read
  at an index of the whole buffer; and a tile kept from point to point.
-/
module

public import proofs.«01_k».proof.Proof.Tile

@[expose] public section

set_option maxRecDepth 16384

noncomputable section

namespace Cert.Tile

open Idealize.ShloMosaic Idealize.ShloMosaic.TcCoe Idealize.SL.Sem

/-- The shape of a matrix. -/
abbrev Mat (r c : ℕ) : Shape := ⟨2, ![r, c]⟩

/-- A block of rows, loaded from a buffer, at an index. -/
theorem ld_rows {e : EltTy} {R C n : ℕ} (A : Vec Ideal (Mat R C) e) {o : ℕ} {inb} (x : (Mat n C).Idx) (y : (Mat R C).Idx)
    (hr : (y 0 : ℕ) = o + x 0) (hq : (y 1 : ℕ) = x 1) :
    View.ld (Val := Elt Ideal) A (Rect.unit ![o, 0] ![n, C] inb) x = A y := by
  refine View.ld_unit_apply_of A _ _ _ _ _ ?_
  rw [Fin.forall_fin_two]
  exact ⟨hr, hq.trans (Nat.zero_add _).symm⟩

/-- A stored row block of a product, at an index of the whole buffer. -/
theorem product_tile {R K N n : ℕ} (f : Vec Ideal (Mat n K) .bf16 → Vec Ideal (Mat K N) .bf16 → Vec Ideal (Mat n N) .f32)
    (hf : ∀ a b r c, f a b (ix2 r c) = ∑ k : Fin K, a (ix2 r k) * b (ix2 k c))
    (A : Vec Ideal (Mat R K) .bf16) (U : Vec Ideal (Mat K N) .bf16) {o : ℕ} {inb} (x : (Mat n N).Idx) (r : Fin R) (q : Fin N)
    (hr : (r : ℕ) = o + x 0) (hq : (q : ℕ) = x 1) :
    f (View.ld (Val := Elt Ideal) A (Rect.unit ![o, 0] ![n, K] inb)) U x = ∑ k : Fin K, A (ix2 r k) * U (ix2 k q) := by
  rw [eq_ix2 x]
  refine (hf _ _ (x 0) (x 1)).trans (Finset.sum_congr rfl fun k _ => ?_)
  refine congrArg₂ (· * ·) (ld_rows A (ix2 (x 0) k) (ix2 r k) hr rfl) (congrArg U ?_)
  exact congrArg (ix2 k) (Fin.ext hq.symm)

/-- A stored row block of a sum, at an index of the whole buffer. -/
theorem sum_tile {R C n : ℕ} (f : Vec Ideal (Mat n C) .f32 → Vec Ideal (Mat n C) .f32 → Vec Ideal (Mat n C) .f32)
    (hf : ∀ a b x, f a b x = a x + b x) (A B : Vec Ideal (Mat R C) .f32) {o : ℕ} {inb inb'} (x : (Mat n C).Idx)
    (y : (Mat R C).Idx) (hr : (y 0 : ℕ) = o + x 0) (hq : (y 1 : ℕ) = x 1) :
    f (View.ld (Val := Elt Ideal) A (Rect.unit ![o, 0] ![n, C] inb)) (View.ld (Val := Elt Ideal) B (Rect.unit ![o, 0] ![n, C] inb')) x
      = A y + B y :=
  (hf _ _ x).trans (congrArg₂ (· + ·) (ld_rows A x y hr hq) (ld_rows B x y hr hq))

/-- A tile that is refilled at some points and kept at the others holds, after each point, what that point's fill would
    be, if the fill does not change where the tile is kept. -/
theorem kept {α : Type*} {N : ℕ} (w fill : Fin N → α) (fresh : Fin N → Prop)
    (hf : ∀ t, fresh t → w t = fill t)
    (hk : ∀ (n : ℕ) (h : n + 1 < N), ¬ fresh ⟨n + 1, h⟩ → w ⟨n + 1, h⟩ = w ⟨n, Nat.lt_of_succ_lt h⟩)
    (hs : ∀ (n : ℕ) (h : n + 1 < N), ¬ fresh ⟨n + 1, h⟩ → fill ⟨n + 1, h⟩ = fill ⟨n, Nat.lt_of_succ_lt h⟩)
    (h0 : ∀ h : 0 < N, fresh ⟨0, h⟩) : ∀ (n : ℕ) (h : n < N), w ⟨n, h⟩ = fill ⟨n, h⟩
  | 0, h => hf _ (h0 h)
  | n + 1, h => by
    by_cases hc : fresh ⟨n + 1, h⟩
    · exact hf _ hc
    · rw [hk n h hc, hs n h hc]
      exact kept w fill fresh hf hk hs h0 n _

end Cert.Tile

end
-- ==== Proof.DownLo.lean ====
/-
  The first half of the down projection: what each grid point leaves, where the blocks lie, and the result array.
-/
module

public import proofs.«01_k».proof.Proof.Gen.Kernel2Ideal.Value
public import proofs.«01_k».proof.Proof.Product

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen Cert.Tile

variable (m : (ℓ : Loc nD τ sig) → Buf (Elt Ideal) ℓ)

/-- One row block of the product. -/
theorem dot_apply (a : Vec Ideal S256x5504 .bf16) (b : Vec Ideal S5504x512 .bf16) (r : Fin 256) (c : Fin 512) :
    k0_pay1 a b (ix2 r c) = ∑ k : Fin 5504, a (ix2 r k) * b (ix2 k c) := by
  unfold k0_pay1
  pointwise

/-- One row block of the sum. -/
theorem add_apply (a b : Vec Ideal S256x512 .f32) (x : S256x512.Idx) : k0_pay4 a b x = a x + b x := by
  unfold k0_pay4
  pointwise

/-- Rounding the weight's block to bfloat16 changes nothing over the extended reals. -/
theorem cast_eq (v : Vec Ideal S5504x512 .f32) : k0_pay3 v = v := by
  funext y
  unfold k0_pay3
  pointwise

/-- The block of the activations a point reads. -/
abbrev xblk (c : Dev nD) (t : Fin cfg0.N) : Vec Ideal S1024x5504 .bf16 := iblk m c 0 t
/-- The block of the weight a point reads. -/
abbrev wblk (c : Dev nD) (t : Fin cfg0.N) : Vec Ideal S5504x512 .f32 := iblk m c 1 t
/-- The block of the addend a point reads. -/
abbrev sblk (c : Dev nD) (t : Fin cfg0.N) : Vec Ideal S1024x512 .f32 := iblk m c 2 t
/-- What a point leaves in the result block. -/
abbrev outAt (c : Dev nD) (t : Fin cfg0.N) : Vec Ideal S1024x512 .f32 := (outsAt0 m c t.val t.isLt).1
/-- What a point leaves in the weight tile. -/
abbrev wbfAt (c : Dev nD) (t : Fin cfg0.N) : Vec Ideal S5504x512 .bf16 := (outsAt0 m c t.val t.isLt).2.1
/-- What a point leaves in the raw product. -/
abbrev accAt (c : Dev nD) (t : Fin cfg0.N) : Vec Ideal S1024x512 .f32 := (outsAt0 m c t.val t.isLt).2.2
/-- The point before. -/
abbrev before (t : Fin cfg0.N) : Fin cfg0.N := ⟨t.val - 1, lt_of_le_of_lt (Nat.sub_le _ _) t.isLt⟩

/-- The points where a new column tile begins. -/
abbrev fresh (t : Fin cfg0.N) : Prop :=
  t.val % 65 = 0 ∨ t.val % 65 = 8 ∨ t.val % 65 = 16 ∨ t.val % 65 = 24 ∨ t.val % 65 = 32 ∨ t.val % 65 = 40 ∨ t.val % 65 = 48 ∨ t.val % 65 = 56

/-- Where a new column tile begins, the weight tile is the block. -/
theorem wbf_fresh (c : Dev nD) (t : Fin cfg0.N) (h1 : fresh t) : wbfAt m c t = wblk m c t := by
  unfold wbfAt
  by_cases h0 : t.val % 65 = 0
  · rw [outsAt0_A m c t h0 h1]
    dsimp only
    frame_out
    exact cast_eq _
  · rw [outsAt0_C m c t h0 h1]
    dsimp only
    frame_out
    exact cast_eq _

/-- Elsewhere the weight tile stays. -/
theorem wbf_kept (c : Dev nD) (t : Fin cfg0.N) (h1 : ¬ fresh t) : wbfAt m c t = wbfAt m c (before t) := by
  unfold wbfAt
  rw [outsAt0_B m c t (fun h => h1 (.inl h)) h1]
  rfl

/-- The raw product after a point. -/
theorem acc_step (c : Dev nD) (t : Fin cfg0.N) (r : Fin 1024) (q : Fin 512) :
    accAt m c t (ix2 r q) = ∑ k : Fin 5504, xblk m c t (ix2 r k) * wbfAt m c t (ix2 k q) := by
  unfold accAt wbfAt
  by_cases h1 : fresh t
  · by_cases h0 : t.val % 65 = 0
    · rw [outsAt0_A m c t h0 h1]
      dsimp only
      frame_out
      generalize k0_pay3 (iblk m c 1 t) = U
      refine canon_append_of_cover [_, _, _, _] [_] _ _ ?_ ?_
      · exact View.cover_of_tiledL _ ![256, 512] (by sl_kernel_rfl) _
      canon_tiles x h <;> exact product_tile _ dot_apply (iblk m c 0 t) U x r q (by have : (r : ℕ) = _ := h0; omega) h1
    · rw [outsAt0_C m c t h0 h1]
      dsimp only
      frame_out
      generalize k0_pay3 (iblk m c 1 t) = U
      canon_tiles x h <;> exact product_tile _ dot_apply (iblk m c 0 t) U x r q (by have : (r : ℕ) = _ := h0; omega) h1
  · rw [outsAt0_B m c t (fun h => h1 (.inl h)) h1]
    dsimp only
    frame_out
    simp only [read_unread_whole]
    generalize (outsAt0 m c _ _).2.1 = U
    canon_tiles x h <;> exact product_tile _ dot_apply (iblk m c 0 t) U x r q (by have : (r : ℕ) = _ := h0; omega) h1

/-- After the first point, the result block is the product the point before left plus the addend's block. -/
theorem out_step (c : Dev nD) (t : Fin cfg0.N) (h0 : t.val ≠ 0) (y : S1024x512.Idx) :
    outAt m c t y = accAt m c (before t) y + sblk m c t y := by
  have ht : t.val < 65 := lt_of_lt_of_eq t.isLt N_0
  have h0 : ¬ t.val % 65 = 0 := by omega
  unfold accAt outAt
  by_cases h1 : fresh t
  · rw [outsAt0_C m c t h0 h1]
    dsimp only
    frame_out
    simp only [read_unread_whole]
    generalize (outsAt0 m c _ _).2.2 = U
    canon_tiles x h <;> exact sum_tile k0_pay4 add_apply U (iblk m c 2 t) x y (by have : (y 0 : ℕ) = _ := h0; omega) h1
  · rw [outsAt0_B m c t h0 h1]
    dsimp only
    frame_out
    simp only [read_unread_whole]
    generalize (outsAt0 m c _ _).2.2 = U
    canon_tiles x h <;> exact sum_tile k0_pay4 add_apply U (iblk m c 2 t) x y (by have : (y 0 : ℕ) = _ := h0; omega) h1

/-- The column tile of a step of the walk (the walk goes down the rows first). -/
abbrev colTile (n : ℕ) : ℕ := min n 63 / 8
/-- The row tile of a step of the walk. -/
abbrev rowTile (n : ℕ) : ℕ := min n 63 % 8

/-- Where the activations' block lies: the left half of the columns. -/
theorem index0 (t : Fin cfg0.N) : win0_0.index t 0 = rowTile t.val ∧ win0_0.index t 1 = 0 := by
  revert t; decide +kernel
/-- Where the weight's block lies: the upper half of the rows. -/
theorem index1 (t : Fin cfg0.N) : win0_1.index t 0 = 0 ∧ win0_1.index t 1 = colTile t.val := by
  revert t; decide +kernel
/-- Where the addend's block lies: one step behind. -/
theorem index2 (t : Fin cfg0.N) : win0_2.index t 0 = rowTile (t.val - 1) ∧ win0_2.index t 1 = colTile (t.val - 1) := by
  revert t; decide +kernel
/-- Where the result's block lies: one step behind. -/
theorem index3 (t : Fin cfg0.N) : win0_3.index t 0 = rowTile (t.val - 1) ∧ win0_3.index t 1 = colTile (t.val - 1) := by
  revert t; decide +kernel
/-- The written blocks cover the result. -/
theorem covers3 : (cfg0.win 3).Covers := by decide +kernel
/-- Nothing is written back at the first point. -/
theorem flush_pos (t : Fin cfg0.N) (hf : (cfg0.win 3).flush t = true) : t.val ≠ 0 := by
  revert t; decide +kernel

/-- The activations. -/
abbrev aArr (c : Dev nD) : Vec Ideal S8192x11008 .bf16 := m ((c : Thread nD τ).loc main_arg0)
/-- The weight. -/
abbrev wArr (c : Dev nD) : Vec Ideal S11008x4096 .f32 := m ((c : Thread nD τ).loc main_arg1)
/-- The addend. -/
abbrev sArr (c : Dev nD) : Vec Ideal S8192x4096 .f32 := m ((c : Thread nD τ).loc main_arg2)

/-- A summation index among the columns of the activations. -/
def inner (k : Fin 5504) : Fin 11008 := ⟨k.val, by omega⟩

/-- The activations' block, read off the array. -/
theorem xblk_apply (c : Dev nD) (t : Fin cfg0.N) (r : Fin 1024) (k : Fin 5504) (R : Fin 8192)
    (hR : (R : ℕ) = 1024 * rowTile t.val + r) : xblk m c t (ix2 r k) = aArr m c (ix2 R (inner k)) := by
  obtain ⟨e0, e1⟩ := index0 t
  unfold xblk
  blk_simp [iblk]
  refine (congrFun (V_main_arg0 m c) _).trans (congrArg (aArr m c) ?_)
  blk_ext [e0, e1, inner]

/-- The weight's block, read off the array. -/
theorem wblk_apply (c : Dev nD) (t : Fin cfg0.N) (k : Fin 5504) (q : Fin 512) (C : Fin 4096)
    (hC : (C : ℕ) = 512 * colTile t.val + q) : wblk m c t (ix2 k q) = wArr m c (ix2 (inner k) C) := by
  obtain ⟨e0, e1⟩ := index1 t
  unfold wblk
  blk_simp [iblk]
  refine (congrFun (V_main_arg1 m c) _).trans (congrArg (wArr m c) ?_)
  blk_ext [e0, e1, inner]

/-- The addend's block, read off the array. -/
theorem sblk_apply (c : Dev nD) (t : Fin cfg0.N) (r : Fin 1024) (q : Fin 512) (R : Fin 8192) (C : Fin 4096)
    (hR : (R : ℕ) = 1024 * rowTile (t.val - 1) + r) (hC : (C : ℕ) = 512 * colTile (t.val - 1) + q) :
    sblk m c t (ix2 r q) = sArr m c (ix2 R C) := by
  obtain ⟨e0, e1⟩ := index2 t
  unfold sblk
  blk_simp [iblk]
  refine (congrFun (V_main_arg2 m c) _).trans (congrArg (sArr m c) ?_)
  blk_ext [e0, e1]

/-- Points of one column tile read one block of the weight. -/
theorem wblk_same (c : Dev nD) (t u : Fin cfg0.N) (h : colTile t.val = colTile u.val) : wblk m c t = wblk m c u := by
  funext y
  have hu : colTile t.val < 8 := by unfold colTile; omega
  have hy : (y 1 : ℕ) < 512 := (y 1).isLt
  rw [eq_ix2 y]
  have C : ∃ C : Fin 4096, (C : ℕ) = 512 * colTile t.val + (y 1 : ℕ) := ⟨⟨512 * colTile t.val + (y 1 : ℕ), by omega⟩, rfl⟩
  obtain ⟨C, hC⟩ := C
  exact (wblk_apply m c t (y 0) (y 1) C hC).trans (wblk_apply m c u (y 0) (y 1) C (by rw [hC, h])).symm

/-- After any point the weight tile is the column tile of that point. -/
theorem wbf_eq (c : Dev nD) (t : Fin cfg0.N) : wbfAt m c t = wblk m c t :=
  kept (wbfAt m c) (wblk m c) fresh (wbf_fresh m c) (fun n h hn => wbf_kept m c ⟨n + 1, h⟩ hn)
    (fun n h hn => wblk_same m c _ _ (by
      have ht : n + 1 < 65 := lt_of_lt_of_eq h N_0
      unfold fresh at hn
      simp only [] at hn
      rw [Nat.mod_eq_of_lt ht] at hn
      unfold colTile
      dsimp only
      omega)) (fun _ => .inl rfl) t.val t.isLt

/-- The addend plus the first half of the product. -/
def sum (a : Vec Ideal S8192x11008 .bf16) (w : Vec Ideal S11008x4096 .f32) (s : Vec Ideal S8192x4096 .f32) : Vec Ideal S8192x4096 .f32 :=
  fun j => (∑ k : Fin 5504, a (ix2 (j 0) (inner k)) * w (ix2 (inner k) (j 1))) + s j

/-- The result array after the run. -/
theorem final (c : Dev nD) : (dats m 0 c).arrAt 3 cfg0.N = sum (aArr m c) (wArr m c) (sArr m c) := by
  refine (dats m 0 c).arrAt_eq_of_covers 3 _ covers3 fun t hf y => ?_
  obtain ⟨e0, e1⟩ := index3 t
  blk_simp
  rw [after0_3]
  have ht := flush_pos t hf
  refine (out_step m c t ht y).trans ?_
  unfold sum
  rw [eq_ix2 y]
  have hr : ∀ R : Fin 8192, (R : ℕ) = win0_3.index t 0 * 1024 + (y 0 : ℕ) → (R : ℕ) = 1024 * rowTile (t.val - 1) + (y 0 : ℕ) :=
    fun R h => by rw [h, e0, Nat.mul_comm]
  have hc : ∀ C : Fin 4096, (C : ℕ) = win0_3.index t 1 * 512 + (y 1 : ℕ) → (C : ℕ) = 512 * colTile (t.val - 1) + (y 1 : ℕ) :=
    fun C h => by rw [h, e1, Nat.mul_comm]
  refine congrArg₂ (· + ·) ?_ ?_
  · refine (acc_step m c (before t) (y 0) (y 1)).trans ?_
    refine Finset.sum_congr rfl fun k _ => congrArg₂ (· * ·) (xblk_apply m c (before t) (y 0) k _ (hr _ ?_)) ?_
    · blk_simp
    · refine (congrFun (wbf_eq m c (before t)) _).trans (wblk_apply m c (before t) k (y 1) _ (hc _ ?_))
      blk_simp
  · refine (sblk_apply m c t (y 0) (y 1) _ _ (hr _ ?_) (hc _ ?_)).trans (congrArg (sArr m c) (eq_ix2 _).symm)
    · blk_simp
    · blk_simp

end Cert.Kernel2Ideal.Value

end
-- ==== Proof.DownHi.lean ====
/-
  The second half of the down projection: what each grid point leaves, where the blocks lie, and the result array.
-/
module

public import proofs.«01_k».proof.Proof.Gen.Kernel3Ideal.Value
public import proofs.«01_k».proof.Proof.Product

@[expose] public section

set_option maxRecDepth 16384

noncomputable section

namespace Cert.Kernel3Ideal.Value

open Idealize.ShloMosaic Idealize.ShloMosaic.TcCoe Idealize.SL.Sem
open Idealize.ShloMosaic.Pipeline (Dat)
open Cert.Kernel3Ideal Cert.Kernel3Ideal.Gen Cert.Tile

variable (m : (ℓ : Loc nD τ sig) → Buf (Elt Ideal) ℓ)

/-- One row block of the product. -/
theorem dot_apply (a : Vec Ideal S256x5504 .bf16) (b : Vec Ideal S5504x512 .bf16) (r : Fin 256) (c : Fin 512) :
    k0_pay1 a b (ix2 r c) = ∑ k : Fin 5504, a (ix2 r k) * b (ix2 k c) := by
  unfold k0_pay1
  pointwise

/-- One row block of the sum. -/
theorem add_apply (a b : Vec Ideal S256x512 .f32) (x : S256x512.Idx) : k0_pay4 a b x = a x + b x := by
  unfold k0_pay4
  pointwise

/-- Rounding the weight's block to bfloat16 changes nothing over the extended reals. -/
theorem cast_eq (v : Vec Ideal S5504x512 .f32) : k0_pay3 v = v := by
  funext y
  unfold k0_pay3
  pointwise

/-- The block of the activations a point reads. -/
abbrev xblk (c : Dev nD) (t : Fin cfg0.N) : Vec Ideal S1024x5504 .bf16 := iblk m c 0 t
/-- The block of the weight a point reads. -/
abbrev wblk (c : Dev nD) (t : Fin cfg0.N) : Vec Ideal S5504x512 .f32 := iblk m c 1 t
/-- The block of the addend a point reads. -/
abbrev sblk (c : Dev nD) (t : Fin cfg0.N) : Vec Ideal S1024x512 .f32 := iblk m c 2 t
/-- What a point leaves in the result block. -/
abbrev outAt (c : Dev nD) (t : Fin cfg0.N) : Vec Ideal S1024x512 .f32 := (outsAt0 m c t.val t.isLt).1
/-- What a point leaves in the weight tile. -/
abbrev wbfAt (c : Dev nD) (t : Fin cfg0.N) : Vec Ideal S5504x512 .bf16 := (outsAt0 m c t.val t.isLt).2.1
/-- What a point leaves in the raw product. -/
abbrev accAt (c : Dev nD) (t : Fin cfg0.N) : Vec Ideal S1024x512 .f32 := (outsAt0 m c t.val t.isLt).2.2
/-- The point before. -/
abbrev before (t : Fin cfg0.N) : Fin cfg0.N := ⟨t.val - 1, lt_of_le_of_lt (Nat.sub_le _ _) t.isLt⟩

/-- The points where a new column tile begins. -/
abbrev fresh (t : Fin cfg0.N) : Prop :=
  t.val % 65 = 0 ∨ t.val % 65 = 8 ∨ t.val % 65 = 16 ∨ t.val % 65 = 24 ∨ t.val % 65 = 32 ∨ t.val % 65 = 40 ∨ t.val % 65 = 48 ∨ t.val % 65 = 56

/-- Where a new column tile begins, the weight tile is the block. -/
theorem wbf_fresh (c : Dev nD) (t : Fin cfg0.N) (h1 : fresh t) : wbfAt m c t = wblk m c t := by
  unfold wbfAt
  by_cases h0 : t.val % 65 = 0
  · rw [outsAt0_A m c t h0 h1]
    dsimp only
    frame_out
    exact cast_eq _
  · rw [outsAt0_C m c t h0 h1]
    dsimp only
    frame_out
    exact cast_eq _

/-- Elsewhere the weight tile stays. -/
theorem wbf_kept (c : Dev nD) (t : Fin cfg0.N) (h1 : ¬ fresh t) : wbfAt m c t = wbfAt m c (before t) := by
  unfold wbfAt
  rw [outsAt0_B m c t (fun h => h1 (.inl h)) h1]
  rfl

/-- The raw product after a point. -/
theorem acc_step (c : Dev nD) (t : Fin cfg0.N) (r : Fin 1024) (q : Fin 512) :
    accAt m c t (ix2 r q) = ∑ k : Fin 5504, xblk m c t (ix2 r k) * wbfAt m c t (ix2 k q) := by
  unfold accAt wbfAt
  by_cases h1 : fresh t
  · by_cases h0 : t.val % 65 = 0
    · rw [outsAt0_A m c t h0 h1]
      dsimp only
      frame_out
      generalize k0_pay3 (iblk m c 1 t) = U
      refine canon_append_of_cover [_, _, _, _] [_] _ _ ?_ ?_
      · exact View.cover_of_tiledL _ ![256, 512] (by sl_kernel_rfl) _
      canon_tiles x h <;> exact product_tile _ dot_apply (iblk m c 0 t) U x r q (by have : (r : ℕ) = _ := h0; omega) h1
    · rw [outsAt0_C m c t h0 h1]
      dsimp only
      frame_out
      generalize k0_pay3 (iblk m c 1 t) = U
      canon_tiles x h <;> exact product_tile _ dot_apply (iblk m c 0 t) U x r q (by have : (r : ℕ) = _ := h0; omega) h1
  · rw [outsAt0_B m c t (fun h => h1 (.inl h)) h1]
    dsimp only
    frame_out
    simp only [read_unread_whole]
    generalize (outsAt0 m c _ _).2.1 = U
    canon_tiles x h <;> exact product_tile _ dot_apply (iblk m c 0 t) U x r q (by have : (r : ℕ) = _ := h0; omega) h1

/-- After the first point, the result block is the product the point before left plus the addend's block. -/
theorem out_step (c : Dev nD) (t : Fin cfg0.N) (h0 : t.val ≠ 0) (y : S1024x512.Idx) :
    outAt m c t y = accAt m c (before t) y + sblk m c t y := by
  have ht : t.val < 65 := lt_of_lt_of_eq t.isLt N_0
  have h0 : ¬ t.val % 65 = 0 := by omega
  unfold accAt outAt
  by_cases h1 : fresh t
  · rw [outsAt0_C m c t h0 h1]
    dsimp only
    frame_out
    simp only [read_unread_whole]
    generalize (outsAt0 m c _ _).2.2 = U
    canon_tiles x h <;> exact sum_tile k0_pay4 add_apply U (iblk m c 2 t) x y (by have : (y 0 : ℕ) = _ := h0; omega) h1
  · rw [outsAt0_B m c t h0 h1]
    dsimp only
    frame_out
    simp only [read_unread_whole]
    generalize (outsAt0 m c _ _).2.2 = U
    canon_tiles x h <;> exact sum_tile k0_pay4 add_apply U (iblk m c 2 t) x y (by have : (y 0 : ℕ) = _ := h0; omega) h1

/-- The column tile of a step of the walk (the walk goes down the rows first). -/
abbrev colTile (n : ℕ) : ℕ := min n 63 / 8
/-- The row tile of a step of the walk. -/
abbrev rowTile (n : ℕ) : ℕ := min n 63 % 8

/-- Where the activations' block lies: the right half of the columns. -/
theorem index0 (t : Fin cfg0.N) : win0_0.index t 0 = rowTile t.val ∧ win0_0.index t 1 = 1 := by
  revert t; decide +kernel
/-- Where the weight's block lies: the lower half of the rows. -/
theorem index1 (t : Fin cfg0.N) : win0_1.index t 0 = 1 ∧ win0_1.index t 1 = colTile t.val := by
  revert t; decide +kernel
/-- Where the addend's block lies: one step behind. -/
theorem index2 (t : Fin cfg0.N) : win0_2.index t 0 = rowTile (t.val - 1) ∧ win0_2.index t 1 = colTile (t.val - 1) := by
  revert t; decide +kernel
/-- Where the result's block lies: one step behind. -/
theorem index3 (t : Fin cfg0.N) : win0_3.index t 0 = rowTile (t.val - 1) ∧ win0_3.index t 1 = colTile (t.val - 1) := by
  revert t; decide +kernel
/-- The written blocks cover the result. -/
theorem covers3 : (cfg0.win 3).Covers := by decide +kernel
/-- Nothing is written back at the first point. -/
theorem flush_pos (t : Fin cfg0.N) (hf : (cfg0.win 3).flush t = true) : t.val ≠ 0 := by
  revert t; decide +kernel

/-- The activations. -/
abbrev aArr (c : Dev nD) : Vec Ideal S8192x11008 .bf16 := m ((c : Thread nD τ).loc main_arg0)
/-- The weight. -/
abbrev wArr (c : Dev nD) : Vec Ideal S11008x4096 .f32 := m ((c : Thread nD τ).loc main_arg1)
/-- The addend. -/
abbrev sArr (c : Dev nD) : Vec Ideal S8192x4096 .f32 := m ((c : Thread nD τ).loc main_arg2)

/-- A summation index among the columns of the activations. -/
def inner (k : Fin 5504) : Fin 11008 := ⟨5504 + k.val, by omega⟩

/-- The activations' block, read off the array. -/
theorem xblk_apply (c : Dev nD) (t : Fin cfg0.N) (r : Fin 1024) (k : Fin 5504) (R : Fin 8192)
    (hR : (R : ℕ) = 1024 * rowTile t.val + r) : xblk m c t (ix2 r k) = aArr m c (ix2 R (inner k)) := by
  obtain ⟨e0, e1⟩ := index0 t
  unfold xblk
  blk_simp [iblk]
  refine (congrFun (V_main_arg0 m c) _).trans (congrArg (aArr m c) ?_)
  blk_ext [e0, e1, inner]

/-- The weight's block, read off the array. -/
theorem wblk_apply (c : Dev nD) (t : Fin cfg0.N) (k : Fin 5504) (q : Fin 512) (C : Fin 4096)
    (hC : (C : ℕ) = 512 * colTile t.val + q) : wblk m c t (ix2 k q) = wArr m c (ix2 (inner k) C) := by
  obtain ⟨e0, e1⟩ := index1 t
  unfold wblk
  blk_simp [iblk]
  refine (congrFun (V_main_arg1 m c) _).trans (congrArg (wArr m c) ?_)
  blk_ext [e0, e1, inner]

/-- The addend's block, read off the array. -/
theorem sblk_apply (c : Dev nD) (t : Fin cfg0.N) (r : Fin 1024) (q : Fin 512) (R : Fin 8192) (C : Fin 4096)
    (hR : (R : ℕ) = 1024 * rowTile (t.val - 1) + r) (hC : (C : ℕ) = 512 * colTile (t.val - 1) + q) :
    sblk m c t (ix2 r q) = sArr m c (ix2 R C) := by
  obtain ⟨e0, e1⟩ := index2 t
  unfold sblk
  blk_simp [iblk]
  refine (congrFun (V_main_arg2 m c) _).trans (congrArg (sArr m c) ?_)
  blk_ext [e0, e1]

/-- Points of one column tile read one block of the weight. -/
theorem wblk_same (c : Dev nD) (t u : Fin cfg0.N) (h : colTile t.val = colTile u.val) : wblk m c t = wblk m c u := by
  funext y
  have hu : colTile t.val < 8 := by unfold colTile; omega
  have hy : (y 1 : ℕ) < 512 := (y 1).isLt
  rw [eq_ix2 y]
  have C : ∃ C : Fin 4096, (C : ℕ) = 512 * colTile t.val + (y 1 : ℕ) := ⟨⟨512 * colTile t.val + (y 1 : ℕ), by omega⟩, rfl⟩
  obtain ⟨C, hC⟩ := C
  exact (wblk_apply m c t (y 0) (y 1) C hC).trans (wblk_apply m c u (y 0) (y 1) C (by rw [hC, h])).symm

/-- After any point the weight tile is the column tile of that point. -/
theorem wbf_eq (c : Dev nD) (t : Fin cfg0.N) : wbfAt m c t = wblk m c t :=
  kept (wbfAt m c) (wblk m c) fresh (wbf_fresh m c) (fun n h hn => wbf_kept m c ⟨n + 1, h⟩ hn)
    (fun n h hn => wblk_same m c _ _ (by
      have ht : n + 1 < 65 := lt_of_lt_of_eq h N_0
      unfold fresh at hn
      simp only [] at hn
      rw [Nat.mod_eq_of_lt ht] at hn
      unfold colTile
      dsimp only
      omega)) (fun _ => .inl rfl) t.val t.isLt

/-- The addend plus the second half of the product. -/
def sum (a : Vec Ideal S8192x11008 .bf16) (w : Vec Ideal S11008x4096 .f32) (s : Vec Ideal S8192x4096 .f32) : Vec Ideal S8192x4096 .f32 :=
  fun j => (∑ k : Fin 5504, a (ix2 (j 0) (inner k)) * w (ix2 (inner k) (j 1))) + s j

/-- The result array after the run. -/
theorem final (c : Dev nD) : (dats m 0 c).arrAt 3 cfg0.N = sum (aArr m c) (wArr m c) (sArr m c) := by
  refine (dats m 0 c).arrAt_eq_of_covers 3 _ covers3 fun t hf y => ?_
  obtain ⟨e0, e1⟩ := index3 t
  blk_simp
  rw [after0_3]
  have ht := flush_pos t hf
  refine (out_step m c t ht y).trans ?_
  unfold sum
  rw [eq_ix2 y]
  have hr : ∀ R : Fin 8192, (R : ℕ) = win0_3.index t 0 * 1024 + (y 0 : ℕ) → (R : ℕ) = 1024 * rowTile (t.val - 1) + (y 0 : ℕ) :=
    fun R h => by rw [h, e0, Nat.mul_comm]
  have hc : ∀ C : Fin 4096, (C : ℕ) = win0_3.index t 1 * 512 + (y 1 : ℕ) → (C : ℕ) = 512 * colTile (t.val - 1) + (y 1 : ℕ) :=
    fun C h => by rw [h, e1, Nat.mul_comm]
  refine congrArg₂ (· + ·) ?_ ?_
  · refine (acc_step m c (before t) (y 0) (y 1)).trans ?_
    refine Finset.sum_congr rfl fun k _ => congrArg₂ (· * ·) (xblk_apply m c (before t) (y 0) k _ (hr _ ?_)) ?_
    · blk_simp
    · refine (congrFun (wbf_eq m c (before t)) _).trans (wblk_apply m c (before t) k (y 1) _ (hc _ ?_))
      blk_simp
  · refine (sblk_apply m c t (y 0) (y 1) _ _ (hr _ ?_) (hc _ ?_)).trans (congrArg (sArr m c) (eq_ix2 _).symm)
    · blk_simp
    · blk_simp

end Cert.Kernel3Ideal.Value

end
-- ==== Proof.OutProj.lean ====
/-
  The output projection: what each grid point leaves, where the blocks lie, and the result array.
-/
module

public import proofs.«01_k».proof.Proof.Gen.Kernel6Ideal.Value
public import proofs.«01_k».proof.Proof.Product

@[expose] public section

set_option maxRecDepth 16384

noncomputable section

namespace Cert.Kernel6Ideal.Value

open Idealize.ShloMosaic Idealize.ShloMosaic.TcCoe Idealize.SL.Sem
open Idealize.ShloMosaic.Pipeline (Dat)
open Cert.Kernel6Ideal Cert.Kernel6Ideal.Gen Cert.Tile

variable (m : (ℓ : Loc nD τ sig) → Buf (Elt Ideal) ℓ)

/-- One row block of the product. -/
theorem dot_apply (a : Vec Ideal S256x4096 .bf16) (b : Vec Ideal S4096x512 .bf16) (r : Fin 256) (c : Fin 512) :
    k0_pay1 a b (ix2 r c) = ∑ k : Fin 4096, a (ix2 r k) * b (ix2 k c) := by
  unfold k0_pay1
  pointwise

/-- One row block of the sum. -/
theorem add_apply (a b : Vec Ideal S256x512 .f32) (x : S256x512.Idx) : k0_pay4 a b x = a x + b x := by
  unfold k0_pay4
  pointwise

/-- Rounding the weight's block to bfloat16 changes nothing over the extended reals. -/
theorem cast_eq (v : Vec Ideal S4096x512 .f32) : k0_pay3 v = v := by
  funext y
  unfold k0_pay3
  pointwise

/-- The block of the activations a point reads. -/
abbrev xblk (c : Dev nD) (t : Fin cfg0.N) : Vec Ideal S1024x4096 .bf16 := iblk m c 0 t
/-- The block of the weight a point reads. -/
abbrev wblk (c : Dev nD) (t : Fin cfg0.N) : Vec Ideal S4096x512 .f32 := iblk m c 1 t
/-- The block of the addend a point reads. -/
abbrev sblk (c : Dev nD) (t : Fin cfg0.N) : Vec Ideal S1024x512 .f32 := iblk m c 2 t
/-- What a point leaves in the result block. -/
abbrev outAt (c : Dev nD) (t : Fin cfg0.N) : Vec Ideal S1024x512 .f32 := (outsAt0 m c t.val t.isLt).1
/-- What a point leaves in the weight tile. -/
abbrev wbfAt (c : Dev nD) (t : Fin cfg0.N) : Vec Ideal S4096x512 .bf16 := (outsAt0 m c t.val t.isLt).2.1
/-- What a point leaves in the raw product. -/
abbrev accAt (c : Dev nD) (t : Fin cfg0.N) : Vec Ideal S1024x512 .f32 := (outsAt0 m c t.val t.isLt).2.2
/-- The point before. -/
abbrev before (t : Fin cfg0.N) : Fin cfg0.N := ⟨t.val - 1, lt_of_le_of_lt (Nat.sub_le _ _) t.isLt⟩

/-- The points where a new column tile begins. -/
abbrev fresh (t : Fin cfg0.N) : Prop :=
  t.val % 65 = 0 ∨ t.val % 65 = 8 ∨ t.val % 65 = 16 ∨ t.val % 65 = 24 ∨ t.val % 65 = 32 ∨ t.val % 65 = 40 ∨ t.val % 65 = 48 ∨ t.val % 65 = 56

/-- Where a new column tile begins, the weight tile is the block. -/
theorem wbf_fresh (c : Dev nD) (t : Fin cfg0.N) (h1 : fresh t) : wbfAt m c t = wblk m c t := by
  unfold wbfAt
  by_cases h0 : t.val % 65 = 0
  · rw [outsAt0_A m c t h0 h1]
    dsimp only
    frame_out
    exact cast_eq _
  · rw [outsAt0_C m c t h0 h1]
    dsimp only
    frame_out
    exact cast_eq _

/-- Elsewhere the weight tile stays. -/
theorem wbf_kept (c : Dev nD) (t : Fin cfg0.N) (h1 : ¬ fresh t) : wbfAt m c t = wbfAt m c (before t) := by
  unfold wbfAt
  rw [outsAt0_B m c t (fun h => h1 (.inl h)) h1]
  rfl

/-- The raw product after a point. -/
theorem acc_step (c : Dev nD) (t : Fin cfg0.N) (r : Fin 1024) (q : Fin 512) :
    accAt m c t (ix2 r q) = ∑ k : Fin 4096, xblk m c t (ix2 r k) * wbfAt m c t (ix2 k q) := by
  unfold accAt wbfAt
  by_cases h1 : fresh t
  · by_cases h0 : t.val % 65 = 0
    · rw [outsAt0_A m c t h0 h1]
      dsimp only
      frame_out
      generalize k0_pay3 (iblk m c 1 t) = U
      refine canon_append_of_cover [_, _, _, _] [_] _ _ ?_ ?_
      · exact View.cover_of_tiledL _ ![256, 512] (by sl_kernel_rfl) _
      canon_tiles x h <;> exact product_tile _ dot_apply (iblk m c 0 t) U x r q (by have : (r : ℕ) = _ := h0; omega) h1
    · rw [outsAt0_C m c t h0 h1]
      dsimp only
      frame_out
      generalize k0_pay3 (iblk m c 1 t) = U
      canon_tiles x h <;> exact product_tile _ dot_apply (iblk m c 0 t) U x r q (by have : (r : ℕ) = _ := h0; omega) h1
  · rw [outsAt0_B m c t (fun h => h1 (.inl h)) h1]
    dsimp only
    frame_out
    simp only [read_unread_whole]
    generalize (outsAt0 m c _ _).2.1 = U
    canon_tiles x h <;> exact product_tile _ dot_apply (iblk m c 0 t) U x r q (by have : (r : ℕ) = _ := h0; omega) h1

/-- After the first point, the result block is the product the point before left plus the addend's block. -/
theorem out_step (c : Dev nD) (t : Fin cfg0.N) (h0 : t.val ≠ 0) (y : S1024x512.Idx) :
    outAt m c t y = accAt m c (before t) y + sblk m c t y := by
  have ht : t.val < 65 := lt_of_lt_of_eq t.isLt N_0
  have h0 : ¬ t.val % 65 = 0 := by omega
  unfold accAt outAt
  by_cases h1 : fresh t
  · rw [outsAt0_C m c t h0 h1]
    dsimp only
    frame_out
    simp only [read_unread_whole]
    generalize (outsAt0 m c _ _).2.2 = U
    canon_tiles x h <;> exact sum_tile k0_pay4 add_apply U (iblk m c 2 t) x y (by have : (y 0 : ℕ) = _ := h0; omega) h1
  · rw [outsAt0_B m c t h0 h1]
    dsimp only
    frame_out
    simp only [read_unread_whole]
    generalize (outsAt0 m c _ _).2.2 = U
    canon_tiles x h <;> exact sum_tile k0_pay4 add_apply U (iblk m c 2 t) x y (by have : (y 0 : ℕ) = _ := h0; omega) h1

/-- The column tile of a step of the walk (the walk goes down the rows first). -/
abbrev colTile (n : ℕ) : ℕ := min n 63 / 8
/-- The row tile of a step of the walk. -/
abbrev rowTile (n : ℕ) : ℕ := min n 63 % 8

/-- Where the activations' block lies. -/
theorem index0 (t : Fin cfg0.N) : win0_0.index t 0 = rowTile t.val ∧ win0_0.index t 1 = 0 := by
  revert t; decide +kernel
/-- Where the weight's block lies. -/
theorem index1 (t : Fin cfg0.N) : win0_1.index t 0 = 0 ∧ win0_1.index t 1 = colTile t.val := by
  revert t; decide +kernel
/-- Where the addend's block lies: one step behind. -/
theorem index2 (t : Fin cfg0.N) : win0_2.index t 0 = rowTile (t.val - 1) ∧ win0_2.index t 1 = colTile (t.val - 1) := by
  revert t; decide +kernel
/-- Where the result's block lies: one step behind. -/
theorem index3 (t : Fin cfg0.N) : win0_3.index t 0 = rowTile (t.val - 1) ∧ win0_3.index t 1 = colTile (t.val - 1) := by
  revert t; decide +kernel
/-- The written blocks cover the result. -/
theorem covers3 : (cfg0.win 3).Covers := by decide +kernel
/-- Nothing is written back at the first point. -/
theorem flush_pos (t : Fin cfg0.N) (hf : (cfg0.win 3).flush t = true) : t.val ≠ 0 := by
  revert t; decide +kernel

/-- The activations. -/
abbrev aArr (c : Dev nD) : Vec Ideal S8192x4096 .bf16 := m ((c : Thread nD τ).loc main_arg0)
/-- The weight. -/
abbrev wArr (c : Dev nD) : Vec Ideal S4096x4096 .f32 := m ((c : Thread nD τ).loc main_arg1)
/-- The addend. -/
abbrev sArr (c : Dev nD) : Vec Ideal S8192x4096 .f32 := m ((c : Thread nD τ).loc main_arg2)

/-- The activations' block, read off the array. -/
theorem xblk_apply (c : Dev nD) (t : Fin cfg0.N) (r : Fin 1024) (k : Fin 4096) (R : Fin 8192)
    (hR : (R : ℕ) = 1024 * rowTile t.val + r) : xblk m c t (ix2 r k) = aArr m c (ix2 R k) := by
  obtain ⟨e0, e1⟩ := index0 t
  unfold xblk
  blk_simp [iblk]
  refine (congrFun (V_main_arg0 m c) _).trans (congrArg (aArr m c) ?_)
  blk_ext [e0, e1]

/-- The weight's block, read off the array. -/
theorem wblk_apply (c : Dev nD) (t : Fin cfg0.N) (k : Fin 4096) (q : Fin 512) (C : Fin 4096)
    (hC : (C : ℕ) = 512 * colTile t.val + q) : wblk m c t (ix2 k q) = wArr m c (ix2 k C) := by
  obtain ⟨e0, e1⟩ := index1 t
  unfold wblk
  blk_simp [iblk]
  refine (congrFun (V_main_arg1 m c) _).trans (congrArg (wArr m c) ?_)
  blk_ext [e0, e1]

/-- The addend's block, read off the array. -/
theorem sblk_apply (c : Dev nD) (t : Fin cfg0.N) (r : Fin 1024) (q : Fin 512) (R : Fin 8192) (C : Fin 4096)
    (hR : (R : ℕ) = 1024 * rowTile (t.val - 1) + r) (hC : (C : ℕ) = 512 * colTile (t.val - 1) + q) :
    sblk m c t (ix2 r q) = sArr m c (ix2 R C) := by
  obtain ⟨e0, e1⟩ := index2 t
  unfold sblk
  blk_simp [iblk]
  refine (congrFun (V_main_arg2 m c) _).trans (congrArg (sArr m c) ?_)
  blk_ext [e0, e1]

/-- Points of one column tile read one block of the weight. -/
theorem wblk_same (c : Dev nD) (t u : Fin cfg0.N) (h : colTile t.val = colTile u.val) : wblk m c t = wblk m c u := by
  funext y
  have hu : colTile t.val < 8 := by unfold colTile; omega
  have hy : (y 1 : ℕ) < 512 := (y 1).isLt
  rw [eq_ix2 y]
  have C : ∃ C : Fin 4096, (C : ℕ) = 512 * colTile t.val + (y 1 : ℕ) := ⟨⟨512 * colTile t.val + (y 1 : ℕ), by omega⟩, rfl⟩
  obtain ⟨C, hC⟩ := C
  exact (wblk_apply m c t (y 0) (y 1) C hC).trans (wblk_apply m c u (y 0) (y 1) C (by rw [hC, h])).symm

/-- After any point the weight tile is the column tile of that point. -/
theorem wbf_eq (c : Dev nD) (t : Fin cfg0.N) : wbfAt m c t = wblk m c t :=
  kept (wbfAt m c) (wblk m c) fresh (wbf_fresh m c) (fun n h hn => wbf_kept m c ⟨n + 1, h⟩ hn)
    (fun n h hn => wblk_same m c _ _ (by
      have ht : n + 1 < 65 := lt_of_lt_of_eq h N_0
      unfold fresh at hn
      simp only [] at hn
      rw [Nat.mod_eq_of_lt ht] at hn
      unfold colTile
      dsimp only
      omega)) (fun _ => .inl rfl) t.val t.isLt

/-- The addend plus the product. -/
def sum (a : Vec Ideal S8192x4096 .bf16) (w : Vec Ideal S4096x4096 .f32) (s : Vec Ideal S8192x4096 .f32) : Vec Ideal S8192x4096 .f32 :=
  fun j => (∑ k : Fin 4096, a (ix2 (j 0) k) * w (ix2 k (j 1))) + s j

/-- The result array after the run. -/
theorem final (c : Dev nD) : (dats m 0 c).arrAt 3 cfg0.N = sum (aArr m c) (wArr m c) (sArr m c) := by
  refine (dats m 0 c).arrAt_eq_of_covers 3 _ covers3 fun t hf y => ?_
  obtain ⟨e0, e1⟩ := index3 t
  blk_simp
  rw [after0_3]
  have ht := flush_pos t hf
  refine (out_step m c t ht y).trans ?_
  unfold sum
  rw [eq_ix2 y]
  have hr : ∀ R : Fin 8192, (R : ℕ) = win0_3.index t 0 * 1024 + (y 0 : ℕ) → (R : ℕ) = 1024 * rowTile (t.val - 1) + (y 0 : ℕ) :=
    fun R h => by rw [h, e0, Nat.mul_comm]
  have hc : ∀ C : Fin 4096, (C : ℕ) = win0_3.index t 1 * 512 + (y 1 : ℕ) → (C : ℕ) = 512 * colTile (t.val - 1) + (y 1 : ℕ) :=
    fun C h => by rw [h, e1, Nat.mul_comm]
  refine congrArg₂ (· + ·) ?_ ?_
  · refine (acc_step m c (before t) (y 0) (y 1)).trans ?_
    refine Finset.sum_congr rfl fun k _ => congrArg₂ (· * ·) (xblk_apply m c (before t) (y 0) k _ (hr _ ?_)) ?_
    · blk_simp
    · refine (congrFun (wbf_eq m c (before t)) _).trans (wblk_apply m c (before t) k (y 1) _ (hc _ ?_))
      blk_simp
  · refine (sblk_apply m c t (y 0) (y 1) _ _ (hr _ ?_) (hc _ ?_)).trans (congrArg (sArr m c) (eq_ix2 _).symm)
    · blk_simp
    · blk_simp

end Cert.Kernel6Ideal.Value

end
-- ==== Proof.SumClaims.lean ====
/-
  The claims about the two halves of the down projection and the output projection: the programs run and keep their
  arguments, and the kernel's result is the reference's.
-/
module

public import proofs.«01_k».proof.Defs
public import proofs.«01_k».proof.Proof.DownLo
public import proofs.«01_k».proof.Proof.DownHi
public import proofs.«01_k».proof.Proof.OutProj
public import proofs.«01_k».proof.Proof.Gen.Kernel2.Frame
public import proofs.«01_k».proof.Proof.Gen.Kernel3.Frame
public import proofs.«01_k».proof.Proof.Gen.Kernel6.Frame
public import proofs.«01_k».proof.Proof.Gen.Reference2Ideal.Run
public import proofs.«01_k».proof.Proof.Gen.Reference3Ideal.Run
public import proofs.«01_k».proof.Proof.Gen.Reference6Ideal.Run
public import Idealize.ShloMosaic.Lib.Claim

@[expose] public section

set_option maxRecDepth 16384

noncomputable section

namespace Cert.Proof.DownLo

open Idealize.ShloMosaic Idealize.ShloMosaic.TcCoe Idealize.SL.Sem Cert.Tile

/-- The reference of the first half of the down projection runs and keeps its arguments. -/
theorem frame_ref : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The kernel's first half of the down projection is the reference's. -/
theorem algebraic : Cert.algebraic_Kernel2Ideal_Reference2Ideal := by
  pair_intro
  · run_from Cert.Kernel2Ideal.Value.run_blocks m g
  · run_from Cert.Reference2Ideal.Value.run m' g'
    rw [Cert.Kernel2Ideal.Value.final m c]
    funext j
    unfold Cert.Kernel2Ideal.Value.sum
    pointwise
    rw [add_comm]
    try rfl

end Cert.Proof.DownLo

namespace Cert.Proof.DownHi

open Idealize.ShloMosaic Idealize.ShloMosaic.TcCoe Idealize.SL.Sem Cert.Tile

/-- The reference of the second half of the down projection runs and keeps its arguments. -/
theorem frame_ref : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The kernel's second half of the down projection is the reference's. -/
theorem algebraic : Cert.algebraic_Kernel3Ideal_Reference3Ideal := by
  pair_intro
  · run_from Cert.Kernel3Ideal.Value.run_blocks m g
  · run_from Cert.Reference3Ideal.Value.run m' g'
    rw [Cert.Kernel3Ideal.Value.final m c]
    funext j
    unfold Cert.Kernel3Ideal.Value.sum
    pointwise
    rw [add_comm]
    try rfl

end Cert.Proof.DownHi

namespace Cert.Proof.OutProj

open Idealize.ShloMosaic Idealize.ShloMosaic.TcCoe Idealize.SL.Sem Cert.Tile

/-- The reference of the output projection runs and keeps its arguments. -/
theorem frame_ref : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

/-- The kernel's output projection is the reference's. -/
theorem algebraic : Cert.algebraic_Kernel6Ideal_Reference6Ideal := by
  pair_intro
  · run_from Cert.Kernel6Ideal.Value.run_blocks m g
  · run_from Cert.Reference6Ideal.Value.run m' g'
    rw [Cert.Kernel6Ideal.Value.final m c]
    funext j
    unfold Cert.Kernel6Ideal.Value.sum
    pointwise
    rw [add_comm]
    try rfl

end Cert.Proof.OutProj

end
-- ==== Proof.BranchMerge.lean ====
/-
  The merge of the two branches: each branch's projection times its gate, added. What each grid point leaves, where the
  blocks lie, and the result array.
-/
module

public import proofs.«01_k».proof.Proof.Gen.Kernel4Ideal.Value
public import proofs.«01_k».proof.Proof.Product

@[expose] public section

set_option maxRecDepth 16384

noncomputable section

namespace Cert.Kernel4Ideal.Value

open Idealize.ShloMosaic Idealize.ShloMosaic.TcCoe Idealize.SL.Sem
open Idealize.ShloMosaic.Pipeline (Dat)
open Cert.Kernel4Ideal Cert.Kernel4Ideal.Gen Cert.Tile

variable (m : (ℓ : Loc nD τ sig) → Buf (Elt Ideal) ℓ)

/-- One row block of a product. -/
theorem dot_apply (a : Vec Ideal S256x2048 .bf16) (b : Vec Ideal S2048x512 .bf16) (r : Fin 256) (c : Fin 512) :
    k0_pay2 a b (ix2 r c) = ∑ k : Fin 2048, a (ix2 r k) * b (ix2 k c) := by
  unfold k0_pay2
  pointwise

/-- Rounding the first weight's block to bfloat16 changes nothing over the extended reals. -/
theorem cast_eq (v : Vec Ideal S2048x512 .f32) : k0_pay6 v = v := by
  funext y
  unfold k0_pay6
  pointwise

/-- One row block of the merge: each product times its gate, added. -/
theorem mix_apply (a : Vec Ideal S256x512 .f32) (g : Vec Ideal S256x512 .bf16) (b : Vec Ideal S256x512 .f32)
    (h : Vec Ideal S256x512 .bf16) (x : S256x512.Idx) : k0_pay8 a g b h x = a x * g x + b x * h x := by
  unfold k0_pay8
  pointwise

/-- A stored row block of the merge, at an index of the whole buffer. -/
theorem mix_tile (A : Vec Ideal S1024x512 .f32) (G : Vec Ideal S1024x512 .bf16) (B : Vec Ideal S1024x512 .f32)
    (H : Vec Ideal S1024x512 .bf16) {o : ℕ} {i1 i2 i3 i4} (x : S256x512.Idx) (y : S1024x512.Idx)
    (hr : (y 0 : ℕ) = o + x 0) (hq : (y 1 : ℕ) = x 1) :
    k0_pay8 (View.ld (Val := Elt Ideal) A (Rect.unit ![o, 0] ![256, 512] i1)) (View.ld (Val := Elt Ideal) G (Rect.unit ![o, 0] ![256, 512] i2))
      (View.ld (Val := Elt Ideal) B (Rect.unit ![o, 0] ![256, 512] i3)) (View.ld (Val := Elt Ideal) H (Rect.unit ![o, 0] ![256, 512] i4)) x
      = A y * G y + B y * H y :=
  (mix_apply _ _ _ _ x).trans (congrArg₂ (· + ·) (congrArg₂ (· * ·) (ld_rows A x y hr hq) (ld_rows G x y hr hq))
    (congrArg₂ (· * ·) (ld_rows B x y hr hq) (ld_rows H x y hr hq)))

/-- The block of the first branch a point reads. -/
abbrev aBlk (c : Dev nD) (t : Fin cfg0.N) : Vec Ideal S1024x2048 .bf16 := iblk m c 0 t
/-- The block of the first branch's weight. -/
abbrev uBlk (c : Dev nD) (t : Fin cfg0.N) : Vec Ideal S2048x512 .f32 := iblk m c 1 t
/-- The block of the first branch's gates. -/
abbrev gBlk (c : Dev nD) (t : Fin cfg0.N) : Vec Ideal S1024x512 .bf16 := iblk m c 2 t
/-- The block of the second branch a point reads. -/
abbrev bBlk (c : Dev nD) (t : Fin cfg0.N) : Vec Ideal S1024x2048 .bf16 := iblk m c 3 t
/-- The block of the second branch's weight. -/
abbrev vBlk (c : Dev nD) (t : Fin cfg0.N) : Vec Ideal S2048x512 .f32 := iblk m c 4 t
/-- The block of the second branch's gates. -/
abbrev hBlk (c : Dev nD) (t : Fin cfg0.N) : Vec Ideal S1024x512 .bf16 := iblk m c 5 t
/-- What a point leaves in the result block. -/
abbrev outAt (c : Dev nD) (t : Fin cfg0.N) : Vec Ideal S1024x512 .bf16 := (outsAt0 m c t.val t.isLt).1
/-- What a point leaves in the first weight tile. -/
abbrev utAt (c : Dev nD) (t : Fin cfg0.N) : Vec Ideal S2048x512 .bf16 := (outsAt0 m c t.val t.isLt).2.1
/-- What a point leaves in the second weight tile. -/
abbrev vtAt (c : Dev nD) (t : Fin cfg0.N) : Vec Ideal S2048x512 .bf16 := (outsAt0 m c t.val t.isLt).2.2.1
/-- What a point leaves in the first raw product. -/
abbrev paAt (c : Dev nD) (t : Fin cfg0.N) : Vec Ideal S1024x512 .f32 := (outsAt0 m c t.val t.isLt).2.2.2.1
/-- What a point leaves in the second raw product. -/
abbrev pbAt (c : Dev nD) (t : Fin cfg0.N) : Vec Ideal S1024x512 .f32 := (outsAt0 m c t.val t.isLt).2.2.2.2
/-- The point before. -/
abbrev before (t : Fin cfg0.N) : Fin cfg0.N := ⟨t.val - 1, lt_of_le_of_lt (Nat.sub_le _ _) t.isLt⟩

/-- The points where a new column tile begins. -/
abbrev fresh (t : Fin cfg0.N) : Prop :=
  t.val % 65 = 0 ∨ t.val % 65 = 8 ∨ t.val % 65 = 16 ∨ t.val % 65 = 24 ∨ t.val % 65 = 32 ∨ t.val % 65 = 40 ∨ t.val % 65 = 48 ∨ t.val % 65 = 56

/-- Where a new column tile begins, the weight tiles are the blocks. -/
theorem tiles_fresh (c : Dev nD) (t : Fin cfg0.N) (h1 : fresh t) : utAt m c t = uBlk m c t ∧ vtAt m c t = vBlk m c t := by
  unfold utAt vtAt
  by_cases h0 : t.val % 65 = 0
  · rw [outsAt0_A m c t h0 h1]
    dsimp only
    constructor <;> frame_out <;> exact cast_eq _
  · rw [outsAt0_C m c t h0 h1]
    dsimp only
    constructor <;> frame_out <;> exact cast_eq _

/-- Elsewhere the weight tiles stay. -/
theorem tiles_kept (c : Dev nD) (t : Fin cfg0.N) (h1 : ¬ fresh t) : utAt m c t = utAt m c (before t) ∧ vtAt m c t = vtAt m c (before t) := by
  unfold utAt vtAt
  rw [outsAt0_B m c t (fun h => h1 (.inl h)) h1]
  exact ⟨rfl, rfl⟩

/-- The first raw product after a point. -/
theorem pa_step (c : Dev nD) (t : Fin cfg0.N) (r : Fin 1024) (q : Fin 512) :
    paAt m c t (ix2 r q) = ∑ k : Fin 2048, aBlk m c t (ix2 r k) * utAt m c t (ix2 k q) := by
  unfold paAt utAt
  by_cases h1 : fresh t
  · by_cases h0 : t.val % 65 = 0
    · rw [outsAt0_A m c t h0 h1]
      dsimp only
      frame_out
      generalize k0_pay6 (iblk m c 1 t) = U
      refine canon_append_of_cover [_, _, _, _] [_] _ _ ?_ ?_
      · exact View.cover_of_tiledL _ ![256, 512] (by sl_kernel_rfl) _
      canon_tiles x h <;> exact product_tile _ dot_apply (iblk m c 0 t) U x r q (by have : (r : ℕ) = _ := h0; omega) h1
    · rw [outsAt0_C m c t h0 h1]
      dsimp only
      frame_out
      generalize k0_pay6 (iblk m c 1 t) = U
      canon_tiles x h <;> exact product_tile _ dot_apply (iblk m c 0 t) U x r q (by have : (r : ℕ) = _ := h0; omega) h1
  · rw [outsAt0_B m c t (fun h => h1 (.inl h)) h1]
    dsimp only
    frame_out
    simp only [read_unread_whole]
    generalize (outsAt0 m c _ _).2.1 = U
    canon_tiles x h <;> exact product_tile _ dot_apply (iblk m c 0 t) U x r q (by have : (r : ℕ) = _ := h0; omega) h1

/-- The second raw product after a point. -/
theorem pb_step (c : Dev nD) (t : Fin cfg0.N) (r : Fin 1024) (q : Fin 512) :
    pbAt m c t (ix2 r q) = ∑ k : Fin 2048, bBlk m c t (ix2 r k) * vtAt m c t (ix2 k q) := by
  unfold pbAt vtAt
  by_cases h1 : fresh t
  · by_cases h0 : t.val % 65 = 0
    · rw [outsAt0_A m c t h0 h1]
      dsimp only
      frame_out
      generalize k0_pay7 (iblk m c 4 t) = U
      refine canon_append_of_cover [_, _, _, _] [_] _ _ ?_ ?_
      · exact View.cover_of_tiledL _ ![256, 512] (by sl_kernel_rfl) _
      canon_tiles x h <;> exact product_tile _ dot_apply (iblk m c 3 t) U x r q (by have : (r : ℕ) = _ := h0; omega) h1
    · rw [outsAt0_C m c t h0 h1]
      dsimp only
      frame_out
      generalize k0_pay7 (iblk m c 4 t) = U
      canon_tiles x h <;> exact product_tile _ dot_apply (iblk m c 3 t) U x r q (by have : (r : ℕ) = _ := h0; omega) h1
  · rw [outsAt0_B m c t (fun h => h1 (.inl h)) h1]
    dsimp only
    frame_out
    simp only [read_unread_whole]
    generalize (outsAt0 m c _ _).2.2.1 = U
    canon_tiles x h <;> exact product_tile _ dot_apply (iblk m c 3 t) U x r q (by have : (r : ℕ) = _ := h0; omega) h1

/-- After the first point, the result block is the two products the point before left, gated and added. -/
theorem out_step (c : Dev nD) (t : Fin cfg0.N) (h0 : t.val ≠ 0) (y : S1024x512.Idx) :
    outAt m c t y = paAt m c (before t) y * gBlk m c t y + pbAt m c (before t) y * hBlk m c t y := by
  have ht : t.val < 65 := lt_of_lt_of_eq t.isLt N_0
  have h0 : ¬ t.val % 65 = 0 := by omega
  unfold paAt pbAt outAt
  by_cases h1 : fresh t
  · rw [outsAt0_C m c t h0 h1]
    dsimp only
    frame_out
    simp only [read_unread_whole]
    generalize (outsAt0 m c _ _).2.2.2.1 = U
    generalize (outsAt0 m c _ _).2.2.2.2 = W
    canon_tiles x h <;> exact mix_tile U (iblk m c 2 t) W (iblk m c 5 t) x y (by have : (y 0 : ℕ) = _ := h0; omega) h1
  · rw [outsAt0_B m c t h0 h1]
    dsimp only
    frame_out
    simp only [read_unread_whole]
    generalize (outsAt0 m c _ _).2.2.2.1 = U
    generalize (outsAt0 m c _ _).2.2.2.2 = W
    canon_tiles x h <;> exact mix_tile U (iblk m c 2 t) W (iblk m c 5 t) x y (by have : (y 0 : ℕ) = _ := h0; omega) h1

/-- The column tile of a step of the walk (the walk goes down the rows first). -/
abbrev colTile (n : ℕ) : ℕ := min n 63 / 8
/-- The row tile of a step of the walk. -/
abbrev rowTile (n : ℕ) : ℕ := min n 63 % 8

/-- Where the first branch's block lies. -/
theorem index0 (t : Fin cfg0.N) : win0_0.index t 0 = rowTile t.val ∧ win0_0.index t 1 = 0 := by
  revert t; decide +kernel
/-- Where the first weight's block lies. -/
theorem index1 (t : Fin cfg0.N) : win0_1.index t 0 = 0 ∧ win0_1.index t 1 = colTile t.val := by
  revert t; decide +kernel
/-- Where the first branch's gates lie: one step behind. -/
theorem index2 (t : Fin cfg0.N) : win0_2.index t 0 = rowTile (t.val - 1) ∧ win0_2.index t 1 = colTile (t.val - 1) := by
  revert t; decide +kernel
/-- Where the second branch's block lies. -/
theorem index3 (t : Fin cfg0.N) : win0_3.index t 0 = rowTile t.val ∧ win0_3.index t 1 = 0 := by
  revert t; decide +kernel
/-- Where the second weight's block lies. -/
theorem index4 (t : Fin cfg0.N) : win0_4.index t 0 = 0 ∧ win0_4.index t 1 = colTile t.val := by
  revert t; decide +kernel
/-- Where the second branch's gates lie: one step behind, past the first branch's eight tiles. -/
theorem index5 (t : Fin cfg0.N) : win0_5.index t 0 = rowTile (t.val - 1) ∧ win0_5.index t 1 = 8 + colTile (t.val - 1) := by
  revert t; decide +kernel
/-- Where the result's block lies: one step behind. -/
theorem index6 (t : Fin cfg0.N) : win0_6.index t 0 = rowTile (t.val - 1) ∧ win0_6.index t 1 = colTile (t.val - 1) := by
  revert t; decide +kernel
/-- The written blocks cover the result. -/
theorem covers6 : (cfg0.win 6).Covers := by decide +kernel
/-- Nothing is written back at the first point. -/
theorem flush_pos (t : Fin cfg0.N) (hf : (cfg0.win 6).flush t = true) : t.val ≠ 0 := by
  revert t; decide +kernel

/-- The first branch. -/
abbrev aArr (c : Dev nD) : Vec Ideal S8192x2048 .bf16 := m ((c : Thread nD τ).loc main_arg0)
/-- The first branch's weight. -/
abbrev uArr (c : Dev nD) : Vec Ideal S2048x4096 .f32 := m ((c : Thread nD τ).loc main_arg1)
/-- The second branch. -/
abbrev bArr (c : Dev nD) : Vec Ideal S8192x2048 .bf16 := m ((c : Thread nD τ).loc main_arg2)
/-- The second branch's weight. -/
abbrev vArr (c : Dev nD) : Vec Ideal S2048x4096 .f32 := m ((c : Thread nD τ).loc main_arg3)
/-- The gates of both branches. -/
abbrev gArr (c : Dev nD) : Vec Ideal S8192x8192 .bf16 := m ((c : Thread nD τ).loc main_arg4)

/-- A column of the first branch's gates. -/
def gateA (C : Fin 4096) : Fin 8192 := ⟨C.val, by omega⟩
/-- A column of the second branch's gates. -/
def gateB (C : Fin 4096) : Fin 8192 := ⟨4096 + C.val, by omega⟩

/-- The first branch's block, read off the array. -/
theorem aBlk_apply (c : Dev nD) (t : Fin cfg0.N) (r : Fin 1024) (k : Fin 2048) (R : Fin 8192)
    (hR : (R : ℕ) = 1024 * rowTile t.val + r) : aBlk m c t (ix2 r k) = aArr m c (ix2 R k) := by
  obtain ⟨e0, e1⟩ := index0 t
  unfold aBlk
  blk_simp [iblk]
  refine (congrFun (V_main_arg0 m c) _).trans (congrArg (aArr m c) ?_)
  blk_ext [e0, e1]

/-- The second branch's block, read off the array. -/
theorem bBlk_apply (c : Dev nD) (t : Fin cfg0.N) (r : Fin 1024) (k : Fin 2048) (R : Fin 8192)
    (hR : (R : ℕ) = 1024 * rowTile t.val + r) : bBlk m c t (ix2 r k) = bArr m c (ix2 R k) := by
  obtain ⟨e0, e1⟩ := index3 t
  unfold bBlk
  blk_simp [iblk]
  refine (congrFun (V_main_arg2 m c) _).trans (congrArg (bArr m c) ?_)
  blk_ext [e0, e1]

/-- The first weight's block, read off the array. -/
theorem uBlk_apply (c : Dev nD) (t : Fin cfg0.N) (k : Fin 2048) (q : Fin 512) (C : Fin 4096)
    (hC : (C : ℕ) = 512 * colTile t.val + q) : uBlk m c t (ix2 k q) = uArr m c (ix2 k C) := by
  obtain ⟨e0, e1⟩ := index1 t
  unfold uBlk
  blk_simp [iblk]
  refine (congrFun (V_main_arg1 m c) _).trans (congrArg (uArr m c) ?_)
  blk_ext [e0, e1]

/-- The second weight's block, read off the array. -/
theorem vBlk_apply (c : Dev nD) (t : Fin cfg0.N) (k : Fin 2048) (q : Fin 512) (C : Fin 4096)
    (hC : (C : ℕ) = 512 * colTile t.val + q) : vBlk m c t (ix2 k q) = vArr m c (ix2 k C) := by
  obtain ⟨e0, e1⟩ := index4 t
  unfold vBlk
  blk_simp [iblk]
  refine (congrFun (V_main_arg3 m c) _).trans (congrArg (vArr m c) ?_)
  blk_ext [e0, e1]

/-- The first branch's gates, read off the array. -/
theorem gBlk_apply (c : Dev nD) (t : Fin cfg0.N) (r : Fin 1024) (q : Fin 512) (R : Fin 8192) (C : Fin 4096)
    (hR : (R : ℕ) = 1024 * rowTile (t.val - 1) + r) (hC : (C : ℕ) = 512 * colTile (t.val - 1) + q) :
    gBlk m c t (ix2 r q) = gArr m c (ix2 R (gateA C)) := by
  obtain ⟨e0, e1⟩ := index2 t
  unfold gBlk
  blk_simp [iblk]
  refine (congrFun (V_main_arg4 m c) _).trans (congrArg (gArr m c) ?_)
  blk_ext [e0, e1, gateA]

/-- The second branch's gates, read off the array. -/
theorem hBlk_apply (c : Dev nD) (t : Fin cfg0.N) (r : Fin 1024) (q : Fin 512) (R : Fin 8192) (C : Fin 4096)
    (hR : (R : ℕ) = 1024 * rowTile (t.val - 1) + r) (hC : (C : ℕ) = 512 * colTile (t.val - 1) + q) :
    hBlk m c t (ix2 r q) = gArr m c (ix2 R (gateB C)) := by
  obtain ⟨e0, e1⟩ := index5 t
  unfold hBlk
  blk_simp [iblk]
  refine (congrFun (V_main_arg4 m c) _).trans (congrArg (gArr m c) ?_)
  blk_ext [e0, e1, gateB]

/-- Points of one column tile read one block of either weight. -/
theorem blocks_same (c : Dev nD) (t u : Fin cfg0.N) (h : colTile t.val = colTile u.val) :
    uBlk m c t = uBlk m c u ∧ vBlk m c t = vBlk m c u := by
  have ht : colTile t.val < 8 := by unfold colTile; omega
  constructor <;> funext y
  · have hy : (y 1 : ℕ) < 512 := (y 1).isLt
    obtain ⟨C, hC⟩ : ∃ C : Fin 4096, (C : ℕ) = 512 * colTile t.val + (y 1 : ℕ) := ⟨⟨512 * colTile t.val + (y 1 : ℕ), by omega⟩, rfl⟩
    rw [eq_ix2 y]
    exact (uBlk_apply m c t (y 0) (y 1) C hC).trans (uBlk_apply m c u (y 0) (y 1) C (by rw [hC, h])).symm
  · have hy : (y 1 : ℕ) < 512 := (y 1).isLt
    obtain ⟨C, hC⟩ : ∃ C : Fin 4096, (C : ℕ) = 512 * colTile t.val + (y 1 : ℕ) := ⟨⟨512 * colTile t.val + (y 1 : ℕ), by omega⟩, rfl⟩
    rw [eq_ix2 y]
    exact (vBlk_apply m c t (y 0) (y 1) C hC).trans (vBlk_apply m c u (y 0) (y 1) C (by rw [hC, h])).symm

/-- Where the weight tiles are kept, the column tile is the one of the point before. -/
theorem colTile_kept (n : ℕ) (h : n + 1 < cfg0.N) (hn : ¬ fresh ⟨n + 1, h⟩) : colTile (n + 1) = colTile n := by
  have ht : n + 1 < 65 := lt_of_lt_of_eq h N_0
  unfold fresh at hn
  simp only [] at hn
  rw [Nat.mod_eq_of_lt ht] at hn
  unfold colTile
  omega

/-- After any point the weight tiles are the column tiles of that point. -/
theorem tiles_eq (c : Dev nD) (t : Fin cfg0.N) : utAt m c t = uBlk m c t ∧ vtAt m c t = vBlk m c t :=
  ⟨kept (utAt m c) (uBlk m c) fresh (fun t h => (tiles_fresh m c t h).1) (fun n h hn => (tiles_kept m c ⟨n + 1, h⟩ hn).1)
      (fun n h hn => (blocks_same m c _ _ (colTile_kept n h hn)).1) (fun _ => .inl rfl) t.val t.isLt,
    kept (vtAt m c) (vBlk m c) fresh (fun t h => (tiles_fresh m c t h).2) (fun n h hn => (tiles_kept m c ⟨n + 1, h⟩ hn).2)
      (fun n h hn => (blocks_same m c _ _ (colTile_kept n h hn)).2) (fun _ => .inl rfl) t.val t.isLt⟩

/-- The first raw product, over the arrays. -/
theorem pa_apply (c : Dev nD) (t : Fin cfg0.N) (r : Fin 1024) (q : Fin 512) (R : Fin 8192) (C : Fin 4096)
    (hR : (R : ℕ) = 1024 * rowTile t.val + r) (hC : (C : ℕ) = 512 * colTile t.val + q) :
    paAt m c t (ix2 r q) = ∑ k : Fin 2048, aArr m c (ix2 R k) * uArr m c (ix2 k C) :=
  (pa_step m c t r q).trans (Finset.sum_congr rfl fun k _ => congrArg₂ (· * ·) (aBlk_apply m c t r k R hR)
    ((congrFun (tiles_eq m c t).1 _).trans (uBlk_apply m c t k q C hC)))

/-- The second raw product, over the arrays. -/
theorem pb_apply (c : Dev nD) (t : Fin cfg0.N) (r : Fin 1024) (q : Fin 512) (R : Fin 8192) (C : Fin 4096)
    (hR : (R : ℕ) = 1024 * rowTile t.val + r) (hC : (C : ℕ) = 512 * colTile t.val + q) :
    pbAt m c t (ix2 r q) = ∑ k : Fin 2048, bArr m c (ix2 R k) * vArr m c (ix2 k C) :=
  (pb_step m c t r q).trans (Finset.sum_congr rfl fun k _ => congrArg₂ (· * ·) (bBlk_apply m c t r k R hR)
    ((congrFun (tiles_eq m c t).2 _).trans (vBlk_apply m c t k q C hC)))

/-- Each branch's projection times its gates, added. -/
def merged (a : Vec Ideal S8192x2048 .bf16) (u : Vec Ideal S2048x4096 .f32) (b : Vec Ideal S8192x2048 .bf16)
    (v : Vec Ideal S2048x4096 .f32) (g : Vec Ideal S8192x8192 .bf16) : Vec Ideal S8192x4096 .bf16 := fun j =>
  (∑ k : Fin 2048, a (ix2 (j 0) k) * u (ix2 k (j 1))) * g (ix2 (j 0) (gateA (j 1)))
    + (∑ k : Fin 2048, b (ix2 (j 0) k) * v (ix2 k (j 1))) * g (ix2 (j 0) (gateB (j 1)))

/-- The result array after the run. -/
theorem final (c : Dev nD) :
    (dats m 0 c).arrAt 6 cfg0.N = merged (aArr m c) (uArr m c) (bArr m c) (vArr m c) (gArr m c) := by
  refine (dats m 0 c).arrAt_eq_of_covers 6 _ covers6 fun t hf y => ?_
  obtain ⟨e0, e1⟩ := index6 t
  blk_simp
  rw [after0_6]
  have ht := flush_pos t hf
  refine (out_step m c t ht y).trans ?_
  unfold merged
  rw [eq_ix2 y]
  have hr : ∀ R : Fin 8192, (R : ℕ) = win0_6.index t 0 * 1024 + (y 0 : ℕ) → (R : ℕ) = 1024 * rowTile (t.val - 1) + (y 0 : ℕ) :=
    fun R h => by rw [h, e0, Nat.mul_comm]
  have hc : ∀ C : Fin 4096, (C : ℕ) = win0_6.index t 1 * 512 + (y 1 : ℕ) → (C : ℕ) = 512 * colTile (t.val - 1) + (y 1 : ℕ) :=
    fun C h => by rw [h, e1, Nat.mul_comm]
  refine congrArg₂ (· + ·) (congrArg₂ (· * ·) (pa_apply m c (before t) (y 0) (y 1) _ _ (hr _ ?_) (hc _ ?_)) (gBlk_apply m c t (y 0) (y 1) _ _ (hr _ ?_) (hc _ ?_)))
    (congrArg₂ (· * ·) (pb_apply m c (before t) (y 0) (y 1) _ _ (hr _ ?_) (hc _ ?_)) (hBlk_apply m c t (y 0) (y 1) _ _ (hr _ ?_) (hc _ ?_))) <;> blk_simp

end Cert.Kernel4Ideal.Value

end
-- ==== Proof.FinalNorm.lean ====
/-
  The final root-mean-square norm: what a point writes, where the blocks lie, and the result array.
-/
module

public import proofs.«01_k».proof.Proof.Gen.Kernel7Ideal.Value
public import proofs.«01_k».proof.Proof.Product

@[expose] public section

set_option maxRecDepth 16384

noncomputable section

namespace Cert.Kernel7Ideal.Value

open Idealize.ShloMosaic Idealize.ShloMosaic.TcCoe Idealize.SL.Sem
open Idealize.ShloMosaic.Pipeline (Dat)
open Cert.Kernel7Ideal Cert.Kernel7Ideal.Gen Cert.Tile

variable (m : (ℓ : Loc nD τ sig) → Buf (Elt Ideal) ℓ)

/-- The number of columns, as the program writes it. -/
def width : EReal := Scalar.ofBits (F := Ideal) .f32 0x45800000#32
/-- The small constant under the root, as the program writes it. -/
def small : EReal := Scalar.ofBits (F := Ideal) .f32 0x358637BD#32

/-- One element of the norm: the element over the root of its row's mean square, times the weight. -/
def normed (x : Fin 4096 → EReal) (w : EReal) (q : Fin 4096) : EReal :=
  x q * Ideal.rsqrt (Ideal.div (∑ k : Fin 4096, x k * x k) width + small) * w

/-- What a point computes from its block of rows. -/
theorem norm_apply (a : Vec Ideal S512x4096 .f32) (w : Vec Ideal S1x4096 .f32) (r : Fin 512) (q : Fin 4096) :
    k0_pay1 a w (ix2 r q) = normed (fun k => a (ix2 r k)) (w (ix2 0 q)) q := by
  unfold k0_pay1 normed width small
  pointwise

/-- The block of rows a point reads. -/
abbrev xblk (c : Dev nD) (t : Fin cfg0.N) : Vec Ideal S512x4096 .f32 := iblk m c 0 t
/-- The weight, one row. -/
abbrev wblk (c : Dev nD) (t : Fin cfg0.N) : Vec Ideal S1x4096 .f32 := iblk m c 1 t
/-- The input. -/
abbrev xArr (c : Dev nD) : Vec Ideal S8192x4096 .f32 := m ((c : Thread nD τ).loc main_arg0)
/-- The weight. -/
abbrev wArr (c : Dev nD) : Vec Ideal S4096 .f32 := m ((c : Thread nD τ).loc main_arg1)

/-- Where the input's block lies. -/
theorem index0 (t : Fin cfg0.N) : win0_0.index t 0 = t.val ∧ win0_0.index t 1 = 0 := by
  revert t; decide +kernel
/-- Where the weight's block lies. -/
theorem index1 (t : Fin cfg0.N) : win0_1.index t 0 = 0 ∧ win0_1.index t 1 = 0 := by
  revert t; decide +kernel
/-- Where the result's block lies. -/
theorem index2 (t : Fin cfg0.N) : win0_2.index t 0 = t.val ∧ win0_2.index t 1 = 0 := by
  revert t; decide +kernel
/-- The written blocks cover the result. -/
theorem covers2 : (cfg0.win 2).Covers := by decide +kernel

/-- The input's block, read off the array. -/
theorem xblk_apply (c : Dev nD) (t : Fin cfg0.N) (r : Fin 512) (k : Fin 4096) (R : Fin 8192)
    (hR : (R : ℕ) = 512 * t.val + r) : xblk m c t (ix2 r k) = xArr m c (ix2 R k) := by
  obtain ⟨e0, e1⟩ := index0 t
  unfold xblk
  blk_simp [iblk]
  refine (congrFun (V_main_arg0 m c) _).trans (congrArg (xArr m c) ?_)
  blk_ext [e0, e1]

/-- The weight's row, read off the array. -/
theorem wblk_apply (c : Dev nD) (t : Fin cfg0.N) (q : Fin 4096) : wblk m c t (ix2 0 q) = wArr m c (ix1 q) := by
  obtain ⟨e0, e1⟩ := index1 t
  unfold wblk
  blk_simp [iblk]
  have e : ((win0_1.blk t).view.emb (ix2 0 q) : S1x4096.Idx) = ix2 0 q := by
    blk_ext [e0, e1]
  rw [e]
  entry_read
  pointwise

/-- The norm of every row. -/
def norm (x : Vec Ideal S8192x4096 .f32) (w : Vec Ideal S4096 .f32) : Vec Ideal S8192x4096 .f32 := fun j =>
  normed (fun k => x (ix2 (j 0) k)) (w (ix1 (j 1))) (j 1)

/-- The result array after the run. -/
theorem final (c : Dev nD) : (dats m 0 c).arrAt 2 cfg0.N = norm (xArr m c) (wArr m c) := by
  refine (dats m 0 c).arrAt_eq_of_covers 2 _ covers2 fun t hf y => ?_
  obtain ⟨e0, e1⟩ := index2 t
  blk_simp
  rw [after0_2]
  frame_out
  rw [eq_ix2 y]
  refine (norm_apply (iblk m c 0 t) (iblk m c 1 t) (y 0) (y 1)).trans ?_
  unfold norm
  have h1 : ((win0_2.blk t).view.emb (ix2 (y 0) (y 1)) : S8192x4096.Idx) 1 = y 1 := by
    apply Fin.ext
    blk_simp
    rw [e1]
    exact Nat.zero_add _
  rw [h1]
  refine congrArg₂ (fun a b => normed a b (y 1)) (funext fun k => ?_) (wblk_apply m c t (y 1))
  refine xblk_apply m c t (y 0) k _ ?_
  blk_simp
  rw [e0]
  exact congrArg (· + _) (Nat.mul_comm _ _)

end Cert.Kernel7Ideal.Value

end
-- ==== Proof.MergeClaims.lean ====
/-
  The claims about the merge of the branches and the final norm: the programs run and keep their
  arguments, and the kernel's result is the reference's.
-/
module

public import proofs.«01_k».proof.Defs
public import proofs.«01_k».proof.Proof.BranchMerge
public import proofs.«01_k».proof.Proof.FinalNorm
public import proofs.«01_k».proof.Proof.Gen.Kernel4.Frame
public import proofs.«01_k».proof.Proof.Gen.Kernel7.Frame
public import proofs.«01_k».proof.Proof.Gen.Reference4Ideal.Run
public import proofs.«01_k».proof.Proof.Gen.Reference7Ideal.Run
public import Idealize.ShloMosaic.Lib.Claim

@[expose] public section

set_option maxRecDepth 16384

noncomputable section

namespace Cert.Proof.BranchMerge

open Idealize.ShloMosaic Idealize.ShloMosaic.TcCoe Idealize.SL.Sem Cert.Tile

/-- The reference of the merge of the branches runs and keeps its arguments. -/
theorem frame_ref : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The kernel's merge of the branches is the reference's. -/
theorem algebraic : Cert.algebraic_Kernel4Ideal_Reference4Ideal := by
  pair_intro
  · run_from Cert.Kernel4Ideal.Value.run_blocks m g
  · run_from Cert.Reference4Ideal.Value.run m' g'
    rw [Cert.Kernel4Ideal.Value.final m c]
    funext j
    unfold Cert.Kernel4Ideal.Value.merged Cert.Kernel4Ideal.Value.gateA Cert.Kernel4Ideal.Value.gateB
    pointwise
    refine congrArg₂ (· + ·) (mul_comm _ _) (mul_comm _ _)

end Cert.Proof.BranchMerge

namespace Cert.Proof.FinalNorm

open Idealize.ShloMosaic Idealize.ShloMosaic.TcCoe Idealize.SL.Sem Cert.Tile

/-- The reference of the final norm runs and keeps its arguments. -/
theorem frame_ref : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

/-- The kernel's final norm is the reference's. -/
theorem algebraic : Cert.algebraic_Kernel7Ideal_Reference7Ideal := by
  pair_intro
  · run_from Cert.Kernel7Ideal.Value.run_blocks m g
  · run_from Cert.Reference7Ideal.Value.run m' g'
    rw [Cert.Kernel7Ideal.Value.final m c]
    funext j
    unfold Cert.Kernel7Ideal.Value.norm Cert.Kernel7Ideal.Value.normed Cert.Kernel7Ideal.Value.width Cert.Kernel7Ideal.Value.small
    pointwise

end Cert.Proof.FinalNorm

end
-- ==== Proof.FfnUpRun.lean ====
/-
  The feed-forward up projection: the kernel's body, run. At a point the body may first clear the two row buffers (the
  first point) and refill the two weight tiles (the points where a new column of tiles begins); then it writes the tile of
  the step before and the two products of this step. Each run below finds what the stores leave in each buffer.
-/
module

public import proofs.«01_k».proof.Proof.Gen.Kernel5Ideal.Frame
public import proofs.«01_k».proof.Proof.Gen.Kernel5Ideal.Skeleton

@[expose] public section

set_option maxRecDepth 16384

noncomputable section

namespace Cert.Kernel5Ideal.Up

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body's two branch conditions -/

/-- Whether the body clears the row buffers. -/
abbrev clears (i : grid0.Coords) : Prop :=
  (Scalar.cmpi .ne (Scalar.extui (Scalar.cmpi .eq (BitVec.ofNat 32 (i 0).val) 0#32)) 0#32) = 1#1

/-- The number of tiles by which the steps are taken modulo, as the body computes it. -/
abbrev tiles : BitVec 32 := Scalar.select (Scalar.cmpi .eq 4#32 0#32) 1#32 4#32

/-- The row of the tile whose products a step computes. -/
abbrev tileRow (i : grid0.Coords) : BitVec 32 :=
  let x := Scalar.remsi (Scalar.minsi (BitVec.ofNat 32 (i 0).val) 171#32) tiles
  Scalar.select (Scalar.andi (Scalar.xori (Scalar.cmpi .slt x 0#32) (Scalar.cmpi .slt tiles 0#32)) (Scalar.cmpi .ne x 0#32))
    (Scalar.addi x tiles) x

/-- Whether the body refills the weight tiles. -/
abbrev fills (i : grid0.Coords) : Prop :=
  (Scalar.cmpi .ne (Scalar.extui (Scalar.cmpi .eq (tileRow i) 0#32)) 0#32) = 1#1

theorem clears_iff : ∀ t : Fin cfg0.N, clears (grid0.coords t) ↔ t.val = 0 :=
  (by decide +kernel : ∀ t : Fin grid0.N, clears (grid0.coords t) ↔ t.val = 0)

theorem fills_iff : ∀ t : Fin cfg0.N, fills (grid0.coords t) ↔ t.val % 4 = 0 ∧ t.val < 172 :=
  (by decide +kernel : ∀ t : Fin grid0.N, fills (grid0.coords t) ↔ t.val % 4 = 0 ∧ t.val < 172)

/-! ## The runs -/

variable (c : Dev nD) (i : grid0.Coords)
  (arg1 : Memref sig .tc .vmem S2048x4096 .bf16) (harg1 : arg1.IsWhole)
  (arg2 arg3 : Memref sig .tc .vmem S4096x256 .f32) (harg2 : arg2.IsWhole) (harg3 : arg3.IsWhole)
  (arg4 arg5 : Memref sig .tc .vmem S3x256 .f32) (harg4 : arg4.IsWhole) (harg5 : arg5.IsWhole)
  (arg6 arg7 : Memref sig .tc .vmem S1x256 .f32) (harg6 : arg6.IsWhole) (harg7 : arg7.IsWhole)
  (arg8 : Memref sig .tc .vmem S2048x256 .bf16) (harg8 : arg8.IsWhole)
  (arg9 arg10 : Memref sig .tc .vmem S4096x256 .bf16) (harg9 : arg9.IsWhole) (harg10 : arg10.IsWhole)
  (arg11 arg12 : Memref sig .tc .vmem S2056x256 .f32) (harg11 : arg11.IsWhole) (harg12 : arg12.IsWhole)
  (x0 : Vec F S2048x4096 .bf16) (x1 x2 : Vec F S4096x256 .f32) (x3 x4 : Vec F S3x256 .f32) (x5 x6 : Vec F S1x256 .f32)
  (wg wv : Vec F S4096x256 .bf16) (ug uv : Vec F S2056x256 .f32)

/-- The input windows' buffers at their blocks. -/
def ins : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4
    ∗ owns (c : Thread nD τ) arg6 fullShare x5 ∗ owns (c : Thread nD τ) arg7 fullShare x6)

/-- A buffer with a list of stores written into it, over something. -/
def stored {s : Shape} {e : EltTy} (a : Memref sig .tc .vmem s e) (L : List (View.Piece (Elt F) s e)) : sProp 𝕄 :=
  iprop(∃ f, a.view.loc (c : Thread nD τ) ↦[a.view.set]{fullShare} a.view.writes (Elt F) f L)

/-- A whole buffer at named contents, owned. -/
theorem held {s : Shape} {e : EltTy} (a : Memref sig .tc .vmem s e) (ha : a.IsWhole) (x : Vec F s e) :
    (a.view.loc (c : Thread nD τ) ↦[a.view.set]{fullShare} ha.unread x : sProp 𝕄) ⊢ owns (c : Thread nD τ) a fullShare x := by
  unfold owns
  iintro H
  iexists _
  isplitr
  · ipureintro; exact ha.read_unread _
  iexact H

/-- A buffer whose stores cover it, owned at what they leave. -/
theorem owned {s : Shape} {e : EltTy} (a : Memref sig .tc .vmem s e) (L : List (View.Piece (Elt F) s e))
    (h : ∀ y, ∃ p ∈ L, y ∈ p.1.set) : (stored c a L : sProp 𝕄) ⊢ owns (c : Thread nD τ) a fullShare (View.canon L) := by
  unfold stored owns
  iintro ⟨%f, H⟩
  iexists _
  isplitr
  swap
  · iexact H
  ipureintro
  exact View.read_writes_eq_canon _ _ _ h

/-- The input windows' buffers, each whole at its block, are the input windows' buffers at their blocks. -/
theorem back : iprop((arg1.view.loc (c : Thread nD τ) ↦[arg1.view.set]{fullShare} harg1.unread x0)
      ∗ (arg2.view.loc (c : Thread nD τ) ↦[arg2.view.set]{fullShare} harg2.unread x1)
      ∗ (arg3.view.loc (c : Thread nD τ) ↦[arg3.view.set]{fullShare} harg3.unread x2)
      ∗ (arg4.view.loc (c : Thread nD τ) ↦[arg4.view.set]{fullShare} harg4.unread x3)
      ∗ (arg5.view.loc (c : Thread nD τ) ↦[arg5.view.set]{fullShare} harg5.unread x4)
      ∗ (arg6.view.loc (c : Thread nD τ) ↦[arg6.view.set]{fullShare} harg6.unread x5)
      ∗ (arg7.view.loc (c : Thread nD τ) ↦[arg7.view.set]{fullShare} harg7.unread x6))
    ⊢ (ins c arg1 arg2 arg3 arg4 arg5 arg6 arg7 x0 x1 x2 x3 x4 x5 x6 : sProp 𝕄) := by
  unfold ins
  iintro ⟨H0, H1, H2, H3, H4, H5, H6⟩
  isplitl [H0]; · iapply held c arg1 harg1 x0; iexact H0
  isplitl [H1]; · iapply held c arg2 harg2 x1; iexact H1
  isplitl [H2]; · iapply held c arg3 harg3 x2; iexact H2
  isplitl [H3]; · iapply held c arg4 harg4 x3; iexact H3
  isplitl [H4]; · iapply held c arg5 harg5 x4; iexact H4
  isplitl [H5]; · iapply held c arg6 harg6 x5; iexact H5
  iapply held c arg7 harg7 x6; iexact H6

/-- The body at the point, on these buffers. -/
abbrev body : Prog (TpuEff nD τ sig (Elt F) Λ₀ .tc) PUnit :=
  cc0_ffn_up_conv_gate i arg1 harg1 arg2 harg2 arg3 harg3 arg4 harg4 arg5 harg5 arg6 harg6 arg7 harg7 arg8 harg8 arg9 harg9
    arg10 harg10 arg11 harg11 arg12 harg12

set_option maxHeartbeats 4000000 in
/-- A point that neither clears nor refills. -/
def runKeep (hc : ¬ clears i) (hf : ¬ fills i) :
    Σ' (L8 : List (View.Piece (Elt F) S2048x256 .bf16)) (L11 : List (View.Piece (Elt F) S2056x256 .f32)),
      { L12 : List (View.Piece (Elt F) S2056x256 .f32) // ∀ (E : Set ℕ) (K : PUnit → sProp 𝕄),
        iprop(ins c arg1 arg2 arg3 arg4 arg5 arg6 arg7 x0 x1 x2 x3 x4 x5 x6 ∗ (∃ d, owns (c : Thread nD τ) arg8 fullShare d)
            ∗ owns (c : Thread nD τ) arg9 fullShare wg ∗ owns (c : Thread nD τ) arg10 fullShare wv
            ∗ owns (c : Thread nD τ) arg11 fullShare ug ∗ owns (c : Thread nD τ) arg12 fullShare uv
            ∗ (iprop(ins c arg1 arg2 arg3 arg4 arg5 arg6 arg7 x0 x1 x2 x3 x4 x5 x6 ∗ stored c arg8 L8
                ∗ owns (c : Thread nD τ) arg9 fullShare wg ∗ owns (c : Thread nD τ) arg10 fullShare wv
                ∗ stored c arg11 L11 ∗ stored c arg12 L12) -∗ K ⟨⟩))
          ⊢ wp frame (wpE (defs₀ (F := F)) Variants.none c none) E
              (body i arg1 harg1 arg2 arg3 harg2 harg3 arg4 arg5 harg4 harg5 arg6 arg7 harg6 harg7 arg8 harg8 arg9 arg10 harg9
                harg10 arg11 arg12 harg11 harg12) K } := by
  refine ⟨?_, ?_, ?_, fun E K => ?run⟩
  case run =>
    unfold body
    rw [cc0_ffn_up_conv_gate_eq_skeleton]; unfold cc0_ffn_up_conv_gate_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton]
    unfold ins stored owns
    iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩⟩,
      ⟨%d7, %f7, -, H7⟩, ⟨%g0, %k0, S0⟩, ⟨%g1, %k1, S1⟩, ⟨%g2, %k2, S2⟩, ⟨%g3, %k3, S3⟩, Hk⟩
    obtain rfl := harg1.eq_unread h0; obtain rfl := harg2.eq_unread h1; obtain rfl := harg3.eq_unread h2
    obtain rfl := harg4.eq_unread h3; obtain rfl := harg5.eq_unread h4; obtain rfl := harg6.eq_unread h5
    obtain rfl := harg7.eq_unread h6
    obtain rfl := harg9.eq_unread k0; obtain rfl := harg10.eq_unread k1
    obtain rfl := harg11.eq_unread k2; obtain rfl := harg12.eq_unread k3
    sl_exec (disch := first | sl_exact hc | sl_exact hf)
    sl_step
    iapply Hk
    isplitl [H0 H1 H2 H3 H4 H5 H6]
    · have hb := back (F := F) c arg1 harg1 arg2 arg3 harg2 harg3 arg4 arg5 harg4 harg5 arg6 arg7 harg6 harg7 x0 x1 x2 x3 x4 x5 x6
      unfold ins owns at hb
      iapply hb
      isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [S0]
    · iexists _; isplitr
      · ipureintro; exact harg9.read_unread _
      iexact S0
    isplitl [S1]
    · iexists _; isplitr
      · ipureintro; exact harg10.read_unread _
      iexact S1
    isplitl [S2]; · iexists _; iexact S2
    iexists _; iexact S3

set_option maxHeartbeats 4000000 in
/-- A point that refills the weight tiles. -/
def runFill (hc : ¬ clears i) (hf : fills i) :
    Σ' (L8 : List (View.Piece (Elt F) S2048x256 .bf16)) (L9 L10 : List (View.Piece (Elt F) S4096x256 .bf16)) (L11 : List (View.Piece (Elt F) S2056x256 .f32)),
      { L12 : List (View.Piece (Elt F) S2056x256 .f32) // ∀ (E : Set ℕ) (K : PUnit → sProp 𝕄),
        iprop(ins c arg1 arg2 arg3 arg4 arg5 arg6 arg7 x0 x1 x2 x3 x4 x5 x6 ∗ (∃ d, owns (c : Thread nD τ) arg8 fullShare d)
            ∗ (∃ d, owns (c : Thread nD τ) arg9 fullShare d) ∗ (∃ d, owns (c : Thread nD τ) arg10 fullShare d)
            ∗ owns (c : Thread nD τ) arg11 fullShare ug ∗ owns (c : Thread nD τ) arg12 fullShare uv
            ∗ (iprop(ins c arg1 arg2 arg3 arg4 arg5 arg6 arg7 x0 x1 x2 x3 x4 x5 x6 ∗ stored c arg8 L8
                ∗ stored c arg9 L9 ∗ stored c arg10 L10
                ∗ stored c arg11 L11 ∗ stored c arg12 L12) -∗ K ⟨⟩))
          ⊢ wp frame (wpE (defs₀ (F := F)) Variants.none c none) E
              (body i arg1 harg1 arg2 arg3 harg2 harg3 arg4 arg5 harg4 harg5 arg6 arg7 harg6 harg7 arg8 harg8 arg9 arg10 harg9
                harg10 arg11 arg12 harg11 harg12) K } := by
  refine ⟨?_, ?_, ?_, ?_, ?_, fun E K => ?run⟩
  case run =>
    unfold body
    rw [cc0_ffn_up_conv_gate_eq_skeleton]; unfold cc0_ffn_up_conv_gate_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton]
    unfold ins stored owns
    iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩⟩,
      ⟨%d7, %f7, -, H7⟩, ⟨%d0, %g0, -, S0⟩, ⟨%d1, %g1, -, S1⟩, ⟨%g2, %k2, S2⟩, ⟨%g3, %k3, S3⟩, Hk⟩
    obtain rfl := harg1.eq_unread h0; obtain rfl := harg2.eq_unread h1; obtain rfl := harg3.eq_unread h2
    obtain rfl := harg4.eq_unread h3; obtain rfl := harg5.eq_unread h4; obtain rfl := harg6.eq_unread h5
    obtain rfl := harg7.eq_unread h6
    obtain rfl := harg11.eq_unread k2; obtain rfl := harg12.eq_unread k3
    sl_exec (disch := first | sl_exact hc | sl_exact hf)
    sl_step
    iapply Hk
    isplitl [H0 H1 H2 H3 H4 H5 H6]
    · have hb := back (F := F) c arg1 harg1 arg2 arg3 harg2 harg3 arg4 arg5 harg4 harg5 arg6 arg7 harg6 harg7 x0 x1 x2 x3 x4 x5 x6
      unfold ins owns at hb
      iapply hb
      isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [S0]; · iexists _; iexact S0
    isplitl [S1]; · iexists _; iexact S1
    isplitl [S2]; · iexists _; iexact S2
    iexists _; iexact S3

set_option maxHeartbeats 4000000 in
/-- The point that clears the row buffers and fills the weight tiles. -/
def runClear (hc : clears i) (hf : fills i) :
    Σ' (L8 : List (View.Piece (Elt F) S2048x256 .bf16)) (L9 L10 : List (View.Piece (Elt F) S4096x256 .bf16)) (L11 : List (View.Piece (Elt F) S2056x256 .f32)),
      { L12 : List (View.Piece (Elt F) S2056x256 .f32) // ∀ (E : Set ℕ) (K : PUnit → sProp 𝕄),
        iprop(ins c arg1 arg2 arg3 arg4 arg5 arg6 arg7 x0 x1 x2 x3 x4 x5 x6 ∗ (∃ d, owns (c : Thread nD τ) arg8 fullShare d)
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)
            ∗ (iprop(ins c arg1 arg2 arg3 arg4 arg5 arg6 arg7 x0 x1 x2 x3 x4 x5 x6 ∗ stored c arg8 L8
                ∗ stored c arg9 L9 ∗ stored c arg10 L10
                ∗ stored c arg11 L11 ∗ stored c arg12 L12) -∗ K ⟨⟩))
          ⊢ wp frame (wpE (defs₀ (F := F)) Variants.none c none) E
              (body i arg1 harg1 arg2 arg3 harg2 harg3 arg4 arg5 harg4 harg5 arg6 arg7 harg6 harg7 arg8 harg8 arg9 arg10 harg9
                harg10 arg11 arg12 harg11 harg12) K } := by
  refine ⟨?_, ?_, ?_, ?_, ?_, fun E K => ?run⟩
  case run =>
    unfold body
    rw [cc0_ffn_up_conv_gate_eq_skeleton]; unfold cc0_ffn_up_conv_gate_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton]
    unfold ins stored owns
    iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩⟩,
      ⟨%d7, %f7, -, H7⟩, ⟨%d0, %g0, -, S0⟩, ⟨%d1, %g1, -, S1⟩, ⟨%d2, %g2, -, S2⟩, ⟨%d3, %g3, -, S3⟩, Hk⟩
    obtain rfl := harg1.eq_unread h0; obtain rfl := harg2.eq_unread h1; obtain rfl := harg3.eq_unread h2
    obtain rfl := harg4.eq_unread h3; obtain rfl := harg5.eq_unread h4; obtain rfl := harg6.eq_unread h5
    obtain rfl := harg7.eq_unread h6
    sl_exec (disch := first | sl_exact hc | sl_exact hf)
    sl_step
    iapply Hk
    isplitl [H0 H1 H2 H3 H4 H5 H6]
    · have hb := back (F := F) c arg1 harg1 arg2 arg3 harg2 harg3 arg4 arg5 harg4 harg5 arg6 arg7 harg6 harg7 x0 x1 x2 x3 x4 x5 x6
      unfold ins owns at hb
      iapply hb
      isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [S0]; · iexists _; iexact S0
    isplitl [S1]; · iexists _; iexact S1
    isplitl [S2]; · iexists _; iexact S2
    iexists _; iexact S3

end Cert.Kernel5Ideal.Up

end
-- ==== Proof.FfnUpFrame.lean ====
/-
  The feed-forward up projection: what each grid point leaves in the result's block and in the four buffers kept between
  points, the pipeline's proof data over these contents, the kernel's run, and its frame.
-/
module

public import proofs.«01_k».proof.Proof.FfnUpRun

@[expose] public section

set_option maxRecDepth 16384

noncomputable section

namespace Cert.Kernel5Ideal.Up

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-! ## The buffers at a point -/

/-- Window 0's staging buffer at a point. -/
abbrev ms0 : Memref sig .tc .vmem S2048x4096 .bf16 := win0_0.stage (cfg0.slots t 0)
/-- It is a whole buffer. -/
abbrev hs0 : (ms0 t).IsWhole := hstage0_0 ((cfg0.slots t 0).cast nbuf0_0)
/-- Window 1's staging buffer at a point. -/
abbrev ms1 : Memref sig .tc .vmem S4096x256 .f32 := win0_1.stage (cfg0.slots t 1)
/-- It is a whole buffer. -/
abbrev hs1 : (ms1 t).IsWhole := hstage0_1 ((cfg0.slots t 1).cast nbuf0_1)
/-- Window 2's staging buffer at a point. -/
abbrev ms2 : Memref sig .tc .vmem S4096x256 .f32 := win0_2.stage (cfg0.slots t 2)
/-- It is a whole buffer. -/
abbrev hs2 : (ms2 t).IsWhole := hstage0_2 ((cfg0.slots t 2).cast nbuf0_2)
/-- Window 3's staging buffer at a point. -/
abbrev ms3 : Memref sig .tc .vmem S3x256 .f32 := win0_3.stage (cfg0.slots t 3)
/-- It is a whole buffer. -/
abbrev hs3 : (ms3 t).IsWhole := hstage0_3 ((cfg0.slots t 3).cast nbuf0_3)
/-- Window 4's staging buffer at a point. -/
abbrev ms4 : Memref sig .tc .vmem S3x256 .f32 := win0_4.stage (cfg0.slots t 4)
/-- It is a whole buffer. -/
abbrev hs4 : (ms4 t).IsWhole := hstage0_4 ((cfg0.slots t 4).cast nbuf0_4)
/-- Window 5's staging buffer at a point. -/
abbrev ms5 : Memref sig .tc .vmem S1x256 .f32 := win0_5.stage (cfg0.slots t 5)
/-- It is a whole buffer. -/
abbrev hs5 : (ms5 t).IsWhole := hstage0_5 ((cfg0.slots t 5).cast nbuf0_5)
/-- Window 6's staging buffer at a point. -/
abbrev ms6 : Memref sig .tc .vmem S1x256 .f32 := win0_6.stage (cfg0.slots t 6)
/-- It is a whole buffer. -/
abbrev hs6 : (ms6 t).IsWhole := hstage0_6 ((cfg0.slots t 6).cast nbuf0_6)
/-- Window 7's staging buffer at a point. -/
abbrev ms7 : Memref sig .tc .vmem S2048x256 .bf16 := win0_7.stage (cfg0.slots t 7)
/-- It is a whole buffer. -/
abbrev hs7 : (ms7 t).IsWhole := hstage0_7 ((cfg0.slots t 7).cast nbuf0_7)
/-- Buffer 0 kept between points. -/
abbrev sc0 : Memref sig .tc .vmem S4096x256 .bf16 := Memref.whole cc0_scratch0
/-- Buffer 1 kept between points. -/
abbrev sc1 : Memref sig .tc .vmem S4096x256 .bf16 := Memref.whole cc0_scratch1
/-- Buffer 2 kept between points. -/
abbrev sc2 : Memref sig .tc .vmem S2056x256 .f32 := Memref.whole cc0_scratch2
/-- Buffer 3 kept between points. -/
abbrev sc3 : Memref sig .tc .vmem S2056x256 .f32 := Memref.whole cc0_scratch3

/-- What the four kept buffers hold: the two weight tiles and the two row buffers. -/
abbrev Held (F : FTy → Type) := Vec F S4096x256 .bf16 × Vec F S4096x256 .bf16 × Vec F S2056x256 .f32 × Vec F S2056x256 .f32

/-- The run of a point that neither clears nor refills. -/
abbrev keepRun (hc : ¬ clears (grid0.coords t)) (hf : ¬ fills (grid0.coords t)) (s : Held F) :=
  runKeep c (grid0.coords t) (ms0 t) (hs0 t) (ms1 t) (ms2 t) (hs1 t) (hs2 t) (ms3 t) (ms4 t) (hs3 t) (hs4 t) (ms5 t) (ms6 t) (hs5 t) (hs6 t) (ms7 t) (hs7 t)
    sc0 sc1 (Memref.isWhole_whole _) (Memref.isWhole_whole _) sc2 sc3 (Memref.isWhole_whole _) (Memref.isWhole_whole _)
    (iblk m c 0 t) (iblk m c 1 t) (iblk m c 2 t) (iblk m c 3 t) (iblk m c 4 t) (iblk m c 5 t) (iblk m c 6 t) s.1 s.2.1 s.2.2.1 s.2.2.2 hc hf

/-- The run of a point that refills. -/
abbrev fillRun (hc : ¬ clears (grid0.coords t)) (hf : fills (grid0.coords t)) (s : Held F) :=
  runFill c (grid0.coords t) (ms0 t) (hs0 t) (ms1 t) (ms2 t) (hs1 t) (hs2 t) (ms3 t) (ms4 t) (hs3 t) (hs4 t) (ms5 t) (ms6 t) (hs5 t) (hs6 t) (ms7 t) (hs7 t)
    sc0 sc1 (Memref.isWhole_whole _) (Memref.isWhole_whole _) sc2 sc3 (Memref.isWhole_whole _) (Memref.isWhole_whole _)
    (iblk m c 0 t) (iblk m c 1 t) (iblk m c 2 t) (iblk m c 3 t) (iblk m c 4 t) (iblk m c 5 t) (iblk m c 6 t) s.2.2.1 s.2.2.2 hc hf

/-- The run of the first point. -/
abbrev clearRun (hc : clears (grid0.coords t)) (hf : fills (grid0.coords t)) :=
  runClear c (grid0.coords t) (ms0 t) (hs0 t) (ms1 t) (ms2 t) (hs1 t) (hs2 t) (ms3 t) (ms4 t) (hs3 t) (hs4 t) (ms5 t) (ms6 t) (hs5 t) (hs6 t) (ms7 t) (hs7 t)
    sc0 sc1 (Memref.isWhole_whole _) (Memref.isWhole_whole _) sc2 sc3 (Memref.isWhole_whole _) (Memref.isWhole_whole _)
    (iblk m c 0 t) (iblk m c 1 t) (iblk m c 2 t) (iblk m c 3 t) (iblk m c 4 t) (iblk m c 5 t) (iblk m c 6 t) hc hf

/-- What a point that neither clears nor refills leaves. -/
def keepTo (hc : ¬ clears (grid0.coords t)) (hf : ¬ fills (grid0.coords t)) (s : Held F) : Vec F S2048x256 .bf16 × Held F :=
  (View.canon (keepRun m c t hc hf s).1, s.1, s.2.1, View.canon (keepRun m c t hc hf s).2.1, View.canon (keepRun m c t hc hf s).2.2.1)

/-- What a point that refills leaves. -/
def fillTo (hc : ¬ clears (grid0.coords t)) (hf : fills (grid0.coords t)) (s : Held F) : Vec F S2048x256 .bf16 × Held F :=
  (View.canon (fillRun m c t hc hf s).1, View.canon (fillRun m c t hc hf s).2.1, View.canon (fillRun m c t hc hf s).2.2.1,
    View.canon (fillRun m c t hc hf s).2.2.2.1, View.canon (fillRun m c t hc hf s).2.2.2.2.1)

/-- What the first point leaves. -/
def clearTo (hc : clears (grid0.coords t)) (hf : fills (grid0.coords t)) : Vec F S2048x256 .bf16 × Held F :=
  (View.canon (clearRun m c t hc hf).1, View.canon (clearRun m c t hc hf).2.1, View.canon (clearRun m c t hc hf).2.2.1,
    View.canon (clearRun m c t hc hf).2.2.2.1, View.canon (clearRun m c t hc hf).2.2.2.2.1)

/-- What a point leaves in the result's block and in the kept buffers. -/
def stateAt : (n : ℕ) → n < cfg0.N → Vec F S2048x256 .bf16 × Held F
  | 0, h => clearTo m c ⟨0, h⟩ ((clears_iff _).mpr rfl) ((fills_iff _).mpr ⟨rfl, Nat.succ_pos 171⟩)
  | n + 1, h =>
    have hc : ¬ clears (grid0.coords ⟨n + 1, h⟩) := fun e => Nat.succ_ne_zero n ((clears_iff _).mp e)
    if hf : fills (grid0.coords ⟨n + 1, h⟩) then fillTo m c ⟨n + 1, h⟩ hc hf (stateAt n (Nat.lt_of_succ_lt h)).2
    else keepTo m c ⟨n + 1, h⟩ hc hf (stateAt n (Nat.lt_of_succ_lt h)).2

/-! ## The body's triple -/

/-- The input windows' buffers at a point's blocks. -/
abbrev insAt : sProp 𝕄 := ins c (ms0 t) (ms1 t) (ms2 t) (ms3 t) (ms4 t) (ms5 t) (ms6 t)
  (iblk m c 0 t) (iblk m c 1 t) (iblk m c 2 t) (iblk m c 3 t) (iblk m c 4 t) (iblk m c 5 t) (iblk m c 6 t)

/-- The kept buffers at these contents. -/
def heldAt (s : Held F) : sProp 𝕄 :=
  iprop(owns (c : Thread nD τ) sc0 fullShare s.1 ∗ owns (c : Thread nD τ) sc1 fullShare s.2.1
    ∗ owns (c : Thread nD τ) sc2 fullShare s.2.2.1 ∗ owns (c : Thread nD τ) sc3 fullShare s.2.2.2)

/-- The kept buffers at anything. -/
def heldAny : sProp 𝕄 :=
  iprop((∃ d, owns (c : Thread nD τ) sc0 fullShare d) ∗ (∃ d, owns (c : Thread nD τ) sc1 fullShare d)
    ∗ (∃ d, owns (c : Thread nD τ) sc2 fullShare d) ∗ (∃ d, owns (c : Thread nD τ) sc3 fullShare d))

/-- The kept buffers at named contents are the kept buffers at something. -/
theorem heldAny_of (s : Held F) : heldAt c s ⊢ (heldAny c : sProp 𝕄) := by
  unfold heldAt heldAny
  iintro ⟨S0, S1, S2, S3⟩
  isplitl [S0]; · iexists _; iexact S0
  isplitl [S1]; · iexists _; iexact S1
  isplitl [S2]; · iexists _; iexact S2
  iexists _; iexact S3

/-- The body at a point takes the kept buffers from `P` to the contents `s` and leaves `s`'s block in the result's buffer. -/
def Steps (P : sProp 𝕄) (s : Vec F S2048x256 .bf16 × Held F) : Prop := ∀ (E : Set ℕ) (K : PUnit → sProp 𝕄),
  iprop(insAt m c t ∗ (∃ d, owns (c : Thread nD τ) (ms7 t) fullShare d) ∗ P
      ∗ (iprop(insAt m c t ∗ owns (c : Thread nD τ) (ms7 t) fullShare s.1 ∗ heldAt c s.2) -∗ K ⟨⟩))
    ⊢ wp frame (wpE (defs₀ (F := F)) Variants.none c none) E (bodyAt0 t) K

/-- A point that neither clears nor refills takes the kept buffers from their contents to what it leaves. -/
theorem keep_step (hc : ¬ clears (grid0.coords t)) (hf : ¬ fills (grid0.coords t)) (s : Held F) :
    Steps m c t (heldAt c s) (keepTo m c t hc hf s) := by
  intro E K
  unfold heldAt keepTo
  dsimp only
  iintro ⟨HI, HO, ⟨S0, S1, S2, S3⟩, Hk⟩
  iapply (keepRun m c t hc hf s).2.2.2 E K
  isplitl [HI]; · iexact HI
  isplitl [HO]; · iexact HO
  isplitl [S0]; · iexact S0
  isplitl [S1]; · iexact S1
  isplitl [S2]; · iexact S2
  isplitl [S3]; · iexact S3
  iintro ⟨HI, HO, S0, S1, S2, S3⟩
  iapply Hk
  isplitl [HI]; · iexact HI
  isplitl [HO]; · iapply owned c (ms7 t) _ (View.cover_of_tiledL _ ![256, 256] (by sl_kernel_rfl)); iexact HO
  isplitl [S0]; · iexact S0
  isplitl [S1]; · iexact S1
  isplitl [S2]; · iapply owned c sc2 _ (View.cover_of_tiledBy _ ![8, 256] (by sl_kernel_rfl)); iexact S2
  iapply owned c sc3 _ (View.cover_of_tiledBy _ ![8, 256] (by sl_kernel_rfl)); iexact S3

/-- So does a point that refills, whatever the weight tiles held. -/
theorem fill_step (hc : ¬ clears (grid0.coords t)) (hf : fills (grid0.coords t)) (s : Held F) :
    Steps m c t (heldAt c s) (fillTo m c t hc hf s) := by
  intro E K
  unfold heldAt fillTo
  dsimp only
  iintro ⟨HI, HO, ⟨S0, S1, S2, S3⟩, Hk⟩
  iapply (fillRun m c t hc hf s).2.2.2.2.2 E K
  isplitl [HI]; · iexact HI
  isplitl [HO]; · iexact HO
  isplitl [S0]; · iexists _; iexact S0
  isplitl [S1]; · iexists _; iexact S1
  isplitl [S2]; · iexact S2
  isplitl [S3]; · iexact S3
  iintro ⟨HI, HO, S0, S1, S2, S3⟩
  iapply Hk
  isplitl [HI]; · iexact HI
  isplitl [HO]; · iapply owned c (ms7 t) _ (View.cover_of_tiledL _ ![256, 256] (by sl_kernel_rfl)); iexact HO
  isplitl [S0]; · iapply owned c sc0 _ (View.cover_of_wholeMem _ (by sl_whole_mem)); iexact S0
  isplitl [S1]; · iapply owned c sc1 _ (View.cover_of_wholeMem _ (by sl_whole_mem)); iexact S1
  isplitl [S2]; · iapply owned c sc2 _ (View.cover_of_tiledBy _ ![8, 256] (by sl_kernel_rfl)); iexact S2
  iapply owned c sc3 _ (View.cover_of_tiledBy _ ![8, 256] (by sl_kernel_rfl)); iexact S3

/-- The first point takes the kept buffers from anything to what it leaves. -/
theorem clear_step (hc : clears (grid0.coords t)) (hf : fills (grid0.coords t)) :
    Steps m c t (heldAny c) (clearTo m c t hc hf) := by
  intro E K
  unfold heldAny heldAt clearTo
  dsimp only
  iintro ⟨HI, HO, ⟨S0, S1, S2, S3⟩, Hk⟩
  iapply (clearRun m c t hc hf).2.2.2.2.2 E K
  isplitl [HI]; · iexact HI
  isplitl [HO]; · iexact HO
  isplitl [S0]; · iexact S0
  isplitl [S1]; · iexact S1
  isplitl [S2]; · iexact S2
  isplitl [S3]; · iexact S3
  iintro ⟨HI, HO, S0, S1, S2, S3⟩
  iapply Hk
  isplitl [HI]; · iexact HI
  isplitl [HO]; · iapply owned c (ms7 t) _ (View.cover_of_tiledL _ ![256, 256] (by sl_kernel_rfl)); iexact HO
  isplitl [S0]; · iapply owned c sc0 _ (View.cover_of_wholeMem _ (by sl_whole_mem)); iexact S0
  isplitl [S1]; · iapply owned c sc1 _ (View.cover_of_wholeMem _ (by sl_whole_mem)); iexact S1
  isplitl [S2]; · iapply owned c sc2 _ (View.cover_of_wholeMem _ (by sl_whole_mem)); iexact S2
  iapply owned c sc3 _ (View.cover_of_wholeMem _ (by sl_whole_mem)); iexact S3

/-- The kept buffers before a point: at anything before the first, then at what the point before left. -/
def entry : (n : ℕ) → n ≤ cfg0.N → sProp 𝕄
  | 0, _ => heldAny c
  | n + 1, h => heldAt c (stateAt m c n h).2

/-- The first point's contents. -/
theorem stateAt_clear (h : 0 < cfg0.N) (hc : clears (grid0.coords ⟨0, h⟩)) (hf : fills (grid0.coords ⟨0, h⟩)) :
    stateAt m c 0 h = clearTo m c ⟨0, h⟩ hc hf := rfl

/-- The contents after a point that refills. -/
theorem stateAt_fill (n : ℕ) (h : n + 1 < cfg0.N) (hc : ¬ clears (grid0.coords ⟨n + 1, h⟩)) (hf : fills (grid0.coords ⟨n + 1, h⟩)) :
    stateAt m c (n + 1) h = fillTo m c ⟨n + 1, h⟩ hc hf (stateAt m c n (Nat.lt_of_succ_lt h)).2 := by
  rw [stateAt]; exact dif_pos hf

/-- The contents after a point that neither clears nor refills. -/
theorem stateAt_keep (n : ℕ) (h : n + 1 < cfg0.N) (hc : ¬ clears (grid0.coords ⟨n + 1, h⟩)) (hf : ¬ fills (grid0.coords ⟨n + 1, h⟩)) :
    stateAt m c (n + 1) h = keepTo m c ⟨n + 1, h⟩ hc hf (stateAt m c n (Nat.lt_of_succ_lt h)).2 := by
  rw [stateAt]; exact dif_neg hf

/-- Only the first point clears. -/
theorem not_clears (n : ℕ) (h : n + 1 < cfg0.N) : ¬ clears (grid0.coords ⟨n + 1, h⟩) :=
  fun e => Nat.succ_ne_zero n ((clears_iff _).mp e)

/-- Every point takes the kept buffers from what the point before left to what it leaves. -/
theorem step : ∀ (n : ℕ) (h : n < cfg0.N), Steps m c ⟨n, h⟩ (entry m c n h.le) (stateAt m c n h)
  | 0, h => clear_step m c ⟨0, h⟩ ((clears_iff _).mpr rfl) ((fills_iff _).mpr ⟨rfl, Nat.succ_pos 171⟩)
  | n + 1, h => by
    by_cases hf : fills (grid0.coords ⟨n + 1, h⟩)
    · rw [stateAt_fill m c n h (not_clears n h) hf]
      exact fill_step m c ⟨n + 1, h⟩ _ hf _
    · rw [stateAt_keep m c n h (not_clears n h) hf]
      exact keep_step m c ⟨n + 1, h⟩ _ hf _

/-! ## The pipeline's proof data -/

/-- What the region's launch hands over: the kept buffers at anything and the generator register. -/
theorem start_eq : (Pipeline.ΦA spec0 c : sProp 𝕄) = iprop(heldAny c ∗ (∃ r, prngReg c r)) := by
  unfold Pipeline.ΦA heldAny; rw [scopedRest0_eq]; simp only [sc0, sc1, sc2, sc3, owns_whole]; try rfl

/-- The invariant between points. -/
def Inv (n : ℕ) (h : n ≤ cfg0.N) : sProp 𝕄 := iprop(entry m c n h ∗ (∃ r, prngReg c r))

/-- The arrays as the region finds them, the inputs' buffers at their blocks, the result's at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stateAt m c t.val t.isLt).1
  Φ t := Inv m c t.val (Nat.le_of_lt_succ t.isLt)
  q := Pipeline.shareOf spec0
  owed _ := 0

theorem A_eq (w : Fin cfg0.W) : (dats m 0 c).A w = V m c (Pipeline.arrRef spec0 w) := by
  dsimp only [dats]

theorem inv_castSucc : (dats m 0 c).Φ t.castSucc = Inv m c t.val (Nat.le_of_lt t.isLt) := by
  dsimp only [dats]; exact Pipeline.Dat.Φ_castSucc (Inv m c) t

theorem after0 : (dats m 0 c).after 0 t = iblk m c 0 t := by dsimp only [dats]
theorem before0 (d) : (dats m 0 c).before 0 t d = iblk m c 0 t :=
  before0_0_of m (dats m 0 c) (A_eq m c 0) (after0 m c) t d
theorem after1 : (dats m 0 c).after 1 t = iblk m c 1 t := by dsimp only [dats]
theorem before1 (d) : (dats m 0 c).before 1 t d = iblk m c 1 t :=
  before0_1_of m (dats m 0 c) (A_eq m c 1) (after1 m c) t d
theorem after2 : (dats m 0 c).after 2 t = iblk m c 2 t := by dsimp only [dats]
theorem before2 (d) : (dats m 0 c).before 2 t d = iblk m c 2 t :=
  before0_2_of m (dats m 0 c) (A_eq m c 2) (after2 m c) t d
theorem after3 : (dats m 0 c).after 3 t = iblk m c 3 t := by dsimp only [dats]
theorem before3 (d) : (dats m 0 c).before 3 t d = iblk m c 3 t :=
  before0_3_of m (dats m 0 c) (A_eq m c 3) (after3 m c) t d
theorem after4 : (dats m 0 c).after 4 t = iblk m c 4 t := by dsimp only [dats]
theorem before4 (d) : (dats m 0 c).before 4 t d = iblk m c 4 t :=
  before0_4_of m (dats m 0 c) (A_eq m c 4) (after4 m c) t d
theorem after5 : (dats m 0 c).after 5 t = iblk m c 5 t := by dsimp only [dats]
theorem before5 (d) : (dats m 0 c).before 5 t d = iblk m c 5 t :=
  before0_5_of m (dats m 0 c) (A_eq m c 5) (after5 m c) t d
theorem after6 : (dats m 0 c).after 6 t = iblk m c 6 t := by dsimp only [dats]
theorem before6 (d) : (dats m 0 c).before 6 t d = iblk m c 6 t :=
  before0_6_of m (dats m 0 c) (A_eq m c 6) (after6 m c) t d
theorem after7 : (dats m 0 c).after 7 t = (stateAt m c t.val t.isLt).1 := by dsimp only [dats]

/-- What the body is called with at a point. -/
def bodyPre : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What it returns. -/
def bodyPost : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 4000000 in
/-- The body at any point. -/
theorem sound_body : bodyPre m c t ⊢ wp frame (wpE (defs₀ (F := F)) Variants.none c none) Set.univ (bodyAt0 t) (fun _ => bodyPost m c t) := by
  unfold bodyPre bodyPost
  simp only [before0, before1, before2, before3, before4, before5, before6]
  rw [show (dats m 0 c).owesAt () t.succ = (dats m 0 c).owesAt () t.castSucc from rfl,
    after0, after1, after2, after3, after4, after5, after6, after7, inv_castSucc,
    show (dats m 0 c).Φ t.succ = Inv m c (t.val + 1) t.isLt from rfl]
  unfold Inv
  rw [show entry m c (t.val + 1) t.isLt = heldAt c (stateAt m c t.val t.isLt).2 from rfl]
  have hs := step m c t.val t.isLt
  unfold Steps insAt ins at hs
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply hs Set.univ _
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [HS]; · iexact HS
  iintro ⟨⟨H0, H1, H2, H3, H4, H5, H6⟩, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The table's row at a point is the body at that point. -/
theorem row : defs₀ (F := F) .tc cfg0.body (cfg0.bodyArgs t (cfg0.slots t)) = bodyAt0 t := by
  unfold defs₀; rw [Defs.onTc_tc]

/-- The body's obligation, at every point. -/
theorem body_obligation : BodyObligation (dats (F := F) m 0 c) (defs₀ (F := F)) Variants.none () Set.univ := fun t => by
  rw [bigSep_W0, bigSep_W0, row]
  exact triple_restated (sound_body m c t) rfl .rfl fun _ => .rfl

/-- The launch hands over the invariant before the first point. -/
theorem hin : Pipeline.ΦA spec0 c ⊢ (dats m 0 c).Φ 0 := by
  rw [show (dats m 0 c).Φ 0 = Inv m c 0 (Nat.zero_le _) from rfl, start_eq]
  exact Idealize.SL.BI.Entails.refl _

/-- After the last point the invariant gives the buffers back. -/
theorem hout : (dats m 0 c).Φ (Fin.last cfg0.N) ⊢ Pipeline.ΦA spec0 c := by
  rw [show (dats m 0 c).Φ (Fin.last cfg0.N) = iprop(heldAt c (stateAt m c 172 (by decide)).2 ∗ (∃ r, prngReg c r)) from rfl, start_eq]
  iintro ⟨HS, Hg⟩
  isplitl [HS]
  · iapply heldAny_of c _; iexact HS
  iexact Hg

/-! ## The run and the frame -/

set_option backward.isDefEq.respectTransparency.types false in
/-- Every execution ends with the arrays at what the proof data says and with every semaphore counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_quiet m ρ)

end Cert.Kernel5Ideal.Up

end
-- ==== Proof.FfnUpPoint.lean ====
/-
  The feed-forward up projection: what one grid point leaves in the two row buffers, in the two weight tiles and in the
  result's block, over the extended reals.
-/
module

public import proofs.«01_k».proof.Proof.FfnUpFrame
public import proofs.«01_k».proof.Proof.Product
public import Idealize.ShloMosaic.Lib.Pipeline.Value

@[expose] public section

set_option maxRecDepth 16384

noncomputable section

namespace Cert.Kernel5Ideal.Up

open Idealize.ShloMosaic Idealize.ShloMosaic.TcCoe Idealize.SL.Sem
open Idealize.ShloMosaic.Pipeline (Dat)
open Cert.Kernel5Ideal Cert.Kernel5Ideal.Gen Cert.Tile

/-! ## The operations -/

/-- One row block of a product. -/
theorem dot_apply (a : Vec Ideal S256x4096 .bf16) (b : Vec Ideal S4096x256 .bf16) (r : Fin 256) (c : Fin 256) :
    k0_pay2 a b (ix2 r c) = ∑ k : Fin 4096, a (ix2 r k) * b (ix2 k c) := by
  unfold k0_pay2
  pointwise

/-- Rounding a weight's block to bfloat16 changes nothing over the extended reals. -/
theorem cast_eq (v : Vec Ideal S4096x256 .f32) : k0_pay8 v = v := by
  funext y
  unfold k0_pay8
  pointwise

/-- The factor by which the rows above a tile are kept. -/
def keep (i : grid0.Coords) : EReal := k0_pay10 (F := Ideal) i

/-- The rows above a tile: the last rows of the tile before, kept or zeroed. -/
theorem halo_apply (i : grid0.Coords) (v : Vec Ideal S8x256 .f32) (x : S8x256.Idx) : k0_pay4 (k0_pay11 i v) x = v x * keep i := by
  unfold k0_pay4 k0_pay11 keep
  pointwise

/-- The rows above the first tile of a column are zeroed, all others kept. -/
theorem keep_eq (i : grid0.Coords) : keep i = if fills i then 0 else 1 := by
  have h : fills i ↔ Scalar.cmpi .eq (tileRow i) 0#32 = 1#1 := by
    unfold fills
    generalize Scalar.cmpi .eq (tileRow i) 0#32 = b
    revert b; decide
  have e : keep i = Scalar.select (Scalar.cmpi .eq (tileRow i) 0#32) (0 : EReal) 1 := by
    unfold keep k0_pay10
    pointwise
    try rfl
  rw [e]
  by_cases hf : fills i
  · rw [if_pos hf, h.mp hf]; rfl
  · rw [if_neg hf]
    unfold Scalar.select
    exact if_neg fun hb => hf (h.mpr hb)

/-- One row block of the gated convolution. -/
def tile (b : Vec Ideal S1x256 .f32) (w0 : Vec Ideal S1x256 .f32) (u0 : Vec Ideal S256x256 .f32) (w1 : Vec Ideal S1x256 .f32)
    (u1 : Vec Ideal S256x256 .f32) (w2 : Vec Ideal S1x256 .f32) (u2 : Vec Ideal S256x256 .f32) (b' : Vec Ideal S1x256 .f32)
    (w0' : Vec Ideal S1x256 .f32) (u0' : Vec Ideal S256x256 .f32) (w1' : Vec Ideal S1x256 .f32) (u1' : Vec Ideal S256x256 .f32)
    (w2' : Vec Ideal S1x256 .f32) (u2' : Vec Ideal S256x256 .f32) : Vec Ideal S256x256 .bf16 :=
  k0_pay14 (k0_pay13 b w0 u0) w1 u1 w2 u2 b' w0' u0' w1' u1' w2' u2'

/-- A gate times a value: `g / (1 + e^(-g)) · v`. -/
def gated (g v : EReal) : EReal := Ideal.div g (1 + Ideal.exp (0 - g)) * v

/-- One row block of the gated convolution, at an index. -/
theorem tile_apply (b w0 : Vec Ideal S1x256 .f32) (u0 : Vec Ideal S256x256 .f32) (w1 : Vec Ideal S1x256 .f32)
    (u1 : Vec Ideal S256x256 .f32) (w2 : Vec Ideal S1x256 .f32) (u2 : Vec Ideal S256x256 .f32) (b' : Vec Ideal S1x256 .f32)
    (w0' : Vec Ideal S1x256 .f32) (u0' : Vec Ideal S256x256 .f32) (w1' : Vec Ideal S1x256 .f32) (u1' : Vec Ideal S256x256 .f32)
    (w2' : Vec Ideal S1x256 .f32) (u2' : Vec Ideal S256x256 .f32) (r q : Fin 256) :
    tile b w0 u0 w1 u1 w2 u2 b' w0' u0' w1' u1' w2' u2' (ix2 r q)
      = gated (b (ix2 0 q) + w0 (ix2 0 q) * u0 (ix2 r q) + w1 (ix2 0 q) * u1 (ix2 r q) + w2 (ix2 0 q) * u2 (ix2 r q))
          (b' (ix2 0 q) + w0' (ix2 0 q) * u0' (ix2 r q) + w1' (ix2 0 q) * u1' (ix2 r q) + w2' (ix2 0 q) * u2' (ix2 r q)) := by
  unfold tile k0_pay14 k0_pay13 gated
  pointwise

/-! ## A row buffer -/

/-- A row buffer after a point: the eight rows above are the last eight before, kept or zeroed; below them is the product. -/
def next (A : Vec Ideal S2048x4096 .bf16) (W : Vec Ideal S4096x256 .bf16) (κ : EReal) (U : Vec Ideal S2056x256 .f32) :
    Vec Ideal S2056x256 .f32 := fun y =>
  if h : (y 0 : ℕ) < 8 then U (ix2 ⟨2048 + (y 0 : ℕ), by omega⟩ (y 1)) * κ
  else ∑ k : Fin 4096, A (ix2 ⟨(y 0 : ℕ) - 8, by have : (y 0 : ℕ) < 2056 := (y 0).isLt; omega⟩ k) * W (ix2 k (y 1))

/-- Its rows above. -/
theorem next_above (A : Vec Ideal S2048x4096 .bf16) (W : Vec Ideal S4096x256 .bf16) (κ : EReal) (U : Vec Ideal S2056x256 .f32)
    (p : Fin 2056) (q : Fin 256) (hp : (p : ℕ) < 8) : next A W κ U (ix2 p q) = U (ix2 ⟨2048 + (p : ℕ), by omega⟩ q) * κ :=
  dif_pos hp

/-- Its rows of the product. -/
theorem next_below (A : Vec Ideal S2048x4096 .bf16) (W : Vec Ideal S4096x256 .bf16) (κ : EReal) (U : Vec Ideal S2056x256 .f32)
    (p : Fin 2056) (q : Fin 256) (hp : ¬ (p : ℕ) < 8) :
    next A W κ U (ix2 p q) = ∑ k : Fin 4096, A (ix2 ⟨(p : ℕ) - 8, by have := p.isLt; omega⟩ k) * W (ix2 k q) :=
  dif_neg hp

/-- The stored rows of the product. -/
theorem next_rows (A : Vec Ideal S2048x4096 .bf16) (W : Vec Ideal S4096x256 .bf16) (κ : EReal) (U : Vec Ideal S2056x256 .f32)
    {o : ℕ} {inb} (x : S256x256.Idx) (y : S2056x256.Idx) (hr : (y 0 : ℕ) = 8 + o + x 0) (hq : (y 1 : ℕ) = x 1) :
    k0_pay2 (View.ld (Val := Elt Ideal) A (Rect.unit ![o, 0] ![256, 4096] inb)) W x = next A W κ U y := by
  unfold next
  rw [dif_neg (by omega)]
  exact product_tile k0_pay2 dot_apply A W x _ (y 1) (by dsimp only; omega) hq

/-- The stored rows above. -/
theorem next_halo (A : Vec Ideal S2048x4096 .bf16) (W : Vec Ideal S4096x256 .bf16) (i : grid0.Coords) (U : Vec Ideal S2056x256 .f32)
    {inb} (x : S8x256.Idx) (y : S2056x256.Idx) (hr : (y 0 : ℕ) = x 0) (hq : (y 1 : ℕ) = x 1) :
    k0_pay4 (k0_pay11 i (View.ld (Val := Elt Ideal) U (Rect.unit ![2048, 0] ![8, 256] inb))) x = next A W (keep i) U y := by
  have hx : (x 0 : ℕ) < 8 := (x 0).isLt
  unfold next
  rw [dif_pos (by omega)]
  exact (halo_apply i _ x).trans (congrArg (· * keep i) (ld_rows U x _ (show 2048 + (y 0 : ℕ) = _ by omega) hq))

/-- Above the first tile of a column the stored rows are zero. -/
theorem next_zero (A : Vec Ideal S2048x4096 .bf16) (W : Vec Ideal S4096x256 .bf16) (i : grid0.Coords) (hf : fills i)
    (v : Vec Ideal S8x256 .f32) (U : Vec Ideal S2056x256 .f32) (x : S8x256.Idx) (y : S2056x256.Idx) (hr : (y 0 : ℕ) = x 0) :
    k0_pay4 (k0_pay11 i v) x = next A W (keep i) U y := by
  have hx : (x 0 : ℕ) < 8 := (x 0).isLt
  unfold next
  rw [dif_pos (by omega), halo_apply, keep_eq, if_pos hf, mul_zero, mul_zero]

variable (m : (ℓ : Loc nD τ sig) → Buf (Elt Ideal) ℓ) (c : Dev nD) (t : Fin cfg0.N)

/-- The gate's buffer where the weights are kept. -/
theorem ug_keep (hc : ¬ clears (grid0.coords t)) (hf : ¬ fills (grid0.coords t)) (s : Held Ideal) :
    (keepTo m c t hc hf s).2.2.2.1 = next (iblk m c 0 t) s.1 (keep (grid0.coords t)) s.2.2.1 := by
  funext y
  unfold keepTo keepRun
  dsimp only
  frame_out
  simp only [read_unread_whole]
  canon_tiles x h using View.cover_of_tiledBy _ ![8, 256] (by sl_kernel_rfl) y
  · exact next_halo (iblk m c 0 t) s.1 (grid0.coords t) s.2.2.1 x y h0 h1
  all_goals exact next_rows (iblk m c 0 t) s.1 (keep (grid0.coords t)) s.2.2.1 x y h0 h1

/-- The value's buffer where the weights are kept. -/
theorem uv_keep (hc : ¬ clears (grid0.coords t)) (hf : ¬ fills (grid0.coords t)) (s : Held Ideal) :
    (keepTo m c t hc hf s).2.2.2.2 = next (iblk m c 0 t) s.2.1 (keep (grid0.coords t)) s.2.2.2 := by
  funext y
  unfold keepTo keepRun
  dsimp only
  frame_out
  simp only [read_unread_whole]
  canon_tiles x h using View.cover_of_tiledBy _ ![8, 256] (by sl_kernel_rfl) y
  · exact next_halo (iblk m c 0 t) s.2.1 (grid0.coords t) s.2.2.2 x y h0 h1
  all_goals exact next_rows (iblk m c 0 t) s.2.1 (keep (grid0.coords t)) s.2.2.2 x y h0 h1

/-- The gate's buffer where the weights are refilled. -/
theorem ug_fill (hc : ¬ clears (grid0.coords t)) (hf : fills (grid0.coords t)) (s : Held Ideal) :
    (fillTo m c t hc hf s).2.2.2.1 = next (iblk m c 0 t) (iblk m c 1 t) (keep (grid0.coords t)) s.2.2.1 := by
  funext y
  unfold fillTo fillRun
  dsimp only
  frame_out
  simp only [read_unread_whole]
  generalize hW : k0_pay8 (iblk m c 1 t) = W
  rw [show iblk m c 1 t = W from (cast_eq (iblk m c 1 t)).symm.trans hW]
  canon_tiles x h using View.cover_of_tiledBy _ ![8, 256] (by sl_kernel_rfl) y
  · exact next_halo (iblk m c 0 t) W (grid0.coords t) s.2.2.1 x y h0 h1
  all_goals exact next_rows (iblk m c 0 t) W (keep (grid0.coords t)) s.2.2.1 x y h0 h1

/-- The value's buffer where the weights are refilled. -/
theorem uv_fill (hc : ¬ clears (grid0.coords t)) (hf : fills (grid0.coords t)) (s : Held Ideal) :
    (fillTo m c t hc hf s).2.2.2.2 = next (iblk m c 0 t) (iblk m c 2 t) (keep (grid0.coords t)) s.2.2.2 := by
  funext y
  unfold fillTo fillRun
  dsimp only
  frame_out
  simp only [read_unread_whole]
  generalize hW : k0_pay9 (iblk m c 2 t) = W
  rw [show iblk m c 2 t = W from (cast_eq (iblk m c 2 t)).symm.trans hW]
  canon_tiles x h using View.cover_of_tiledBy _ ![8, 256] (by sl_kernel_rfl) y
  · exact next_halo (iblk m c 0 t) W (grid0.coords t) s.2.2.2 x y h0 h1
  all_goals exact next_rows (iblk m c 0 t) W (keep (grid0.coords t)) s.2.2.2 x y h0 h1

/-- The gate's buffer after the first point: nothing above the first tile is kept. -/
theorem ug_clear (hc : clears (grid0.coords t)) (hf : fills (grid0.coords t)) (U : Vec Ideal S2056x256 .f32) :
    (clearTo m c t hc hf).2.2.2.1 = next (iblk m c 0 t) (iblk m c 1 t) (keep (grid0.coords t)) U := by
  funext y
  unfold clearTo clearRun
  dsimp only
  frame_out
  generalize hW : k0_pay8 (iblk m c 1 t) = W
  rw [show iblk m c 1 t = W from (cast_eq (iblk m c 1 t)).symm.trans hW]
  refine canon_append_of_cover [_, _, _, _, _, _, _, _, _] [_] _ _ (View.cover_of_tiledBy _ ![8, 256] (by sl_kernel_rfl) y) ?_
  canon_tiles x h using View.cover_of_tiledBy _ ![8, 256] (by sl_kernel_rfl) y
  · exact next_zero (iblk m c 0 t) W (grid0.coords t) hf _ U x y h0
  all_goals exact next_rows (iblk m c 0 t) W (keep (grid0.coords t)) U x y h0 h1

/-- The value's buffer after the first point. -/
theorem uv_clear (hc : clears (grid0.coords t)) (hf : fills (grid0.coords t)) (U : Vec Ideal S2056x256 .f32) :
    (clearTo m c t hc hf).2.2.2.2 = next (iblk m c 0 t) (iblk m c 2 t) (keep (grid0.coords t)) U := by
  funext y
  unfold clearTo clearRun
  dsimp only
  frame_out
  generalize hW : k0_pay9 (iblk m c 2 t) = W
  rw [show iblk m c 2 t = W from (cast_eq (iblk m c 2 t)).symm.trans hW]
  refine canon_append_of_cover [_, _, _, _, _, _, _, _, _] [_] _ _ (View.cover_of_tiledBy _ ![8, 256] (by sl_kernel_rfl) y) ?_
  canon_tiles x h using View.cover_of_tiledBy _ ![8, 256] (by sl_kernel_rfl) y
  · exact next_zero (iblk m c 0 t) W (grid0.coords t) hf _ U x y h0
  all_goals exact next_rows (iblk m c 0 t) W (keep (grid0.coords t)) U x y h0 h1

/-- The weight tiles where they are refilled. -/
theorem w_fill (hc : ¬ clears (grid0.coords t)) (hf : fills (grid0.coords t)) (s : Held Ideal) :
    (fillTo m c t hc hf s).2.1 = iblk m c 1 t ∧ (fillTo m c t hc hf s).2.2.1 = iblk m c 2 t := by
  unfold fillTo fillRun
  dsimp only
  frame_out
  exact ⟨cast_eq _, cast_eq _⟩

/-- The weight tiles after the first point. -/
theorem w_clear (hc : clears (grid0.coords t)) (hf : fills (grid0.coords t)) :
    (clearTo m c t hc hf).2.1 = iblk m c 1 t ∧ (clearTo m c t hc hf).2.2.1 = iblk m c 2 t := by
  unfold clearTo clearRun
  dsimp only
  frame_out
  exact ⟨cast_eq _, cast_eq _⟩

/-! ## The result's block -/

/-- The convolution of three taps with its bias, at an index of a tile: two rows above, one above, and the row itself. -/
def conv (b : Vec Ideal S1x256 .f32) (w : Vec Ideal S3x256 .f32) (U : Vec Ideal S2056x256 .f32) (y : S2048x256.Idx) : EReal :=
  have hy : (y 0 : ℕ) < 2048 := (y 0).isLt
  b (ix2 0 (y 1)) + w (ix2 0 (y 1)) * U (ix2 ⟨6 + (y 0 : ℕ), by omega⟩ (y 1))
    + w (ix2 1 (y 1)) * U (ix2 ⟨7 + (y 0 : ℕ), by omega⟩ (y 1)) + w (ix2 2 (y 1)) * U (ix2 ⟨8 + (y 0 : ℕ), by omega⟩ (y 1))

/-- A stored row block of the gated convolution, at an index of the whole tile. -/
theorem conv_tile (b b' : Vec Ideal S1x256 .f32) (w w' : Vec Ideal S3x256 .f32) (U U' : Vec Ideal S2056x256 .f32)
    {o0 o1 o2 : ℕ} {i0 i1 i2 j0 j1 j2 i0' i1' i2' j0' j1' j2'} (x : S256x256.Idx) (y : S2048x256.Idx)
    (hq : (y 1 : ℕ) = x 1) (e0 : 6 + (y 0 : ℕ) = o0 + x 0) (e1 : 7 + (y 0 : ℕ) = o1 + x 0) (e2 : 8 + (y 0 : ℕ) = o2 + x 0) :
    tile b (View.ld (Val := Elt Ideal) w (Rect.unit ![0, 0] ![1, 256] i0))
        (View.ld (Val := Elt Ideal) U (Rect.unit ![o0, 0] ![256, 256] j0))
        (View.ld (Val := Elt Ideal) w (Rect.unit ![1, 0] ![1, 256] i1))
        (View.ld (Val := Elt Ideal) U (Rect.unit ![o1, 0] ![256, 256] j1))
        (View.ld (Val := Elt Ideal) w (Rect.unit ![2, 0] ![1, 256] i2))
        (View.ld (Val := Elt Ideal) U (Rect.unit ![o2, 0] ![256, 256] j2))
        b' (View.ld (Val := Elt Ideal) w' (Rect.unit ![0, 0] ![1, 256] i0'))
        (View.ld (Val := Elt Ideal) U' (Rect.unit ![o0, 0] ![256, 256] j0'))
        (View.ld (Val := Elt Ideal) w' (Rect.unit ![1, 0] ![1, 256] i1'))
        (View.ld (Val := Elt Ideal) U' (Rect.unit ![o1, 0] ![256, 256] j1'))
        (View.ld (Val := Elt Ideal) w' (Rect.unit ![2, 0] ![1, 256] i2'))
        (View.ld (Val := Elt Ideal) U' (Rect.unit ![o2, 0] ![256, 256] j2')) x
      = gated (conv b w U y) (conv b' w' U' y) := by
  obtain ⟨r, q, rfl⟩ : ∃ (r : Fin 256) (q : Fin 256), x = ix2 r q := ⟨x 0, x 1, eq_ix2 x⟩
  obtain ⟨p, q', rfl⟩ : ∃ (p : Fin 2048) (q' : Fin 256), y = ix2 p q' := ⟨y 0, y 1, eq_ix2 y⟩
  obtain rfl : q' = q := Fin.ext hq
  refine (tile_apply _ _ _ _ _ _ _ _ _ _ _ _ _ _ r q').trans (congrArg₂ gated ?_ ?_)
  · exact congrArg₂ (· + ·) (congrArg₂ (· + ·) (congrArg (b (ix2 0 q') + ·)
      (congrArg₂ (· * ·) (ld_rows w _ (ix2 0 q') rfl rfl) (ld_rows U _ (ix2 _ q') e0 rfl)))
      (congrArg₂ (· * ·) (ld_rows w _ (ix2 1 q') rfl rfl) (ld_rows U _ (ix2 _ q') e1 rfl)))
      (congrArg₂ (· * ·) (ld_rows w _ (ix2 2 q') rfl rfl) (ld_rows U _ (ix2 _ q') e2 rfl))
  · exact congrArg₂ (· + ·) (congrArg₂ (· + ·) (congrArg (b' (ix2 0 q') + ·)
      (congrArg₂ (· * ·) (ld_rows w' _ (ix2 0 q') rfl rfl) (ld_rows U' _ (ix2 _ q') e0 rfl)))
      (congrArg₂ (· * ·) (ld_rows w' _ (ix2 1 q') rfl rfl) (ld_rows U' _ (ix2 _ q') e1 rfl)))
      (congrArg₂ (· * ·) (ld_rows w' _ (ix2 2 q') rfl rfl) (ld_rows U' _ (ix2 _ q') e2 rfl))

/-- The result's block where the weights are kept: the convolution of the rows the point before left. -/
theorem out_keep (hc : ¬ clears (grid0.coords t)) (hf : ¬ fills (grid0.coords t)) (s : Held Ideal) (y : S2048x256.Idx) :
    (keepTo m c t hc hf s).1 y
      = gated (conv (iblk m c 5 t) (iblk m c 3 t) s.2.2.1 y) (conv (iblk m c 6 t) (iblk m c 4 t) s.2.2.2 y) := by
  unfold keepTo keepRun
  dsimp only
  frame_out
  simp only [read_unread_whole]
  canon_tiles x h <;>
    exact conv_tile (iblk m c 5 t) (iblk m c 6 t) (iblk m c 3 t) (iblk m c 4 t) s.2.2.1 s.2.2.2 x y h1
      (by have : (y 0 : ℕ) = _ := h0; omega) (by have : (y 0 : ℕ) = _ := h0; omega) (by have : (y 0 : ℕ) = _ := h0; omega)

/-- The result's block where the weights are refilled. -/
theorem out_fill (hc : ¬ clears (grid0.coords t)) (hf : fills (grid0.coords t)) (s : Held Ideal) (y : S2048x256.Idx) :
    (fillTo m c t hc hf s).1 y
      = gated (conv (iblk m c 5 t) (iblk m c 3 t) s.2.2.1 y) (conv (iblk m c 6 t) (iblk m c 4 t) s.2.2.2 y) := by
  unfold fillTo fillRun
  dsimp only
  frame_out
  simp only [read_unread_whole]
  canon_tiles x h <;>
    exact conv_tile (iblk m c 5 t) (iblk m c 6 t) (iblk m c 3 t) (iblk m c 4 t) s.2.2.1 s.2.2.2 x y h1
      (by have : (y 0 : ℕ) = _ := h0; omega) (by have : (y 0 : ℕ) = _ := h0; omega) (by have : (y 0 : ℕ) = _ := h0; omega)

end Cert.Kernel5Ideal.Up

end
-- ==== Proof.FfnUpArray.lean ====
/-
  The feed-forward up projection: where each point's blocks lie in the arrays, what the weight tiles and the row buffers hold
  after every point, and the result array.
-/
module

public import proofs.«01_k».proof.Proof.FfnUpPoint

@[expose] public section

set_option maxRecDepth 16384

noncomputable section

namespace Cert.Kernel5Ideal.Up

open Idealize.ShloMosaic Idealize.ShloMosaic.TcCoe Idealize.SL.Sem
open Idealize.ShloMosaic.Pipeline (Dat)
open Cert.Kernel5Ideal Cert.Kernel5Ideal.Gen Cert.Tile

/-! ## Where the blocks lie -/

/-- The row tile of a step of the walk (the walk goes down the rows first). -/
abbrev rowTile (n : ℕ) : ℕ := min n 171 % 4
/-- The column tile of a step of the walk. -/
abbrev colTile (n : ℕ) : ℕ := min n 171 / 4

/-- Where the input's block lies. -/
theorem index0 (t : Fin cfg0.N) : win0_0.index t 0 = rowTile t.val ∧ win0_0.index t 1 = 0 := by
  revert t; decide +kernel
/-- Where the gate weight's block lies: the left half of the columns. -/
theorem index1 (t : Fin cfg0.N) : win0_1.index t 0 = 0 ∧ win0_1.index t 1 = colTile t.val := by
  revert t; decide +kernel
/-- Where the value weight's block lies: the right half of the columns. -/
theorem index2 (t : Fin cfg0.N) : win0_2.index t 0 = 0 ∧ win0_2.index t 1 = 43 + colTile t.val := by
  revert t; decide +kernel
/-- Where the gate's taps lie: one step behind. -/
theorem index3 (t : Fin cfg0.N) : win0_3.index t 0 = 0 ∧ win0_3.index t 1 = colTile (t.val - 1) := by
  revert t; decide +kernel
/-- Where the value's taps lie. -/
theorem index4 (t : Fin cfg0.N) : win0_4.index t 0 = 0 ∧ win0_4.index t 1 = 43 + colTile (t.val - 1) := by
  revert t; decide +kernel
/-- Where the gate's bias lies. -/
theorem index5 (t : Fin cfg0.N) : win0_5.index t 0 = 0 ∧ win0_5.index t 1 = colTile (t.val - 1) := by
  revert t; decide +kernel
/-- Where the value's bias lies. -/
theorem index6 (t : Fin cfg0.N) : win0_6.index t 0 = 0 ∧ win0_6.index t 1 = 43 + colTile (t.val - 1) := by
  revert t; decide +kernel
/-- Where the result's block lies: one step behind. -/
theorem index7 (t : Fin cfg0.N) : win0_7.index t 0 = rowTile (t.val - 1) ∧ win0_7.index t 1 = colTile (t.val - 1) := by
  revert t; decide +kernel
/-- The written blocks cover the result. -/
theorem covers7 : (cfg0.win 7).Covers := by decide +kernel
/-- Nothing is written back at the first point. -/
theorem flush_pos (t : Fin cfg0.N) (hf : (cfg0.win 7).flush t = true) : t.val ≠ 0 := by
  revert t; decide +kernel

variable (m : (ℓ : Loc nD τ sig) → Buf (Elt Ideal) ℓ) (c : Dev nD)

/-- The activations. -/
abbrev hArr : Vec Ideal S8192x4096 .bf16 := m ((c : Thread nD τ).loc main_arg0)
/-- The weight: the gate's columns, then the value's. -/
abbrev wArr : Vec Ideal S4096x22016 .f32 := m ((c : Thread nD τ).loc main_arg1)
/-- The taps of the convolution. -/
abbrev tArr : Vec Ideal S3x22016 .f32 := m ((c : Thread nD τ).loc main_arg2)
/-- The bias of the convolution. -/
abbrev bArr : Vec Ideal S22016 .f32 := m ((c : Thread nD τ).loc main_arg3)

/-- The activations' block, read off the array. -/
theorem hblk_apply (t : Fin cfg0.N) (r : Fin 2048) (k : Fin 4096) (R : Fin 8192)
    (hR : (R : ℕ) = 2048 * rowTile t.val + r) : (iblk m c 0 t : Vec Ideal S2048x4096 .bf16) (ix2 r k) = hArr m c (ix2 R k) := by
  obtain ⟨e0, e1⟩ := index0 t
  blk_simp [iblk]
  refine (congrFun (V_main_arg0 m c) _).trans (congrArg (hArr m c) ?_)
  blk_ext [e0, e1]

/-- The gate weight's block, read off the array. -/
theorem gblk_apply (t : Fin cfg0.N) (k : Fin 4096) (q : Fin 256) (C : Fin 22016)
    (hC : (C : ℕ) = 256 * colTile t.val + q) : (iblk m c 1 t : Vec Ideal S4096x256 .f32) (ix2 k q) = wArr m c (ix2 k C) := by
  obtain ⟨e0, e1⟩ := index1 t
  blk_simp [iblk]
  refine (congrFun (V_main_arg1 m c) _).trans (congrArg (wArr m c) ?_)
  blk_ext [e0, e1]

/-- The value weight's block, read off the array. -/
theorem vblk_apply (t : Fin cfg0.N) (k : Fin 4096) (q : Fin 256) (C : Fin 22016)
    (hC : (C : ℕ) = 11008 + 256 * colTile t.val + q) : (iblk m c 2 t : Vec Ideal S4096x256 .f32) (ix2 k q) = wArr m c (ix2 k C) := by
  obtain ⟨e0, e1⟩ := index2 t
  blk_simp [iblk]
  refine (congrFun (V_main_arg1 m c) _).trans (congrArg (wArr m c) ?_)
  blk_ext [e0, e1]

/-- The gate's taps, read off the array. -/
theorem gtap_apply (t : Fin cfg0.N) (j : Fin 3) (q : Fin 256) (C : Fin 22016)
    (hC : (C : ℕ) = 256 * colTile (t.val - 1) + q) : (iblk m c 3 t : Vec Ideal S3x256 .f32) (ix2 j q) = tArr m c (ix2 j C) := by
  obtain ⟨e0, e1⟩ := index3 t
  blk_simp [iblk]
  refine (congrFun (V_main_arg2 m c) _).trans (congrArg (tArr m c) ?_)
  blk_ext [e0, e1]

/-- The value's taps, read off the array. -/
theorem vtap_apply (t : Fin cfg0.N) (j : Fin 3) (q : Fin 256) (C : Fin 22016)
    (hC : (C : ℕ) = 11008 + 256 * colTile (t.val - 1) + q) : (iblk m c 4 t : Vec Ideal S3x256 .f32) (ix2 j q) = tArr m c (ix2 j C) := by
  obtain ⟨e0, e1⟩ := index4 t
  blk_simp [iblk]
  refine (congrFun (V_main_arg2 m c) _).trans (congrArg (tArr m c) ?_)
  blk_ext [e0, e1]

/-- The gate's bias, read off the array. -/
theorem gbias_apply (t : Fin cfg0.N) (q : Fin 256) (C : Fin 22016)
    (hC : (C : ℕ) = 256 * colTile (t.val - 1) + q) : (iblk m c 5 t : Vec Ideal S1x256 .f32) (ix2 0 q) = bArr m c (ix1 C) := by
  obtain ⟨e0, e1⟩ := index5 t
  blk_simp [iblk]
  have e : ((win0_5.blk t).view.emb (ix2 0 q) : S1x22016.Idx) = ix2 0 C := by blk_ext [e0, e1]
  rw [e]
  entry_read
  pointwise

/-- The value's bias, read off the array. -/
theorem vbias_apply (t : Fin cfg0.N) (q : Fin 256) (C : Fin 22016)
    (hC : (C : ℕ) = 11008 + 256 * colTile (t.val - 1) + q) : (iblk m c 6 t : Vec Ideal S1x256 .f32) (ix2 0 q) = bArr m c (ix1 C) := by
  obtain ⟨e0, e1⟩ := index6 t
  blk_simp [iblk]
  have e : ((win0_6.blk t).view.emb (ix2 0 q) : S1x22016.Idx) = ix2 0 C := by blk_ext [e0, e1]
  rw [e]
  entry_read
  pointwise

/-! ## What the kept buffers hold -/

/-- The weight tiles after a point are those of the point's column. -/
theorem weights_held : ∀ (n : ℕ) (h : n < cfg0.N) (k : Fin 4096) (q : Fin 256) (C D : Fin 22016),
    (C : ℕ) = 256 * colTile n + q → (D : ℕ) = 11008 + 256 * colTile n + q →
    (stateAt m c n h).2.1 (ix2 k q) = wArr m c (ix2 k C) ∧ (stateAt m c n h).2.2.1 (ix2 k q) = wArr m c (ix2 k D)
  | 0, h, k, q, C, D, hC, hD => by
    have hw := w_clear m c ⟨0, h⟩ ((clears_iff _).mpr rfl) ((fills_iff _).mpr ⟨rfl, Nat.succ_pos 171⟩)
    rw [stateAt_clear m c h ((clears_iff _).mpr rfl) ((fills_iff _).mpr ⟨rfl, Nat.succ_pos 171⟩)]
    exact ⟨(congrFun hw.1 _).trans (gblk_apply m c ⟨0, h⟩ k q C hC), (congrFun hw.2 _).trans (vblk_apply m c ⟨0, h⟩ k q D hD)⟩
  | n + 1, h, k, q, C, D, hC, hD => by
    have hn : n + 1 < 173 := lt_of_lt_of_eq h N_0
    by_cases hf : fills (grid0.coords ⟨n + 1, h⟩)
    · have hw := w_fill m c ⟨n + 1, h⟩ (not_clears n h) hf (stateAt m c n (Nat.lt_of_succ_lt h)).2
      rw [stateAt_fill m c n h (not_clears n h) hf]
      exact ⟨(congrFun hw.1 _).trans (gblk_apply m c ⟨n + 1, h⟩ k q C hC), (congrFun hw.2 _).trans (vblk_apply m c ⟨n + 1, h⟩ k q D hD)⟩
    · have hf' : ¬ ((n + 1) % 4 = 0 ∧ n + 1 < 172) := fun e => hf ((fills_iff _).mpr e)
      rw [stateAt_keep m c n h (not_clears n h) hf]
      have e : colTile (n + 1) = colTile n := by unfold colTile; omega
      exact weights_held n (Nat.lt_of_succ_lt h) k q C D (by rw [hC, e]) (by rw [hD, e])

/-- The product of the activations and the weight with eight zero rows above it. -/
def padded (a : Vec Ideal S8192x4096 .bf16) (w : Vec Ideal S4096x22016 .f32) (R : ℕ) (C : Fin 22016) : EReal :=
  if h : 8 ≤ R ∧ R < 8200 then ∑ k : Fin 4096, a (ix2 ⟨R - 8, by omega⟩ k) * w (ix2 k C) else 0

/-- A row buffer that is advanced at every step by the products of the step's tile holds the rows of the padded product
    from eight above the tile to the tile's end. -/
theorem rows_held (U : (n : ℕ) → n < cfg0.N → Vec Ideal S2056x256 .f32) (W : (n : ℕ) → n < cfg0.N → Vec Ideal S4096x256 .bf16)
    (o : ℕ) (hw : ∀ n h (k : Fin 4096) (q : Fin 256) (C : Fin 22016), n < 172 → (C : ℕ) = o + 256 * colTile n + q → W n h (ix2 k q) = wArr m c (ix2 k C))
    (h0 : ∀ h, U 0 h = next (iblk m c 0 ⟨0, h⟩) (W 0 h) (keep (grid0.coords ⟨0, h⟩)) (fun _ => 0))
    (hs : ∀ n h, U (n + 1) h = next (iblk m c 0 ⟨n + 1, h⟩) (W (n + 1) h) (keep (grid0.coords ⟨n + 1, h⟩)) (U n (Nat.lt_of_succ_lt h))) :
    ∀ (n : ℕ) (h : n < cfg0.N) (hn : n < 172) (p : Fin 2056) (q : Fin 256) (C : Fin 22016), (C : ℕ) = o + 256 * colTile n + q →
      U n h (ix2 p q) = padded (hArr m c) (wArr m c) (2048 * rowTile n + p) C := by
  have below : ∀ (n : ℕ) (h : n < cfg0.N) (hn : n < 172) (κ : EReal) (V : Vec Ideal S2056x256 .f32) (p : Fin 2056) (q : Fin 256)
      (C : Fin 22016), (C : ℕ) = o + 256 * colTile n + q → ¬ (p : ℕ) < 8 →
      next (iblk m c 0 ⟨n, h⟩) (W n h) κ V (ix2 p q) = padded (hArr m c) (wArr m c) (2048 * rowTile n + p) C := by
    intro n h hn κ V p q C hC hp
    have hp' := p.isLt
    refine (next_below _ _ κ V p q hp).trans ?_
    unfold padded
    rw [dif_pos (by unfold rowTile; omega)]
    refine Finset.sum_congr rfl fun k _ => congrArg₂ (· * ·) (hblk_apply m c ⟨n, h⟩ _ k _ ?_) (hw n h k q C hn hC)
    show 2048 * rowTile n + (p : ℕ) - 8 = 2048 * rowTile n + ((p : ℕ) - 8)
    omega
  intro n
  induction n with
  | zero =>
    intro h hn p q C hC
    rw [h0 h]
    by_cases hp : (p : ℕ) < 8
    · refine (next_above _ _ _ _ p q hp).trans ((zero_mul _).trans ?_)
      unfold padded
      rw [dif_neg (by unfold rowTile; omega)]
    · exact below 0 h hn _ _ p q C hC hp
  | succ n ih =>
    intro h hn p q C hC
    rw [hs n h]
    by_cases hp : (p : ℕ) < 8
    · refine (next_above _ _ _ _ p q hp).trans ?_
      rw [keep_eq]
      by_cases hf : fills (grid0.coords ⟨n + 1, h⟩)
      · have hf' : (n + 1) % 4 = 0 := ((fills_iff _).mp hf).1
        rw [if_pos hf, mul_zero, padded, dif_neg (by unfold rowTile; omega)]
      · have hf' : ¬ ((n + 1) % 4 = 0 ∧ n + 1 < 172) := fun e => hf ((fills_iff _).mpr e)
        rw [if_neg hf, mul_one]
        refine (ih _ (by omega) _ q C (by rw [hC]; unfold colTile; omega)).trans (congrArg (fun R => padded _ _ R C) ?_)
        unfold rowTile
        dsimp only
        omega
    · exact below (n + 1) h hn _ _ p q C hC hp

/-- The gate's rows after a point. -/
theorem gate_held (n : ℕ) (h : n < cfg0.N) (hn : n < 172) (p : Fin 2056) (q : Fin 256) (C : Fin 22016)
    (hC : (C : ℕ) = 256 * colTile n + q) : (stateAt m c n h).2.2.2.1 (ix2 p q) = padded (hArr m c) (wArr m c) (2048 * rowTile n + p) C := by
  refine rows_held m c (fun n h => (stateAt m c n h).2.2.2.1) (fun n h => (stateAt m c n h).2.1) 0 ?_ ?_ ?_ n h hn p q C (by omega)
  · intro n h k q C hn hC
    exact (weights_held m c n h k q C ⟨11008 + 256 * colTile n + q, by unfold colTile; omega⟩ (by omega) rfl).1
  · intro h
    have hc := (clears_iff (⟨0, h⟩ : Fin cfg0.N)).mpr rfl
    have hf := (fills_iff (⟨0, h⟩ : Fin cfg0.N)).mpr ⟨rfl, Nat.succ_pos 171⟩
    rw [stateAt_clear m c h hc hf, (w_clear m c ⟨0, h⟩ hc hf).1]
    exact ug_clear m c ⟨0, h⟩ hc hf _
  · intro n h
    by_cases hf : fills (grid0.coords ⟨n + 1, h⟩)
    · rw [stateAt_fill m c n h (not_clears n h) hf, (w_fill m c ⟨n + 1, h⟩ (not_clears n h) hf _).1]
      exact ug_fill m c ⟨n + 1, h⟩ (not_clears n h) hf _
    · rw [stateAt_keep m c n h (not_clears n h) hf]
      exact ug_keep m c ⟨n + 1, h⟩ (not_clears n h) hf _

/-- The value's rows after a point. -/
theorem value_held (n : ℕ) (h : n < cfg0.N) (hn : n < 172) (p : Fin 2056) (q : Fin 256) (C : Fin 22016)
    (hC : (C : ℕ) = 11008 + 256 * colTile n + q) :
    (stateAt m c n h).2.2.2.2 (ix2 p q) = padded (hArr m c) (wArr m c) (2048 * rowTile n + p) C := by
  refine rows_held m c (fun n h => (stateAt m c n h).2.2.2.2) (fun n h => (stateAt m c n h).2.2.1) 11008 ?_ ?_ ?_ n h hn p q C hC
  · intro n h k q C hn hC
    exact (weights_held m c n h k q ⟨256 * colTile n + q, by unfold colTile; omega⟩ C rfl hC).2
  · intro h
    have hc := (clears_iff (⟨0, h⟩ : Fin cfg0.N)).mpr rfl
    have hf := (fills_iff (⟨0, h⟩ : Fin cfg0.N)).mpr ⟨rfl, Nat.succ_pos 171⟩
    rw [stateAt_clear m c h hc hf, (w_clear m c ⟨0, h⟩ hc hf).2]
    exact uv_clear m c ⟨0, h⟩ hc hf _
  · intro n h
    by_cases hf : fills (grid0.coords ⟨n + 1, h⟩)
    · rw [stateAt_fill m c n h (not_clears n h) hf, (w_fill m c ⟨n + 1, h⟩ (not_clears n h) hf _).2]
      exact uv_fill m c ⟨n + 1, h⟩ (not_clears n h) hf _
    · rw [stateAt_keep m c n h (not_clears n h) hf]
      exact uv_keep m c ⟨n + 1, h⟩ (not_clears n h) hf _

/-! ## The result -/

/-- The convolution of the product's column `C` at row `R`, with its bias; the rows above the first are zero. -/
def taps (a : Vec Ideal S8192x4096 .bf16) (w : Vec Ideal S4096x22016 .f32) (t : Vec Ideal S3x22016 .f32) (b : Vec Ideal S22016 .f32)
    (R : ℕ) (C : Fin 22016) : EReal :=
  b (ix1 C) + t (ix2 0 C) * padded a w (6 + R) C + t (ix2 1 C) * padded a w (7 + R) C + t (ix2 2 C) * padded a w (8 + R) C

/-- A result column among the gate's columns. -/
def gateCol (k : Fin 11008) : Fin 22016 := ⟨k.val, by omega⟩
/-- A result column among the value's columns. -/
def valueCol (k : Fin 11008) : Fin 22016 := ⟨11008 + k.val, by omega⟩

/-- The gated convolution of the product. -/
def up (a : Vec Ideal S8192x4096 .bf16) (w : Vec Ideal S4096x22016 .f32) (t : Vec Ideal S3x22016 .f32) (b : Vec Ideal S22016 .f32) :
    Vec Ideal S8192x11008 .bf16 :=
  fun j => gated (taps a w t b (j 0 : ℕ) (gateCol (j 1))) (taps a w t b (j 0 : ℕ) (valueCol (j 1)))

/-- The result's block after the first point: the convolution of the rows the point before left. -/
theorem out_step (n : ℕ) (h : n + 1 < cfg0.N) (y : S2048x256.Idx) :
    (stateAt m c (n + 1) h).1 y
      = gated (conv (iblk m c 5 ⟨n + 1, h⟩) (iblk m c 3 ⟨n + 1, h⟩) (stateAt m c n (Nat.lt_of_succ_lt h)).2.2.2.1 y)
          (conv (iblk m c 6 ⟨n + 1, h⟩) (iblk m c 4 ⟨n + 1, h⟩) (stateAt m c n (Nat.lt_of_succ_lt h)).2.2.2.2 y) := by
  by_cases hf : fills (grid0.coords ⟨n + 1, h⟩)
  · rw [stateAt_fill m c n h (not_clears n h) hf]
    exact out_fill m c ⟨n + 1, h⟩ (not_clears n h) hf _ y
  · rw [stateAt_keep m c n h (not_clears n h) hf]
    exact out_keep m c ⟨n + 1, h⟩ (not_clears n h) hf _ y

/-- The result's block at an index, by the arrays. -/
theorem out_apply (t : Fin cfg0.N) (ht : t.val ≠ 0) (r : Fin 2048) (q : Fin 256) (R : Fin 8192) (C : Fin 11008)
    (hR : (R : ℕ) = 2048 * rowTile (t.val - 1) + r) (hC : (C : ℕ) = 256 * colTile (t.val - 1) + q) :
    (stateAt m c t.val t.isLt).1 (ix2 r q) = up (hArr m c) (wArr m c) (tArr m c) (bArr m c) (ix2 R C) := by
  obtain ⟨n, h⟩ := t
  cases n with
  | zero => exact absurd rfl ht
  | succ n =>
    have hn : n + 1 < 173 := lt_of_lt_of_eq h N_0
    have hC' : ((gateCol C : Fin 22016) : ℕ) = 256 * colTile n + q := hC
    have hD' : ((valueCol C : Fin 22016) : ℕ) = 11008 + 256 * colTile n + q := by
      show 11008 + (C : ℕ) = _
      rw [hC, Nat.add_assoc]; rfl
    have hR' : (R : ℕ) = 2048 * rowTile n + r := hR
    have hg : ∀ (d : ℕ) (hd), (stateAt m c n (Nat.lt_of_succ_lt h)).2.2.2.1 (ix2 ⟨d + (r : ℕ), hd⟩ q)
        = padded (hArr m c) (wArr m c) (d + R) (gateCol C) := fun d hd =>
      (gate_held m c n _ (by omega) _ q _ hC').trans (congrArg (fun S => padded _ _ S _) (by rw [hR']; dsimp only; omega))
    have hv : ∀ (d : ℕ) (hd), (stateAt m c n (Nat.lt_of_succ_lt h)).2.2.2.2 (ix2 ⟨d + (r : ℕ), hd⟩ q)
        = padded (hArr m c) (wArr m c) (d + R) (valueCol C) := fun d hd =>
      (value_held m c n _ (by omega) _ q _ hD').trans (congrArg (fun S => padded _ _ S _) (by rw [hR']; dsimp only; omega))
    refine (out_step m c n h (ix2 r q)).trans (congrArg₂ gated ?_ ?_)
    · exact congrArg₂ (· + ·) (congrArg₂ (· + ·) (congrArg₂ (· + ·) (gbias_apply m c ⟨n + 1, h⟩ q _ hC')
        (congrArg₂ (· * ·) (gtap_apply m c ⟨n + 1, h⟩ 0 q _ hC') (hg 6 _)))
        (congrArg₂ (· * ·) (gtap_apply m c ⟨n + 1, h⟩ 1 q _ hC') (hg 7 _)))
        (congrArg₂ (· * ·) (gtap_apply m c ⟨n + 1, h⟩ 2 q _ hC') (hg 8 _))
    · exact congrArg₂ (· + ·) (congrArg₂ (· + ·) (congrArg₂ (· + ·) (vbias_apply m c ⟨n + 1, h⟩ q _ hD')
        (congrArg₂ (· * ·) (vtap_apply m c ⟨n + 1, h⟩ 0 q _ hD') (hv 6 _)))
        (congrArg₂ (· * ·) (vtap_apply m c ⟨n + 1, h⟩ 1 q _ hD') (hv 7 _)))
        (congrArg₂ (· * ·) (vtap_apply m c ⟨n + 1, h⟩ 2 q _ hD') (hv 8 _))

/-- The result array after the run. -/
theorem final : (dats m 0 c).arrAt 7 cfg0.N = up (hArr m c) (wArr m c) (tArr m c) (bArr m c) := by
  refine (dats m 0 c).arrAt_eq_of_covers 7 _ covers7 fun t hf y => ?_
  obtain ⟨e0, e1⟩ := index7 t
  blk_simp
  rw [after7]
  have hr : ∀ R : Fin 8192, (R : ℕ) = win0_7.index t 0 * 2048 + (y 0 : ℕ) → (R : ℕ) = 2048 * rowTile (t.val - 1) + (y 0 : ℕ) :=
    fun R h => by rw [h, e0, Nat.mul_comm]
  have hc : ∀ C : Fin 11008, (C : ℕ) = win0_7.index t 1 * 256 + (y 1 : ℕ) → (C : ℕ) = 256 * colTile (t.val - 1) + (y 1 : ℕ) :=
    fun C h => by rw [h, e1, Nat.mul_comm]
  rw [eq_ix2 y]
  refine (out_apply m c t (flush_pos t hf) (y 0) (y 1) _ _ (hr _ ?_) (hc _ ?_)).trans
    (congrArg (up (hArr m c) (wArr m c) (tArr m c) (bArr m c)) (eq_ix2 _).symm)
  · blk_simp
  · blk_simp

end Cert.Kernel5Ideal.Up

end
-- ==== Proof.FfnUpRef.lean ====
/-
  The feed-forward up projection's reference, read at an index.
-/
module

public import proofs.«01_k».proof.Proof.FfnUpArray
public import proofs.«01_k».proof.Proof.Gen.Reference5Ideal.Run

@[expose] public section

set_option maxRecDepth 16384

noncomputable section

namespace Cert.Reference5Ideal.Value

open Idealize.ShloMosaic Idealize.ShloMosaic.TcCoe Idealize.SL.Sem
open Cert.Reference5Ideal Cert.Tile
open Cert.Kernel5Ideal.Up (up taps padded gated gateCol valueCol)

/-- The reference's padding constant is zero. -/
theorem fill_eq : (FloatOps.sitofp FTy.f32 0#32 : Ideal .f32) = (0 : EReal) := by
  show (((0#32 : BitVec 32).toInt : ℝ) : EReal) = 0
  simp

/-- The exponential is not negative. -/
theorem exp_nonneg (x : EReal) : 0 ≤ Ideal.exp x := by
  induction x using EReal.rec with
  | bot => exact le_refl _
  | top => exact le_top
  | coe r => exact EReal.coe_nonneg.mpr (Real.exp_pos r).le

/-- Multiplying by the reciprocal of `1 + e^(-g)` is dividing by it. -/
theorem silu_eq (g v : EReal) : g * Ideal.div 1 (1 + Ideal.exp (-g)) * v = gated g v := by
  have hd : (1 + Ideal.exp (-g) : EReal) ≠ 0 :=
    (lt_of_lt_of_le zero_lt_one (le_add_of_nonneg_right (exp_nonneg _))).ne'
  unfold gated Ideal.div
  rw [zero_sub, if_neg hd, if_neg hd, one_mul]

variable (a : Vec Ideal S8192x4096 .bf16) (w : Vec Ideal S4096x22016 .f32) (r : Fin 8192) (C : Fin 22016)

/-- The row two above, zero above the first. -/
theorem two_above : (if h : (2 ≤ (r : ℕ) ∧ (r : ℕ) - 2 < 8192) ∧ (C : ℕ) < 22016 then
      ∑ x : Fin 4096, a (ix2 ⟨(r : ℕ) - 2, h.1.2⟩ x) * w (ix2 x C) else (FloatOps.sitofp FTy.f32 0#32 : Ideal .f32))
    = padded a w (6 + r) C := by
  have hr := r.isLt
  unfold padded
  by_cases h : 2 ≤ (r : ℕ)
  · rw [dif_pos ⟨⟨h, by omega⟩, C.isLt⟩, dif_pos (by omega)]
    refine Finset.sum_congr rfl fun k _ => congrArg (· * _) (congrArg a (congrArg (ix2 · k) (Fin.ext ?_)))
    show (r : ℕ) - 2 = 6 + r - 8
    omega
  · rw [dif_neg (fun e => h e.1.1), dif_neg (by omega), fill_eq]

/-- The row above, zero above the first. -/
theorem one_above : (if h : (2 ≤ 1 + (r : ℕ) ∧ 1 + (r : ℕ) - 2 < 8192) ∧ (C : ℕ) < 22016 then
      ∑ x : Fin 4096, a (ix2 ⟨1 + (r : ℕ) - 2, h.1.2⟩ x) * w (ix2 x C) else (FloatOps.sitofp FTy.f32 0#32 : Ideal .f32))
    = padded a w (7 + r) C := by
  have hr := r.isLt
  unfold padded
  by_cases h : 2 ≤ 1 + (r : ℕ)
  · rw [dif_pos ⟨⟨h, by omega⟩, C.isLt⟩, dif_pos (by omega)]
    refine Finset.sum_congr rfl fun k _ => congrArg (· * _) (congrArg a (congrArg (ix2 · k) (Fin.ext ?_)))
    show 1 + (r : ℕ) - 2 = 7 + r - 8
    omega
  · rw [dif_neg (fun e => h e.1.1), dif_neg (by omega), fill_eq]

/-- The row itself. -/
theorem itself : (if h : (C : ℕ) < 22016 then ∑ x : Fin 4096, a (ix2 r x) * w (ix2 x C) else (FloatOps.sitofp FTy.f32 0#32 : Ideal .f32))
    = padded a w (8 + r) C := by
  have hr := r.isLt
  unfold padded
  rw [dif_pos C.isLt, dif_pos (by omega)]
  refine Finset.sum_congr rfl fun k _ => congrArg (· * _) (congrArg a (congrArg (ix2 · k) (Fin.ext ?_)))
  show (r : ℕ) = 8 + r - 8
  omega

variable (m : (ℓ : Loc nD τ sig) → Buf (Elt Ideal) ℓ) (c : Dev nD)

/-- The reference's result is the gated convolution of the product. -/
theorem result_eq : res_main_v30 m c
    = up (m ((c.tc : Thread nD τ).loc main_arg0)) (m ((c.tc : Thread nD τ).loc main_arg1))
        (m ((c.tc : Thread nD τ).loc main_arg2)) (m ((c.tc : Thread nD τ).loc main_arg3)) := by
  funext j
  unfold res_main_v30
  pointwise
  refine (silu_eq _ _).trans (congrArg₂ gated ?_ ?_)
  · exact congrArg₂ (· + ·) (congrArg₂ (· + ·) (congrArg₂ (· + ·) rfl (congrArg₂ (· * ·) rfl (two_above _ _ (j 0) (gateCol (j 1)))))
      (congrArg₂ (· * ·) rfl (one_above _ _ (j 0) (gateCol (j 1))))) (congrArg₂ (· * ·) rfl (itself _ _ (j 0) (gateCol (j 1))))
  · exact congrArg₂ (· + ·) (congrArg₂ (· + ·) (congrArg₂ (· + ·) rfl (congrArg₂ (· * ·) rfl (two_above _ _ (j 0) (valueCol (j 1)))))
      (congrArg₂ (· * ·) rfl (one_above _ _ (j 0) (valueCol (j 1))))) (congrArg₂ (· * ·) rfl (itself _ _ (j 0) (valueCol (j 1))))

end Cert.Reference5Ideal.Value

end
-- ==== Proof.FfnUpClaim.lean ====
/-
  The claims about the feed-forward up projection: the programs run and keep their arguments, and the kernel's result is the
  reference's.
-/
module

public import proofs.«01_k».proof.Defs
public import proofs.«01_k».proof.Proof.FfnUpRef
public import proofs.«01_k».proof.Proof.Gen.Kernel5.Launch
public import Idealize.ShloMosaic.Lib.Claim

@[expose] public section

set_option maxRecDepth 16384

noncomputable section

open Idealize.ShloMosaic Idealize.ShloMosaic.TcCoe Idealize.SL.Sem

namespace Cert.Kernel5

/-- The kernel, for any float values, ends with its arguments unchanged and every semaphore counter at zero. -/
def Quiet : Prop := ∀ {F : FTy → Type} [FloatOps F] (m : (ℓ : Loc nD τ sig) → Buf (Elt F) ℓ) (ρ : Dev nD → PrngReg),
  θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0)

end Cert.Kernel5

namespace Cert.Kernel5Ideal

/-- The idealized kernel, for any float values, ends with its arguments unchanged and every semaphore counter at zero. -/
def Quiet : Prop := ∀ {F : FTy → Type} [FloatOps F] (m : (ℓ : Loc nD τ sig) → Buf (Elt F) ℓ) (ρ : Dev nD → PrngReg),
  θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0)

/-- It does. -/
theorem quiet : Quiet := fun m ρ =>
  (θ_run defs _ _).mono (fun _ h => ⟨h.1, h.2.2⟩)
    (θ_run_and (Gen.frame_of m ρ (Up.dats m) (Up.A_eq m) (Up.run_main m ρ)) (Up.run_quiet m ρ))

/-- The run, with the result array named. -/
theorem run_result (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = (Up.dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.2 c).1 7 |>.trans rfl, h.1.1 c⟩) (θ_run_and (quiet m ρ) (Up.run_main m ρ))

end Cert.Kernel5Ideal

namespace Cert.Proof.FfnUp

open Cert.Tile

/-- The two programs are one text: what one does, so does the other. -/
theorem same : Cert.Kernel5.Quiet = Cert.Kernel5Ideal.Quiet := by sl_kernel_rfl

/-- The kernel runs and keeps its arguments. -/
theorem frame : Cert.quiescent_Kernel5 := fun m g _ => same.mpr Cert.Kernel5Ideal.quiet m g

/-- The idealized kernel runs and keeps its arguments. -/
theorem frame_ideal : Cert.quiescent_Kernel5Ideal := fun m g _ => Cert.Kernel5Ideal.quiet m g

/-- The reference runs and keeps its arguments. -/
theorem frame_ref : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- The kernel's gated convolution is the reference's. -/
theorem algebraic : Cert.algebraic_Kernel5Ideal_Reference5Ideal := by
  pair_intro
  · run_from Cert.Kernel5Ideal.run_result m g
  · run_from Cert.Reference5Ideal.Value.run m' g'
    rw [Cert.Kernel5Ideal.Up.final m c, Cert.Reference5Ideal.Value.result_eq m' c, (hagree c).1, (hagree c).2.1, (hagree c).2.2.1,
      (hagree c).2.2.2]

end Cert.Proof.FfnUp

end
-- ==== Proof.Rotary.lean ====
/-
  The rotary embedding, column by column: heads of 64 columns, two to a table row of 128. A column is multiplied with its
  cosine; the column half a head away, with the (signed) sine.
-/
module

public import proofs.«01_k».proof.Proof.Tile

@[expose] public section

set_option maxRecDepth 16384

noncomputable section

namespace Cert.Tile

open Idealize.ShloMosaic Idealize.ShloMosaic.TcCoe Idealize.SL.Sem

/-- A column's place in the table. -/
def lane (q : ℕ) : Fin 128 := ⟨q % 128, Nat.mod_lt _ (by decide)⟩

/-- The column half a head away: later for the first half of a head, earlier for the second. -/
def far (q : ℕ) : ℕ := if q / 32 % 2 = 0 then q + 32 else q - 32

/-- The kernel tells the two halves apart by one bit of the lane. -/
theorem half_bit (l : Fin 128) :
    IntOp.cmpi CmpIPredicate.eq (IntOp.andi (BitVec.ofNat 32 l.val) 32#32) 0#32 = if l.val / 32 % 2 = 0 then 1#1 else 0#1 := by
  revert l; decide +kernel

/-- The two rolls of a row of 128 lanes bring the other half of each head where it is needed. -/
theorem select_half (l : ℕ) (hl : l < 128) (u v w : EReal) (hu : l / 32 % 2 = 0 → u = w) (hv : ¬ l / 32 % 2 = 0 → v = w) :
    Scalar.select (IntOp.cmpi CmpIPredicate.eq (IntOp.andi (BitVec.ofNat 32 l) 32#32) 0#32) u v = w := by
  rw [half_bit ⟨l, hl⟩]
  by_cases h : l / 32 % 2 = 0
  · rw [if_pos h]; exact hu h
  · rw [if_neg h]; exact hv h

/-- An array's row read at a column given as a number (any value past the end). -/
def at' {R C : ℕ} (A : (⟨2, ![R, C]⟩ : Shape).Idx → EReal) (r : Fin R) (q : ℕ) : EReal :=
  if h : q < C then A (ix2 r ⟨q, h⟩) else 0

theorem at'_eq {R C : ℕ} (A : (⟨2, ![R, C]⟩ : Shape).Idx → EReal) (r : Fin R) (q : ℕ) (k : Fin C) (h : k.val = q) :
    A (ix2 r k) = at' A r q := by
  subst h
  unfold at'
  rw [dif_pos k.isLt]

/-- The rotary embedding of a row at a column. -/
def rotAt (a : ℕ → EReal) (c s : Fin 128 → EReal) (q : ℕ) : EReal := a q * c (lane q) + a (far q) * s (lane q)

/-- One lane of a chunk of 128 columns starting at column `o`, as the kernel computes it. -/
theorem rot_chunk {R C : ℕ} (A : (⟨2, ![R, C]⟩ : Shape).Idx → EReal) (c s : (⟨2, ![R, 128]⟩ : Shape).Idx → EReal) (r : Fin R) (q o : ℕ)
    (ho : o % 128 = 0) (l : Fin 128) (hl : o + l.val = q) (k u v : Fin C) (hk : k.val = q) (hu : u.val = o + (l.val + 128 - 96) % 128)
    (hv : v.val = o + (l.val + 128 - 32) % 128) :
    A (ix2 r k) * c (ix2 r l)
      + Scalar.select (IntOp.cmpi CmpIPredicate.eq (IntOp.andi (BitVec.ofNat 32 l.val) 32#32) 0#32) (A (ix2 r u)) (A (ix2 r v)) * s (ix2 r l)
      = rotAt (at' A r) (fun l => c (ix2 r l)) (fun l => s (ix2 r l)) q := by
  have hl' := l.isLt
  have el : l = lane q := Fin.ext (by show l.val = q % 128; omega)
  subst el
  refine congrArg₂ (· + ·) (congrArg (· * _) (at'_eq A r q k hk)) (congrArg (· * _) ?_)
  refine select_half _ hl' _ _ _ (fun h => at'_eq A r _ u ?_) (fun h => at'_eq A r _ v ?_)
  · unfold far; rw [if_pos (by omega), hu]; omega
  · unfold far; rw [if_neg (by omega), hv]; omega

end Cert.Tile

end
-- ==== Proof.MainProjPoint.lean ====
/-
  The main input projection, one grid point at a time: what a point leaves in the transposed weight tile, in the raw
  product and in the result block. The first 65 points rotate the product the point before left; the others only copy it.
-/
module

public import proofs.«01_k».proof.Proof.Gen.Kernel8Ideal.Value
public import proofs.«01_k».proof.Proof.Rotary

@[expose] public section

set_option maxRecDepth 16384

noncomputable section

namespace Cert.Kernel8Ideal.Value

open Idealize.ShloMosaic Idealize.ShloMosaic.TcCoe Idealize.SL.Sem
open Idealize.ShloMosaic.Pipeline (Dat)
open Cert.Kernel8Ideal Cert.Kernel8Ideal.Gen Cert.Tile

variable (m : (ℓ : Loc nD τ sig) → Buf (Elt Ideal) ℓ)

/-- The identity matrix the kernel transposes with. -/
theorem eye_apply (r c : Fin 256) : k0_pay6 (F := Ideal) (ix2 r c) = if r = c then (1 : EReal) else 0 := by
  unfold k0_pay6
  pointwise
  exact select_diag (by decide) r c 1 0

/-- The product of the identity with the rows of a block of the weight is that block transposed. -/
theorem tr_apply (v : Vec Ideal S512x256 .f32) (r : Fin 256) (c : Fin 512) : k0_pay7 v (ix2 r c) = v (ix2 c r) := by
  unfold k0_pay7
  pointwise
  simp only [eye_apply, ite_mul, one_mul, zero_mul, Finset.sum_ite_eq, Finset.mem_univ, if_true]

/-- One row block of the product. -/
theorem dot_apply (a : Vec Ideal S256x4096 .bf16) (b : Vec Ideal S4096x512 .bf16) (r : Fin 256) (c : Fin 512) :
    k0_pay26 a b (ix2 r c) = ∑ k : Fin 4096, a (ix2 r k) * b (ix2 k c) := by
  unfold k0_pay26
  pointwise

/-- The factor of a rotated column tile: the softmax scale, in base two, for the first four tiles (the queries). -/
def factor (j : BitVec 32) : EReal :=
  Scalar.select (Scalar.cmpi CmpIPredicate.slt j 4#32) (Named.named (F := Ideal) κ "scale" (φ := .f32) 1043900987#32) 1

/-- One row block rotated, as the kernel computes it from its four chunks of 128 columns. -/
def ropeBlock (j : BitVec 32) (A : Vec Ideal S256x512 .f32) (c s : Vec Ideal S256x128 .f32) : FVec Ideal S256x512 .bf16 :=
  k0_pay25 j s (k0_pay20 A c s) (k0_pay21 A c s) (k0_pay22 A c s) (k0_pay23 A) (k0_pay24 A c)
    (iota Kind.tc S256x128 32 [1] iota_S256x128_d1_w32)

/-- The rotated row block, column by column. -/
theorem rope_apply (j : BitVec 32) (A : Vec Ideal S256x512 .f32) (c s : Vec Ideal S256x128 .f32) (r : Fin 256) (q : Fin 512) :
    ropeBlock j A c s (ix2 r q) = rotAt (at' A r) (fun l => c (ix2 r l)) (fun l => s (ix2 r l)) q.val * factor j := by
  unfold ropeBlock k0_pay25 k0_pay20 k0_pay21 k0_pay22 k0_pay24
  pointwise
  refine congrArg (· * factor j) ?_
  have hq := q.isLt
  by_cases h1 : q.val < 128
  · refine (dif_pos h1).trans (rot_chunk A c s r q.val 0 rfl ⟨q.val, h1⟩ (Nat.zero_add _) _ _ _ rfl ?_ ?_) <;> dsimp only <;> omega
  refine (dif_neg h1).trans ?_
  by_cases h2 : q.val - 128 < 128
  · refine (dif_pos h2).trans (rot_chunk A c s r q.val 128 rfl ⟨q.val - 128, h2⟩ ?_ _ _ _ ?_ rfl rfl) <;> dsimp only <;> omega
  refine (dif_neg h2).trans ?_
  by_cases h3 : q.val - 128 - 128 < 128
  · refine (dif_pos h3).trans (rot_chunk A c s r q.val 256 rfl ⟨q.val - 128 - 128, h3⟩ ?_ _ _ _ ?_ rfl rfl) <;> dsimp only <;> omega
  refine (dif_neg h3).trans ?_
  unfold k0_pay23
  pointwise
  refine rot_chunk A c s r q.val 384 rfl ⟨q.val - 128 - 128 - 128, by omega⟩ ?_ _ _ _ ?_ rfl rfl <;> dsimp only <;> omega

/-- A stored tile of the transposed weight, at an index of the whole buffer. -/
theorem weight_tile (B : Vec Ideal S512x4096 .f32) {o : ℕ} {inb} (x : S256x512.Idx) (r : Fin 4096) (q : Fin 512)
    (hr : (r : ℕ) = o + x 0) (hq : (q : ℕ) = x 1) :
    k0_pay7 (View.ld (Val := Elt Ideal) B (Rect.unit ![0, o] ![512, 256] inb)) x = B (ix2 q r) := by
  rw [eq_ix2 x]
  refine (tr_apply _ (x 0) (x 1)).trans (View.ld_unit_apply_of _ _ _ _ _ _ ?_)
  rw [Fin.forall_fin_two]
  exact ⟨hq.trans (Nat.zero_add _).symm, hr⟩

/-- A stored row block of the product, at an index of the whole buffer. -/
theorem row_tile (A : Vec Ideal S1024x4096 .bf16) (U : Vec Ideal S4096x512 .bf16) {o : ℕ} {inb} (x : S256x512.Idx)
    (r : Fin 1024) (q : Fin 512) (hr : (r : ℕ) = o + x 0) (hq : (q : ℕ) = x 1) :
    k0_pay26 (View.ld (Val := Elt Ideal) A (Rect.unit ![o, 0] ![256, 4096] inb)) U x
      = ∑ k : Fin 4096, A (ix2 r k) * U (ix2 k q) := by
  rw [eq_ix2 x]
  refine (dot_apply _ _ (x 0) (x 1)).trans (Finset.sum_congr rfl fun k _ => ?_)
  refine congrArg₂ (· * ·) (View.ld_unit_apply_of _ _ _ _ _ _ ?_) (congrArg U ?_)
  · rw [Fin.forall_fin_two]
    exact ⟨hr, (Nat.zero_add _).symm⟩
  · exact congrArg (ix2 k) (Fin.ext hq.symm)

/-- A loaded row block, column by column. -/
theorem ld_row {n : ℕ} (A : (⟨2, ![1024, n]⟩ : Shape).Idx → EReal) {o : ℕ} {inb} (x : Fin 256) (r : Fin 1024) (hr : (r : ℕ) = o + x) (k : Fin n) :
    View.ld (Val := Elt Ideal) (e' := .f32) A (Rect.unit (s := ⟨2, ![1024, n]⟩) ![o, 0] ![256, n] inb) (ix2 x k) = A (ix2 r k) := by
  refine View.ld_unit_apply_of _ _ _ _ _ _ ?_
  rw [Fin.forall_fin_two]
  exact ⟨hr, (Nat.zero_add _).symm⟩

/-- A stored row block of the rotated product, at an index of the whole buffer. -/
theorem rope_tile (j : BitVec 32) (U : Vec Ideal S1024x512 .f32) (c s : Vec Ideal S1024x128 .f32) {o : ℕ} {inb inb' inb''} (x : S256x512.Idx)
    (r : Fin 1024) (q : Fin 512) (hr : (r : ℕ) = o + x 0) (hq : (q : ℕ) = x 1) :
    ropeBlock j (View.ld (Val := Elt Ideal) U (Rect.unit ![o, 0] ![256, 512] inb)) (View.ld (Val := Elt Ideal) c (Rect.unit ![o, 0] ![256, 128] inb'))
        (View.ld (Val := Elt Ideal) s (Rect.unit ![o, 0] ![256, 128] inb'')) x
      = rotAt (at' U r) (fun l => c (ix2 r l)) (fun l => s (ix2 r l)) q.val * factor j := by
  rw [eq_ix2 x]
  refine (rope_apply j _ _ _ (x 0) (x 1)).trans (congrArg (· * _) ?_)
  have hU : at' (View.ld (Val := Elt Ideal) U (Rect.unit ![o, 0] ![256, 512] inb)) (x 0) = at' U r := by
    funext k
    unfold at'
    by_cases hk : k < 512
    · rw [dif_pos hk, dif_pos hk]
      exact ld_row U (x 0) r hr ⟨k, hk⟩
    · rw [dif_neg hk, dif_neg hk]
  rw [hU, show (x 1).val = q.val from hq.symm]
  exact congrArg₂ (fun c s => rotAt (at' U r) c s q.val) (funext fun l => ld_row c (x 0) r hr l)
    (funext fun l => ld_row s (x 0) r hr l)

/-- A copied row block, at an index of the whole buffer. -/
theorem copy_tile (U : Vec Ideal S1024x512 .f32) {o : ℕ} {inb} (x : S256x512.Idx) (r : Fin 1024) (q : Fin 512) (hr : (r : ℕ) = o + x 0) (hq : (q : ℕ) = x 1) :
    k0_pay46 (F := Ideal) (View.ld (Val := Elt Ideal) U (Rect.unit ![o, 0] ![256, 512] inb)) x = U (ix2 r q) := by
  rw [eq_ix2 x]
  unfold k0_pay46
  pointwise
  exact congrArg₂ (fun a b => U (ix2 a b)) (Fin.ext hr.symm) (Fin.ext hq.symm)

/-- The block of the activations a point reads. -/
abbrev xblk (c : Dev nD) (t : Fin cfg0.N) : Vec Ideal S1024x4096 .bf16 := iblk m c 0 t
/-- The block of the weight a point reads. -/
abbrev wblk (c : Dev nD) (t : Fin cfg0.N) : Vec Ideal S512x4096 .f32 := X0_1 m c t
/-- The block of the cosines a point reads. -/
abbrev cblk (c : Dev nD) (t : Fin cfg0.N) : Vec Ideal S1024x128 .f32 := iblk m c 2 t
/-- The block of the sines a point reads. -/
abbrev sblk (c : Dev nD) (t : Fin cfg0.N) : Vec Ideal S1024x128 .f32 := iblk m c 3 t
/-- What a point leaves in the result block. -/
abbrev outAt (c : Dev nD) (t : Fin cfg0.N) : Vec Ideal S1024x512 .bf16 := (outsAt0 m c t.val t.isLt).1
/-- What a point leaves in the transposed weight tile. -/
abbrev wbfAt (c : Dev nD) (t : Fin cfg0.N) : Vec Ideal S4096x512 .bf16 := (outsAt0 m c t.val t.isLt).2.1
/-- What a point leaves in the raw product. -/
abbrev accAt (c : Dev nD) (t : Fin cfg0.N) : Vec Ideal S1024x512 .f32 := (outsAt0 m c t.val t.isLt).2.2
/-- The point before. -/
abbrev before (t : Fin cfg0.N) : Fin cfg0.N := ⟨t.val - 1, lt_of_le_of_lt (Nat.sub_le _ _) t.isLt⟩

/-- A new column tile begins at the points 0, 8, …, 112. -/
theorem fresh_iff (t : Fin cfg0.N) : (t.val % 121 = 0 ∨ t.val % 121 = 8 ∨ t.val % 121 = 16 ∨ t.val % 121 = 24 ∨ t.val % 121 = 32 ∨ t.val % 121 = 40 ∨ t.val % 121 = 48 ∨ t.val % 121 = 56 ∨ t.val % 121 = 64 ∨ t.val % 121 = 72 ∨ t.val % 121 = 80 ∨ t.val % 121 = 88 ∨ t.val % 121 = 96 ∨ t.val % 121 = 104 ∨ t.val % 121 = 112) ↔ t.val % 8 = 0 ∧ t.val ≤ 112 := by
  have ht : t.val < 121 := lt_of_lt_of_eq t.isLt N_0
  rw [Nat.mod_eq_of_lt ht]
  omega

/-- The column tile of the step before, as the kernel computes it from the grid coordinate. -/
def tileWord (b : BitVec 32) : BitVec 32 :=
  Scalar.select
    (Scalar.andi
      (Scalar.cmpi CmpIPredicate.ne
        (Scalar.subi (Scalar.extui (Scalar.cmpi CmpIPredicate.sgt (Scalar.maxsi (Scalar.subi b 1#32) 0#32) 0#32))
          (Scalar.extui (Scalar.cmpi CmpIPredicate.slt (Scalar.maxsi (Scalar.subi b 1#32) 0#32) 0#32)))
        1#32)
      (Scalar.cmpi CmpIPredicate.ne (Scalar.remsi (Scalar.maxsi (Scalar.subi b 1#32) 0#32) 8#32) 0#32))
    (Scalar.subi (Scalar.divsi (Scalar.maxsi (Scalar.subi b 1#32) 0#32) 8#32) 1#32)
    (Scalar.divsi (Scalar.maxsi (Scalar.subi b 1#32) 0#32) 8#32)

/-- It is one of the first four through point 32. -/
theorem tileWord_lt (t : Fin cfg0.N) :
    Scalar.cmpi CmpIPredicate.slt (tileWord (BitVec.ofNat 32 (grid0.coords t 0))) 4#32 = if t.val ≤ 32 then 1#1 else 0#1 := by
  revert t; decide +kernel

/-- The factor of a point: the scale through point 32. -/
abbrev factorAt (t : Fin cfg0.N) : EReal := factor (tileWord (BitVec.ofNat 32 (grid0.coords t 0)))

/-- The rotated product of the point before. -/
abbrev rotated (c : Dev nD) (t : Fin cfg0.N) (U : Vec Ideal S1024x512 .f32) (r : Fin 1024) (q : Fin 512) : EReal :=
  rotAt (at' U r) (fun l => cblk m c t (ix2 r l)) (fun l => sblk m c t (ix2 r l)) q.val * factorAt t

/-- The result block of a rotated point. -/
theorem out_B (c : Dev nD) (t : Fin cfg0.N) (h0 : ¬ t.val % 121 = 0) (h1 : ¬(t.val % 8 = 0 ∧ t.val ≤ 112)) (h2 : t.val < 65) (r : Fin 1024) (q : Fin 512) :
    outAt m c t (ix2 r q) = rotated m c t (accAt m c (before t)) r q := by
  unfold accAt outAt
  rw [outsAt0_B m c t h0 (fun h => h1 ((fresh_iff t).mp h)) h2 (by omega)]
  dsimp only
  frame_out
  simp only [read_unread_whole]
  generalize (outsAt0 m c _ _).2.2 = U
  canon_tiles x h <;> exact rope_tile _ U (iblk m c 2 t) (iblk m c 3 t) x r q (by have : (r : ℕ) = _ := h0; omega) h1

/-- … and so where a new column tile begins. -/
theorem out_C (c : Dev nD) (t : Fin cfg0.N) (h0 : ¬ t.val % 121 = 0) (h1 : t.val % 8 = 0 ∧ t.val ≤ 112) (h2 : t.val < 65) (r : Fin 1024) (q : Fin 512) :
    outAt m c t (ix2 r q) = rotated m c t (accAt m c (before t)) r q := by
  unfold accAt outAt
  rw [outsAt0_C m c t h0 ((fresh_iff t).mpr h1) h2 (by omega)]
  dsimp only
  frame_out
  simp only [read_unread_whole]
  generalize (outsAt0 m c _ _).2.2 = U
  canon_tiles x h <;> exact rope_tile _ U (iblk m c 2 t) (iblk m c 3 t) x r q (by have : (r : ℕ) = _ := h0; omega) h1

/-- The result block of a point that copies. -/
theorem out_D (c : Dev nD) (t : Fin cfg0.N) (h0 : ¬ t.val % 121 = 0) (h1 : ¬(t.val % 8 = 0 ∧ t.val ≤ 112)) (h2 : ¬ t.val < 65) (r : Fin 1024) (q : Fin 512) :
    outAt m c t (ix2 r q) = accAt m c (before t) (ix2 r q) := by
  unfold accAt outAt
  rw [outsAt0_D m c t h0 (fun h => h1 ((fresh_iff t).mp h)) h2 (by omega)]
  dsimp only
  frame_out
  simp only [read_unread_whole]
  generalize (outsAt0 m c _ _).2.2 = U
  canon_tiles x h <;> exact copy_tile U x r q (by have : (r : ℕ) = _ := h0; omega) h1

/-- … and so where a new column tile begins. -/
theorem out_E (c : Dev nD) (t : Fin cfg0.N) (h0 : ¬ t.val % 121 = 0) (h1 : t.val % 8 = 0 ∧ t.val ≤ 112) (h2 : ¬ t.val < 65) (r : Fin 1024) (q : Fin 512) :
    outAt m c t (ix2 r q) = accAt m c (before t) (ix2 r q) := by
  unfold accAt outAt
  rw [outsAt0_E m c t h0 ((fresh_iff t).mpr h1) h2 (by omega)]
  dsimp only
  frame_out
  simp only [read_unread_whole]
  generalize (outsAt0 m c _ _).2.2 = U
  canon_tiles x h <;> exact copy_tile U x r q (by have : (r : ℕ) = _ := h0; omega) h1

/-- The weight tile at the first point. -/
theorem s0_A (c : Dev nD) (t : Fin cfg0.N) (h0 : t.val % 121 = 0) (h2 : t.val < 65) (r : Fin 4096) (q : Fin 512) :
    wbfAt m c t (ix2 r q) = wblk m c t (ix2 q r) := by
  unfold wbfAt
  rw [outsAt0_A m c t h0 (.inl h0) h2 (by omega)]
  dsimp only
  frame_out
  canon_tiles x h <;> exact weight_tile (X0_1 m c t) x r q (by have : (r : ℕ) = _ := h0; omega) h1

/-- The weight tile where a new column tile begins is the transposed block. -/
theorem s0_C (c : Dev nD) (t : Fin cfg0.N) (h0 : ¬ t.val % 121 = 0) (h1 : t.val % 8 = 0 ∧ t.val ≤ 112) (h2 : t.val < 65) (r : Fin 4096) (q : Fin 512) :
    wbfAt m c t (ix2 r q) = wblk m c t (ix2 q r) := by
  unfold wbfAt
  rw [outsAt0_C m c t h0 ((fresh_iff t).mpr h1) h2 (by omega)]
  dsimp only
  frame_out
  canon_tiles x h <;> exact weight_tile (X0_1 m c t) x r q (by have : (r : ℕ) = _ := h0; omega) h1

/-- … also among the points that copy. -/
theorem s0_E (c : Dev nD) (t : Fin cfg0.N) (h0 : ¬ t.val % 121 = 0) (h1 : t.val % 8 = 0 ∧ t.val ≤ 112) (h2 : ¬ t.val < 65) (r : Fin 4096) (q : Fin 512) :
    wbfAt m c t (ix2 r q) = wblk m c t (ix2 q r) := by
  unfold wbfAt
  rw [outsAt0_E m c t h0 ((fresh_iff t).mpr h1) h2 (by omega)]
  dsimp only
  frame_out
  canon_tiles x h <;> exact weight_tile (X0_1 m c t) x r q (by have : (r : ℕ) = _ := h0; omega) h1

/-- Elsewhere the weight tile stays. -/
theorem s0_BD (c : Dev nD) (t : Fin cfg0.N) (h0 : ¬ t.val % 121 = 0) (h1 : ¬(t.val % 8 = 0 ∧ t.val ≤ 112)) :
    wbfAt m c t = wbfAt m c (before t) := by
  unfold wbfAt
  by_cases h2 : t.val < 65
  · rw [outsAt0_B m c t h0 (fun h => h1 ((fresh_iff t).mp h)) h2 (by omega)]
    rfl
  · rw [outsAt0_D m c t h0 (fun h => h1 ((fresh_iff t).mp h)) h2 (by omega)]
    rfl

/-- The raw product at the first point (the earlier zeros are overwritten). -/
theorem s1_A (c : Dev nD) (t : Fin cfg0.N) (h0 : t.val % 121 = 0) (h2 : t.val < 65) (r : Fin 1024) (q : Fin 512) :
    accAt m c t (ix2 r q) = ∑ k : Fin 4096, xblk m c t (ix2 r k) * wbfAt m c t (ix2 k q) := by
  unfold accAt wbfAt
  rw [outsAt0_A m c t h0 (.inl h0) h2 (by omega)]
  dsimp only
  frame_out
  simp (disch := decide) only [readCov_whole]
  generalize View.canon (Val := Elt Ideal) (s := S4096x512) (e := .bf16) _ = U
  refine canon_append_of_cover [_, _, _, _] [_] _ _ ?_ ?_
  · exact View.cover_of_tiledL _ ![256, 512] (by sl_kernel_rfl) _
  canon_tiles x h <;> exact row_tile (iblk m c 0 t) U x r q (by have : (r : ℕ) = _ := h0; omega) h1

/-- The raw product where a new column tile begins. -/
theorem s1_CE (c : Dev nD) (t : Fin cfg0.N) (h0 : ¬ t.val % 121 = 0) (h1 : t.val % 8 = 0 ∧ t.val ≤ 112) (r : Fin 1024) (q : Fin 512) :
    accAt m c t (ix2 r q) = ∑ k : Fin 4096, xblk m c t (ix2 r k) * wbfAt m c t (ix2 k q) := by
  unfold accAt wbfAt
  by_cases h2 : t.val < 65
  · rw [outsAt0_C m c t h0 ((fresh_iff t).mpr h1) h2 (by omega)]
    dsimp only
    frame_out
    simp (disch := decide) only [readCov_whole]
    generalize View.canon (Val := Elt Ideal) (s := S4096x512) (e := .bf16) _ = U
    canon_tiles x h <;> exact row_tile (iblk m c 0 t) U x r q (by have : (r : ℕ) = _ := h0; omega) h1
  · rw [outsAt0_E m c t h0 ((fresh_iff t).mpr h1) h2 (by omega)]
    dsimp only
    frame_out
    simp (disch := decide) only [readCov_whole]
    generalize View.canon (Val := Elt Ideal) (s := S4096x512) (e := .bf16) _ = U
    canon_tiles x h <;> exact row_tile (iblk m c 0 t) U x r q (by have : (r : ℕ) = _ := h0; omega) h1

/-- The raw product elsewhere: the weight tile is the one kept. -/
theorem s1_BD (c : Dev nD) (t : Fin cfg0.N) (h0 : ¬ t.val % 121 = 0) (h1 : ¬(t.val % 8 = 0 ∧ t.val ≤ 112)) (r : Fin 1024) (q : Fin 512) :
    accAt m c t (ix2 r q) = ∑ k : Fin 4096, xblk m c t (ix2 r k) * wbfAt m c t (ix2 k q) := by
  unfold accAt wbfAt
  by_cases h2 : t.val < 65
  · rw [outsAt0_B m c t h0 (fun h => h1 ((fresh_iff t).mp h)) h2 (by omega)]
    dsimp only
    frame_out
    simp only [read_unread_whole]
    generalize (outsAt0 m c _ _).2.1 = U
    canon_tiles x h <;> exact row_tile (iblk m c 0 t) U x r q (by have : (r : ℕ) = _ := h0; omega) h1
  · rw [outsAt0_D m c t h0 (fun h => h1 ((fresh_iff t).mp h)) h2 (by omega)]
    dsimp only
    frame_out
    simp only [read_unread_whole]
    generalize (outsAt0 m c _ _).2.1 = U
    canon_tiles x h <;> exact row_tile (iblk m c 0 t) U x r q (by have : (r : ℕ) = _ := h0; omega) h1

end Cert.Kernel8Ideal.Value

end
-- ==== Proof.MainProjArray.lean ====
/-
  The main input projection as a whole: where the blocks lie, the weight tile and the raw product after any point, and
  the result array after the run.
-/
module

public import proofs.«01_k».proof.Proof.MainProjPoint

@[expose] public section

set_option maxRecDepth 16384

noncomputable section

namespace Cert.Kernel8Ideal.Value

open Idealize.ShloMosaic Idealize.ShloMosaic.TcCoe Idealize.SL.Sem
open Idealize.ShloMosaic.Pipeline (Dat)
open Cert.Kernel8Ideal Cert.Kernel8Ideal.Gen Cert.Tile

variable (m : (ℓ : Loc nD τ sig) → Buf (Elt Ideal) ℓ)

/-- The column tile of a step of the walk (the walk goes down the rows first). -/
abbrev colTile (n : ℕ) : ℕ := min n 119 / 8
/-- The row tile of a step of the walk. -/
abbrev rowTile (n : ℕ) : ℕ := min n 119 % 8

/-- Where the activations' block lies. -/
theorem index0 (t : Fin cfg0.N) : win0_0.index t 0 = rowTile t.val ∧ win0_0.index t 1 = 0 := by
  revert t; decide +kernel
/-- Where the weight's block lies. -/
theorem index1 (t : Fin cfg0.N) : win0_1.index t 0 = colTile t.val ∧ win0_1.index t 1 = 0 := by
  revert t; decide +kernel
/-- Where the cosines' block lies: one step behind. -/
theorem index2 (t : Fin cfg0.N) : win0_2.index t 0 = rowTile (t.val - 1) ∧ win0_2.index t 1 = 0 := by
  revert t; decide +kernel
/-- Where the sines' block lies: one step behind. -/
theorem index3 (t : Fin cfg0.N) : win0_3.index t 0 = rowTile (t.val - 1) ∧ win0_3.index t 1 = 0 := by
  revert t; decide +kernel
/-- Where the result's block lies: one step behind. -/
theorem index4 (t : Fin cfg0.N) : win0_4.index t 0 = rowTile (t.val - 1) ∧ win0_4.index t 1 = colTile (t.val - 1) := by
  revert t; decide +kernel

/-- The activations. -/
abbrev hArr (c : Dev nD) : Vec Ideal S8192x4096 .bf16 := m ((c : Thread nD τ).loc main_arg0)
/-- The weight of the projection. -/
abbrev wArr (c : Dev nD) : Vec Ideal S4096x15936 .f32 := m ((c : Thread nD τ).loc main_arg1)
/-- The cosines. -/
abbrev cosArr (c : Dev nD) : Vec Ideal S8192x128 .f32 := m ((c : Thread nD τ).loc main_arg2)
/-- The sines. -/
abbrev sinArr (c : Dev nD) : Vec Ideal S8192x128 .f32 := m ((c : Thread nD τ).loc main_arg3)

/-- The activations' block, read off the array. -/
theorem xblk_apply (c : Dev nD) (t : Fin cfg0.N) (r : Fin 1024) (k : Fin 4096) (R : Fin 8192)
    (hR : (R : ℕ) = 1024 * rowTile t.val + r) : xblk m c t (ix2 r k) = hArr m c (ix2 R k) := by
  obtain ⟨e0, e1⟩ := index0 t
  unfold xblk
  blk_simp [iblk]
  refine (congrFun (V_main_arg0 m c) _).trans (congrArg (hArr m c) ?_)
  blk_ext [e0, e1]

/-- The cosines' block, read off the array. -/
theorem cblk_apply (c : Dev nD) (t : Fin cfg0.N) (r : Fin 1024) (k : Fin 128) (R : Fin 8192)
    (hR : (R : ℕ) = 1024 * rowTile (t.val - 1) + r) : cblk m c t (ix2 r k) = cosArr m c (ix2 R k) := by
  obtain ⟨e0, e1⟩ := index2 t
  unfold cblk
  blk_simp [iblk]
  refine (congrFun (V_main_arg2 m c) _).trans (congrArg (cosArr m c) ?_)
  blk_ext [e0, e1]

/-- The sines' block, read off the array. -/
theorem sblk_apply (c : Dev nD) (t : Fin cfg0.N) (r : Fin 1024) (k : Fin 128) (R : Fin 8192)
    (hR : (R : ℕ) = 1024 * rowTile (t.val - 1) + r) : sblk m c t (ix2 r k) = sinArr m c (ix2 R k) := by
  obtain ⟨e0, e1⟩ := index3 t
  unfold sblk
  blk_simp [iblk]
  refine (congrFun (V_main_arg3 m c) _).trans (congrArg (sinArr m c) ?_)
  blk_ext [e0, e1]

/-- The weight's block, read off the array. -/
theorem wblk_apply (c : Dev nD) (t : Fin cfg0.N) (q : Fin 512) (k : Fin 4096) (C : Fin 15936)
    (hC : (C : ℕ) = 512 * colTile t.val + q) : wblk m c t (ix2 q k) = wArr m c (ix2 k C) := by
  obtain ⟨e0, e1⟩ := index1 t
  unfold wblk X0_1 Pipeline.Window.fill
  rw [dif_pos (moved0_1 t (ix2 q k))]
  blk_simp [iblk]
  entry_read
  pointwise
  refine congrArg₂ (fun a b => wArr m c (ix2 a b)) (Fin.ext ?_) (Fin.ext ?_)
  · refine (win0_1.rect_emb_val t _ 1).trans ?_
    rw [e1]
    exact Nat.zero_add _
  · refine (win0_1.rect_emb_val t _ 0).trans ?_
    rw [e0, hC]
    exact congrArg (· + _) (Nat.mul_comm _ _)

/-- The written blocks cover the result. -/
theorem covers4 : (cfg0.win 4).Covers := by decide +kernel

/-- After any point the weight tile is the transposed column tile of that point (by induction over the points). -/
theorem wbf_apply (c : Dev nD) : ∀ (n : ℕ) (hn : n < cfg0.N) (q : Fin 512) (k : Fin 4096) (C : Fin 15936),
    (C : ℕ) = 512 * colTile n + q → wbfAt m c ⟨n, hn⟩ (ix2 k q) = wArr m c (ix2 k C)
  | 0, hn, q, k, C, hC => (s0_A m c ⟨0, hn⟩ rfl (Nat.zero_lt_succ _) k q).trans (wblk_apply m c ⟨0, hn⟩ q k C hC)
  | n + 1, hn, q, k, C, hC => by
    have ht : n + 1 < 121 := lt_of_lt_of_eq hn N_0
    have h0 : ¬ (n + 1) % 121 = 0 := by omega
    by_cases h1 : (n + 1) % 8 = 0 ∧ n + 1 ≤ 112
    · by_cases h2 : n + 1 < 65
      · exact (s0_C m c ⟨n + 1, hn⟩ h0 h1 h2 k q).trans (wblk_apply m c ⟨n + 1, hn⟩ q k C hC)
      · exact (s0_E m c ⟨n + 1, hn⟩ h0 h1 h2 k q).trans (wblk_apply m c ⟨n + 1, hn⟩ q k C hC)
    · rw [s0_BD m c ⟨n + 1, hn⟩ h0 h1]
      exact wbf_apply c n (Nat.lt_of_succ_lt hn) q k C (by rw [hC]; unfold colTile; omega)

/-- One entry of the plain projection. -/
abbrev proj (h : Vec Ideal S8192x4096 .bf16) (w : Vec Ideal S4096x15936 .f32) (R : Fin 8192) (C : Fin 15936) : EReal :=
  ∑ k : Fin 4096, h (ix2 R k) * w (ix2 k C)

/-- The raw product after a point is the full product of the point's tile. -/
theorem acc_apply (c : Dev nD) (t : Fin cfg0.N) (r : Fin 1024) (q : Fin 512) (R : Fin 8192) (C : Fin 15936)
    (hR : (R : ℕ) = 1024 * rowTile t.val + r) (hC : (C : ℕ) = 512 * colTile t.val + q) :
    accAt m c t (ix2 r q) = proj (hArr m c) (wArr m c) R C := by
  have e : accAt m c t (ix2 r q) = ∑ k : Fin 4096, xblk m c t (ix2 r k) * wbfAt m c t (ix2 k q) := by
    by_cases h0 : t.val % 121 = 0
    · exact s1_A m c t h0 (by have ht : t.val < 121 := lt_of_lt_of_eq t.isLt N_0; omega) r q
    by_cases h1 : t.val % 8 = 0 ∧ t.val ≤ 112
    · exact s1_CE m c t h0 h1 r q
    · exact s1_BD m c t h0 h1 r q
  rw [e]
  exact Finset.sum_congr rfl fun k _ => congrArg₂ (· * ·) (xblk_apply m c t r k R hR) (wbf_apply m c t.val t.isLt q k C hC)

/-- After the first point and through point 64, the result block is the point before's product, rotated. -/
theorem out_rotated (c : Dev nD) (t : Fin cfg0.N) (h0 : t.val ≠ 0) (h2 : t.val < 65) (r : Fin 1024) (q : Fin 512) :
    outAt m c t (ix2 r q) = rotated m c t (accAt m c (before t)) r q := by
  by_cases h1 : t.val % 8 = 0 ∧ t.val ≤ 112
  · exact out_C m c t (by omega) h1 h2 r q
  · exact out_B m c t (by omega) h1 h2 r q

/-- Later, it is the product itself. -/
theorem out_copied (c : Dev nD) (t : Fin cfg0.N) (h2 : ¬ t.val < 65) (r : Fin 1024) (q : Fin 512) :
    outAt m c t (ix2 r q) = accAt m c (before t) (ix2 r q) := by
  have ht : t.val < 121 := lt_of_lt_of_eq t.isLt N_0
  by_cases h1 : t.val % 8 = 0 ∧ t.val ≤ 112
  · exact out_E m c t (by omega) h1 h2 r q
  · exact out_D m c t (by omega) h1 h2 r q

/-- A column of the result among the columns of the projection. -/
def wide (j : Fin 7680) : Fin 15936 := ⟨j.val, by omega⟩

/-- The column half a head away, among the columns of the projection. -/
def farCol (j : Fin 7680) : Fin 15936 := ⟨far j.val, by unfold far; split <;> omega⟩

/-- The scale of a column: the first 2048 (the queries) are scaled. -/
def scaleOf (j : ℕ) : EReal := if j < 2048 then (((1 / 8) * (Real.log 2)⁻¹ : ℝ) : EReal) else 1

/-- The projection: its first 4096 columns rotated and scaled, the others plain. -/
def mainProj (h : Vec Ideal S8192x4096 .bf16) (w : Vec Ideal S4096x15936 .f32) (cs sn : Vec Ideal S8192x128 .f32) : Vec Ideal S8192x7680 .bf16 := fun j =>
  if (j 1).val < 4096 then
    (proj h w (j 0) (wide (j 1)) * cs (ix2 (j 0) (lane (j 1).val)) + proj h w (j 0) (farCol (j 1)) * sn (ix2 (j 0) (lane (j 1).val))) * scaleOf (j 1).val
  else proj h w (j 0) (wide (j 1))

/-- Nothing is written back at the first point. -/
theorem flush_pos (t : Fin cfg0.N) (hf : (cfg0.win 4).flush t = true) : t.val ≠ 0 := by
  revert t; decide +kernel

/-- The factor of a point is the scale of its columns. -/
theorem factor_apply (t : Fin cfg0.N) (h0 : t.val ≠ 0) (q : Fin 512) : factorAt t = scaleOf (512 * colTile (t.val - 1) + q.val) := by
  have ht : t.val < 121 := lt_of_lt_of_eq t.isLt N_0
  unfold factorAt factor scaleOf
  rw [tileWord_lt t]
  by_cases h : t.val ≤ 32
  · rw [if_pos h, if_pos (by unfold colTile; omega)]
    exact IdealRules.named_const.ideal_named_scalar _ _ _ _ rfl
  · rw [if_neg h, if_neg (by unfold colTile; omega)]
    rfl

/-- The result block of a point, entry by entry of the array. -/
theorem out_apply (c : Dev nD) (t : Fin cfg0.N) (h0 : t.val ≠ 0) (r : Fin 1024) (q : Fin 512) (R : Fin 8192) (C : Fin 7680)
    (hR : (R : ℕ) = 1024 * rowTile (t.val - 1) + r) (hC : (C : ℕ) = 512 * colTile (t.val - 1) + q) :
    outAt m c t (ix2 r q) = mainProj (hArr m c) (wArr m c) (cosArr m c) (sinArr m c) (ix2 R C) := by
  have ht : t.val < 121 := lt_of_lt_of_eq t.isLt N_0
  have hq := q.isLt
  have hacc : ∀ (p : Fin 512) (D : Fin 15936), (D : ℕ) = 512 * colTile (t.val - 1) + p →
      accAt m c (before t) (ix2 r p) = proj (hArr m c) (wArr m c) R D := fun p D hD => acc_apply m c (before t) r p R D hR hD
  by_cases h2 : t.val < 65
  · refine (out_rotated m c t h0 h2 r q).trans (Eq.trans ?_ (if_pos (show C.val < 4096 by rw [hC]; unfold colTile; omega)).symm)
    have el : lane q.val = lane C.val := Fin.ext (by show q.val % 128 = C.val % 128; rw [hC]; omega)
    have ef : far q.val < 512 ∧ far C.val = 512 * colTile (t.val - 1) + far q.val := by
      rw [hC]
      unfold far
      have : (512 * colTile (t.val - 1) + q.val) / 32 % 2 = q.val / 32 % 2 := by omega
      rw [this]
      split <;> omega
    unfold rotated rotAt
    have hc : cblk m c t (ix2 r (lane q.val)) = cosArr m c (ix2 R (lane C.val)) :=
      (cblk_apply m c t r _ R hR).trans (congrArg (fun l => cosArr m c (ix2 R l)) el)
    have hs : sblk m c t (ix2 r (lane q.val)) = sinArr m c (ix2 R (lane C.val)) :=
      (sblk_apply m c t r _ R hR).trans (congrArg (fun l => sinArr m c (ix2 R l)) el)
    refine congrArg₂ (· * ·) (congrArg₂ (· + ·) (congrArg₂ (· * ·) ?_ hc) (congrArg₂ (· * ·) ?_ hs)) ?_
    · exact (at'_eq _ r q.val q rfl).symm.trans (hacc q (wide C) hC)
    · exact (at'_eq _ r _ ⟨far q.val, ef.1⟩ rfl).symm.trans (hacc ⟨far q.val, ef.1⟩ (farCol C) ef.2)
    · exact (factor_apply t h0 q).trans (congrArg scaleOf hC.symm)
  · refine (out_copied m c t h2 r q).trans (Eq.trans ?_ (if_neg (show ¬ C.val < 4096 by rw [hC]; unfold colTile; omega)).symm)
    exact hacc q (wide C) hC

/-- The result array after the run. -/
theorem final (c : Dev nD) : (dats m 0 c).arrAt 4 cfg0.N = mainProj (hArr m c) (wArr m c) (cosArr m c) (sinArr m c) := by
  refine (dats m 0 c).arrAt_eq_of_covers 4 _ covers4 fun t hf y => ?_
  obtain ⟨e0, e1⟩ := index4 t
  blk_simp
  rw [after0_4]
  have ht := flush_pos t hf
  rw [eq_ix2 y]
  refine (out_apply m c t ht (y 0) (y 1) _ _ ?_ ?_).trans (congrArg _ (eq_ix2 _).symm)
  · blk_simp
    rw [e0]
    exact congrArg (· + _) (Nat.mul_comm _ _)
  · blk_simp
    rw [e1]
    exact congrArg (· + _) (Nat.mul_comm _ _)

end Cert.Kernel8Ideal.Value

end
-- ==== Proof.MainProjClaim.lean ====
/-
  The claims about the main input projection: the programs run and keep their arguments, the kernel's literal is the
  rounding of the scale it stands for, and the kernel's result is the reference's.
-/
module

public import proofs.«01_k».proof.Defs
public import proofs.«01_k».proof.Proof.MainProjArray
public import proofs.«01_k».proof.Proof.Gen.Kernel8.Frame
public import proofs.«01_k».proof.Proof.Gen.Reference8Ideal.Run
public import Idealize.ShloMosaic.Lib.Claim

@[expose] public section

set_option maxRecDepth 16384

noncomputable section

namespace Cert.Proof.MainProj

open Idealize.ShloMosaic Idealize.ShloMosaic.TcCoe Idealize.SL.Sem Cert.Tile

/-- The reference runs and keeps its arguments. -/
theorem frame_ref : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

/-- The literal, as in the idealized kernel, has the value it is named for. -/
theorem preserves : Cert.preserves_Kernel8_Kernel8Ideal :=
  IdealRules.named_const.statement Cert.Kernel8Ideal.κ "scale" .f32 0x3E38AA3B#32 (((1 / 8) * (Real.log 2)⁻¹ : ℝ) : EReal) rfl

/-- The reference's two factors, an eighth and the quotient by `log 2`, are the kernel's one. -/
theorem scale_eq (x : EReal) :
    Ideal.div (x * Ideal.ofBits FTy.f32 1040187392#32)
      (id (Host.log (F := Ideal) (constant Cert.Reference8Ideal.S_ FTy.f32 1073741824#32)) ix0) = x * (((1 / 8) * (Real.log 2)⁻¹ : ℝ) : EReal) := by
  have e8 : Ideal.ofBits FTy.f32 1040187392#32 = (((1 / 8 : ℝ)) : EReal) := by simp [Ideal.ofBits, Ideal.ieee, -EReal.coe_mul]; norm_num
  have e2 : Ideal.ofBits FTy.f32 1073741824#32 = ((2 : ℝ) : EReal) := by simp [Ideal.ofBits, Ideal.ieee, -EReal.coe_mul]; norm_num
  have el : id (Host.log (F := Ideal) (constant Cert.Reference8Ideal.S_ FTy.f32 1073741824#32)) ix0 = ((Real.log 2 : ℝ) : EReal) := by
    simp only [id, Host.log, constant, Ideal.hostUnary_log_def, Ideal.ofBits_def, e2, Ideal.log_coe, show ¬ (2 : ℝ) ≤ 0 from by norm_num, ↓reduceIte]
  rw [el, e8, Ideal.div_coe (Real.log_pos (by norm_num)).ne', mul_assoc, ← EReal.coe_mul, one_div (Real.log 2)]

/-- A column rotated as the reference writes it, head by head, and as the kernel's result states it. -/
theorem rot_meet (Z : Fin 15936 → EReal) (cs sn : Fin 128 → EReal) (q : ℕ) (own hi lo own' far' : Fin 15936) (l : Fin 128) (n : ℕ) (hl : l.val = q % 128)
    (ho : own.val = q) (ho' : own'.val = q) (hf : far'.val = far q) (hn : n = q % 64) (hhi : hi.val = q + 32) (hlo : n ≥ 32 → lo.val = q - 32) :
    Z own * cs l + (if h : n < 32 then Z hi else Z lo) * sn l = Z own' * cs (lane q) + Z far' * sn (lane q) := by
  have el : l = lane q := Fin.ext hl
  subst el
  refine congrArg₂ (· + ·) (congrArg (· * _) (congrArg Z (Fin.ext (ho.trans ho'.symm)))) (congrArg (· * _) ?_)
  unfold far at hf
  by_cases h : n < 32
  · rw [dif_pos h]
    rw [if_pos (by omega)] at hf
    exact congrArg Z (Fin.ext (hhi.trans hf.symm))
  · rw [dif_neg h]
    rw [if_neg (by omega)] at hf
    exact congrArg Z (Fin.ext ((hlo (by omega)).trans hf.symm))

/-- The reference's result, entry by entry. -/
theorem ref_apply (m : (ℓ : Loc Cert.Reference8Ideal.nD Cert.Reference8Ideal.τ Cert.Reference8Ideal.sig) → Buf (Elt Ideal) ℓ)
    (c : Dev Cert.Reference8Ideal.nD) (r : Fin 8192) (q : Fin 7680) :
    Cert.Reference8Ideal.Value.res_main_v40 m c (ix2 r q)
      = Cert.Kernel8Ideal.Value.mainProj (m ((c : Thread Cert.Reference8Ideal.nD Cert.Reference8Ideal.τ).loc Cert.Reference8Ideal.main_arg0)) (m ((c : Thread Cert.Reference8Ideal.nD Cert.Reference8Ideal.τ).loc Cert.Reference8Ideal.main_arg1))
          (m ((c : Thread Cert.Reference8Ideal.nD Cert.Reference8Ideal.τ).loc Cert.Reference8Ideal.main_arg2)) (m ((c : Thread Cert.Reference8Ideal.nD Cert.Reference8Ideal.τ).loc Cert.Reference8Ideal.main_arg3)) (ix2 r q) := by
  unfold Cert.Reference8Ideal.Value.res_main_v40
  pointwise
  unfold Cert.Kernel8Ideal.Value.mainProj Cert.Kernel8Ideal.Value.scaleOf
  have hq := q.isLt
  let Z : Fin 15936 → EReal := Cert.Kernel8Ideal.Value.proj (m ((c : Thread Cert.Reference8Ideal.nD Cert.Reference8Ideal.τ).loc Cert.Reference8Ideal.main_arg0)) (m ((c : Thread Cert.Reference8Ideal.nD Cert.Reference8Ideal.τ).loc Cert.Reference8Ideal.main_arg1)) r
  have meet := rot_meet Z (fun l => m ((c : Thread Cert.Reference8Ideal.nD Cert.Reference8Ideal.τ).loc Cert.Reference8Ideal.main_arg2) (ix2 r l))
    (fun l => m ((c : Thread Cert.Reference8Ideal.nD Cert.Reference8Ideal.τ).loc Cert.Reference8Ideal.main_arg3) (ix2 r l)) q.val
  by_cases h1 : q.val < 2048
  · refine (dif_pos h1).trans ?_
    refine (scale_eq _).trans ?_
    refine Eq.trans ?_ (if_pos (show q.val < 4096 by omega)).symm
    refine congrArg₂ (· * ·) ?_ (if_pos h1).symm
    have h := meet ⟨q.val / 128 * 128 + q.val % 128, by omega⟩ ⟨(q.val / 128 * 2 + q.val % 128 / 64) * 64 + (32 + q.val % 128 % 64), by omega⟩
      ⟨(q.val / 128 * 2 + q.val % 128 / 64) * 64 + (q.val % 128 % 64 - 32), by omega⟩ (Cert.Kernel8Ideal.Value.wide q) (Cert.Kernel8Ideal.Value.farCol q)
      ⟨q.val % 128, by omega⟩ (q.val % 128 % 64) rfl (by dsimp only; omega) rfl rfl (by omega) (by dsimp only; omega) (by dsimp only; omega)
    exact h
  refine (dif_neg h1).trans ?_
  by_cases h2 : q.val - 2048 < 2048
  · refine (dif_pos h2).trans ?_
    refine Eq.trans ?_ (if_pos (show q.val < 4096 by omega)).symm
    refine Eq.trans ?_ ((mul_one (_ : EReal)).symm.trans (congrArg₂ (fun a b : EReal => a * b) rfl (if_neg h1).symm))
    have h := meet ⟨2048 + ((q.val - 2048) / 128 * 128 + (q.val - 2048) % 128), by omega⟩
      ⟨2048 + (((q.val - 2048) / 128 * 2 + (q.val - 2048) % 128 / 64) * 64 + (32 + (q.val - 2048) % 128 % 64)), by omega⟩
      ⟨2048 + (((q.val - 2048) / 128 * 2 + (q.val - 2048) % 128 / 64) * 64 + ((q.val - 2048) % 128 % 64 - 32)), by omega⟩
      (Cert.Kernel8Ideal.Value.wide q) (Cert.Kernel8Ideal.Value.farCol q)
      ⟨(q.val - 2048) % 128, by omega⟩ ((q.val - 2048) % 128 % 64) (by dsimp only; omega) (by dsimp only; omega) rfl rfl (by omega) (by dsimp only; omega)
      (by dsimp only; omega)
    exact h
  · refine (dif_neg h2).trans ?_
    refine Eq.trans (congrArg Z (Fin.ext ?_)) (if_neg (show ¬ q.val < 4096 by omega)).symm
    show 4096 + (q.val - 2048 - 2048) = q.val
    omega

/-- The kernel's projection is the reference's. -/
theorem algebraic : Cert.algebraic_Kernel8Ideal_Reference8Ideal := by
  pair_intro
  · run_from Cert.Kernel8Ideal.Value.run_blocks m g
  · run_from Cert.Reference8Ideal.Value.run m' g'
    rw [Cert.Kernel8Ideal.Value.final m c]
    funext j
    obtain ⟨r, q, rfl⟩ : ∃ r q, j = ix2 r q := ⟨j 0, j 1, eq_ix2 j⟩
    rw [ref_apply m' c r q, (hagree c).1, (hagree c).2.1, (hagree c).2.2.1, (hagree c).2.2.2]

end Cert.Proof.MainProj

end
-- ==== Proof.FirstNorm.lean ====
/-
  The root-mean-square norm before the projections (the layer's two inner norms are this one call), rounded to bfloat16:
  what a point writes, where the blocks lie, and the result array.
-/
module

public import proofs.«01_k».proof.Proof.Gen.Kernel12Ideal.Value
public import proofs.«01_k».proof.Proof.FinalNorm

@[expose] public section

set_option maxRecDepth 16384

noncomputable section

namespace Cert.Kernel12Ideal.Value

open Idealize.ShloMosaic Idealize.ShloMosaic.TcCoe Idealize.SL.Sem
open Idealize.ShloMosaic.Pipeline (Dat)
open Cert.Kernel12Ideal Cert.Kernel12Ideal.Gen Cert.Tile
open Cert.Kernel7Ideal.Value (width small normed)

variable (m : (ℓ : Loc nD τ sig) → Buf (Elt Ideal) ℓ)

/-- What a point computes from its block of rows. -/
theorem norm_apply (a : Vec Ideal S512x4096 .f32) (w : Vec Ideal S1x4096 .f32) (r : Fin 512) (q : Fin 4096) :
    k0_pay1 a w (ix2 r q) = normed (fun k => a (ix2 r k)) (w (ix2 0 q)) q := by
  unfold k0_pay1 normed width small
  pointwise

/-- The input. -/
abbrev xArr (c : Dev nD) : Vec Ideal S8192x4096 .f32 := m ((c : Thread nD τ).loc main_arg0)
/-- The weight. -/
abbrev wArr (c : Dev nD) : Vec Ideal S4096 .f32 := m ((c : Thread nD τ).loc main_arg1)

/-- Where the blocks lie: the rows of the point, all of the weight, the rows of the point. -/
theorem index (t : Fin cfg0.N) : (win0_0.index t 0 = t.val ∧ win0_0.index t 1 = 0) ∧ (win0_1.index t 0 = 0 ∧ win0_1.index t 1 = 0)
    ∧ (win0_2.index t 0 = t.val ∧ win0_2.index t 1 = 0) := by
  revert t; decide +kernel
/-- The written blocks cover the result. -/
theorem covers2 : (cfg0.win 2).Covers := by decide +kernel

/-- An element of the input's block, read off the array. -/
theorem xblk_apply (c : Dev nD) (t : Fin cfg0.N) (r : Fin 512) (k : Fin 4096) (R : Fin 8192) (hR : (R : ℕ) = 512 * t.val + r) :
    (iblk m c 0 t : Vec Ideal S512x4096 .f32) (ix2 r k) = xArr m c (ix2 R k) := by
  obtain ⟨⟨e0, e1⟩, -, -⟩ := index t
  blk_simp [iblk]
  refine (congrFun (V_main_arg0 m c) _).trans (congrArg (xArr m c) ?_)
  blk_ext [e0, e1]

/-- An element of the weight's row, read off the array. -/
theorem wblk_apply (c : Dev nD) (t : Fin cfg0.N) (q : Fin 4096) : (iblk m c 1 t : Vec Ideal S1x4096 .f32) (ix2 0 q) = wArr m c (ix1 q) := by
  obtain ⟨-, ⟨e0, e1⟩, -⟩ := index t
  blk_simp [iblk]
  have e : ((win0_1.blk t).view.emb (ix2 0 q) : S1x4096.Idx) = ix2 0 q := by
    blk_ext [e0, e1]
  rw [e]
  entry_read
  pointwise

/-- The norm of every row. -/
def norm (x : Vec Ideal S8192x4096 .f32) (w : Vec Ideal S4096 .f32) : Vec Ideal S8192x4096 .bf16 := fun j =>
  normed (fun k => x (ix2 (j 0) k)) (w (ix1 (j 1))) (j 1)

/-- The result array after the run. -/
theorem final (c : Dev nD) : (dats m 0 c).arrAt 2 cfg0.N = norm (xArr m c) (wArr m c) := by
  refine (dats m 0 c).arrAt_eq_of_covers 2 _ covers2 fun t hf y => ?_
  obtain ⟨-, -, e0, e1⟩ := index t
  blk_simp
  rw [after0_2]
  frame_out
  rw [eq_ix2 y]
  refine (norm_apply (iblk m c 0 t) (iblk m c 1 t) (y 0) (y 1)).trans ?_
  unfold norm
  have h1 : ((win0_2.blk t).view.emb (ix2 (y 0) (y 1)) : S8192x4096.Idx) 1 = y 1 := by
    apply Fin.ext
    blk_simp
    rw [e1]
    exact Nat.zero_add _
  rw [h1]
  refine congrArg₂ (fun a b => normed a b (y 1)) (funext fun k => ?_) (wblk_apply m c t (y 1))
  refine xblk_apply m c t (y 0) k _ ?_
  blk_simp
  rw [e0]
  exact congrArg (· + _) (Nat.mul_comm _ _)

end Cert.Kernel12Ideal.Value

end
-- ==== Proof.KvUp.lean ====
/-
  The key and value up-projection of the compressed attention: the norm of the compressed columns, then the product.
-/
module

public import proofs.«01_k».proof.Proof.Gen.Kernel11Ideal.Value
public import proofs.«01_k».proof.Proof.Product
public import proofs.«01_k».proof.Proof.FinalNorm

@[expose] public section

set_option maxRecDepth 16384

noncomputable section

namespace Cert.Kernel11Ideal.Value

open Idealize.ShloMosaic Idealize.ShloMosaic.TcCoe Idealize.SL.Sem
open Idealize.ShloMosaic.Pipeline (Dat)
open Cert.Kernel11Ideal Cert.Kernel11Ideal.Gen Cert.Tile
open Cert.Kernel7Ideal.Value (small)

variable (m : (ℓ : Loc nD τ sig) → Buf (Elt Ideal) ℓ)

/-- The number of compressed columns, as the program writes it. -/
def rank : EReal := Scalar.ofBits (F := Ideal) .f32 0x44000000#32

/-- One element of a row's norm. -/
def normed (x : Fin 512 → EReal) (w : EReal) (q : Fin 512) : EReal :=
  x q * Ideal.rsqrt (Ideal.div (∑ k : Fin 512, x k * x k) rank + small) * w

/-- One row block of the product of the normed rows. -/
theorem dot_apply (a : Vec Ideal S256x512 .bf16) (w : Vec Ideal S1x512 .f32) (b : Vec Ideal S512x1024 .bf16) (r : Fin 256) (c : Fin 1024) :
    k0_pay9 a w b (ix2 r c) = ∑ k : Fin 512, normed (fun k => a (ix2 r k)) (w (ix2 0 k)) k * b (ix2 k c) := by
  unfold k0_pay9 normed rank small
  pointwise

/-- Rounding the weight's block to bfloat16 changes nothing over the extended reals. -/
theorem cast_eq (v : Vec Ideal S512x1024 .f32) : k0_pay3 v = v := by
  funext y
  unfold k0_pay3
  pointwise

/-- A stored row block of the product, at an index of the whole buffer. -/
theorem row_tile (A : Vec Ideal S2048x512 .bf16) (w : Vec Ideal S1x512 .f32) (U : Vec Ideal S512x1024 .bf16) {o : ℕ} {inb} (x : S256x1024.Idx)
    (r : Fin 2048) (q : Fin 1024) (hr : (r : ℕ) = o + x 0) (hq : (q : ℕ) = x 1) :
    k0_pay9 (View.ld (Val := Elt Ideal) A (Rect.unit ![o, 0] ![256, 512] inb)) w U x
      = ∑ k : Fin 512, normed (fun k => A (ix2 r k)) (w (ix2 0 k)) k * U (ix2 k q) := by
  rw [eq_ix2 x]
  refine (dot_apply _ _ _ (x 0) (x 1)).trans (Finset.sum_congr rfl fun k _ => ?_)
  refine congrArg₂ (· * ·) (congrArg (fun a => normed a (w (ix2 0 k)) k) (funext fun k => ?_)) (congrArg U ?_)
  · exact ld_rows A (ix2 (x 0) k) (ix2 r k) hr rfl
  · exact congrArg (ix2 k) (Fin.ext hq.symm)

/-- A copied row block, at an index of the whole buffer. -/
theorem copy_tile (U : Vec Ideal S2048x1024 .f32) {o : ℕ} {inb} (x : S256x1024.Idx) (y : S2048x1024.Idx) (hr : (y 0 : ℕ) = o + x 0) (hq : (y 1 : ℕ) = x 1) :
    k0_pay4 (F := Ideal) (View.ld (Val := Elt Ideal) U (Rect.unit ![o, 0] ![256, 1024] inb)) x = U y :=
  ld_rows U x y hr hq

/-- The block of the activations a point reads. -/
abbrev xblk (c : Dev nD) (t : Fin cfg0.N) : Vec Ideal S2048x512 .bf16 := iblk m c 0 t
/-- The block of the weight a point reads. -/
abbrev wblk (c : Dev nD) (t : Fin cfg0.N) : Vec Ideal S512x1024 .f32 := iblk m c 1 t
/-- The norm's weight. -/
abbrev nblk (c : Dev nD) (t : Fin cfg0.N) : Vec Ideal S1x512 .f32 := iblk m c 2 t
/-- What a point leaves in the result block. -/
abbrev outAt (c : Dev nD) (t : Fin cfg0.N) : Vec Ideal S2048x1024 .bf16 := (outsAt0 m c t.val t.isLt).1
/-- What a point leaves in the weight tile. -/
abbrev wbfAt (c : Dev nD) (t : Fin cfg0.N) : Vec Ideal S512x1024 .bf16 := (outsAt0 m c t.val t.isLt).2.1
/-- What a point leaves in the raw product. -/
abbrev accAt (c : Dev nD) (t : Fin cfg0.N) : Vec Ideal S2048x1024 .f32 := (outsAt0 m c t.val t.isLt).2.2
/-- The point before. -/
abbrev before (t : Fin cfg0.N) : Fin cfg0.N := ⟨t.val - 1, lt_of_le_of_lt (Nat.sub_le _ _) t.isLt⟩

/-- The points where a new column tile begins. -/
abbrev fresh (t : Fin cfg0.N) : Prop := t.val % 17 = 0 ∨ t.val % 17 = 4 ∨ t.val % 17 = 8 ∨ t.val % 17 = 12

/-- Where a new column tile begins, the weight tile is the block. -/
theorem wbf_fresh (c : Dev nD) (t : Fin cfg0.N) (h1 : fresh t) : wbfAt m c t = wblk m c t := by
  unfold wbfAt
  by_cases h0 : t.val % 17 = 0
  · rw [outsAt0_A m c t h0 h1]
    dsimp only
    frame_out
    exact cast_eq _
  · rw [outsAt0_C m c t h0 h1]
    dsimp only
    frame_out
    exact cast_eq _

/-- Elsewhere the weight tile stays. -/
theorem wbf_kept (c : Dev nD) (t : Fin cfg0.N) (h1 : ¬ fresh t) : wbfAt m c t = wbfAt m c (before t) := by
  unfold wbfAt
  rw [outsAt0_B m c t (fun h => h1 (.inl h)) h1]
  rfl

/-- The raw product after a point. -/
theorem acc_step (c : Dev nD) (t : Fin cfg0.N) (r : Fin 2048) (q : Fin 1024) :
    accAt m c t (ix2 r q) = ∑ k : Fin 512, normed (fun k => xblk m c t (ix2 r k)) (nblk m c t (ix2 0 k)) k * wbfAt m c t (ix2 k q) := by
  unfold accAt wbfAt
  by_cases h1 : fresh t
  · by_cases h0 : t.val % 17 = 0
    · rw [outsAt0_A m c t h0 h1]
      dsimp only
      frame_out
      generalize k0_pay3 (iblk m c 1 t) = U
      refine canon_append_of_cover [_, _, _, _, _, _, _, _] [_] _ _ ?_ ?_
      · exact View.cover_of_tiledL _ ![256, 1024] (by sl_kernel_rfl) _
      canon_tiles x h <;> exact row_tile (iblk m c 0 t) (iblk m c 2 t) U x r q (by have : (r : ℕ) = _ := h0; omega) h1
    · rw [outsAt0_C m c t h0 h1]
      dsimp only
      frame_out
      generalize k0_pay3 (iblk m c 1 t) = U
      canon_tiles x h <;> exact row_tile (iblk m c 0 t) (iblk m c 2 t) U x r q (by have : (r : ℕ) = _ := h0; omega) h1
  · rw [outsAt0_B m c t (fun h => h1 (.inl h)) h1]
    dsimp only
    frame_out
    simp only [read_unread_whole]
    generalize (outsAt0 m c _ _).2.1 = U
    canon_tiles x h <;> exact row_tile (iblk m c 0 t) (iblk m c 2 t) U x r q (by have : (r : ℕ) = _ := h0; omega) h1

/-- After the first point, the result block is the product the point before left. -/
theorem out_step (c : Dev nD) (t : Fin cfg0.N) (h0 : t.val ≠ 0) (y : S2048x1024.Idx) : outAt m c t y = accAt m c (before t) y := by
  have ht : t.val < 17 := lt_of_lt_of_eq t.isLt N_0
  have h0 : ¬ t.val % 17 = 0 := by omega
  unfold accAt outAt
  by_cases h1 : fresh t
  · rw [outsAt0_C m c t h0 h1]
    dsimp only
    frame_out
    simp only [read_unread_whole]
    generalize (outsAt0 m c _ _).2.2 = U
    canon_tiles x h <;> exact copy_tile U x y (by have : (y 0 : ℕ) = _ := h0; omega) h1
  · rw [outsAt0_B m c t h0 h1]
    dsimp only
    frame_out
    simp only [read_unread_whole]
    generalize (outsAt0 m c _ _).2.2 = U
    canon_tiles x h <;> exact copy_tile U x y (by have : (y 0 : ℕ) = _ := h0; omega) h1

/-- The column tile of a step of the walk (the walk goes down the rows first). -/
abbrev colTile (n : ℕ) : ℕ := min n 15 / 4
/-- The row tile of a step of the walk. -/
abbrev rowTile (n : ℕ) : ℕ := min n 15 % 4

/-- Where the activations' block lies: the fifteenth tile of 512 columns. -/
theorem index0 (t : Fin cfg0.N) : win0_0.index t 0 = rowTile t.val ∧ win0_0.index t 1 = 14 := by
  revert t; decide +kernel
/-- Where the weight's block lies. -/
theorem index1 (t : Fin cfg0.N) : win0_1.index t 0 = 0 ∧ win0_1.index t 1 = colTile t.val := by
  revert t; decide +kernel
/-- Where the norm's weight lies. -/
theorem index2 (t : Fin cfg0.N) : win0_2.index t 0 = 0 ∧ win0_2.index t 1 = 0 := by
  revert t; decide +kernel
/-- Where the result's block lies: one step behind. -/
theorem index3 (t : Fin cfg0.N) : win0_3.index t 0 = rowTile (t.val - 1) ∧ win0_3.index t 1 = colTile (t.val - 1) := by
  revert t; decide +kernel
/-- The written blocks cover the result. -/
theorem covers3 : (cfg0.win 3).Covers := by decide +kernel
/-- Nothing is written back at the first point. -/
theorem flush_pos (t : Fin cfg0.N) (hf : (cfg0.win 3).flush t = true) : t.val ≠ 0 := by
  revert t; decide +kernel

/-- The projected activations. -/
abbrev zArr (c : Dev nD) : Vec Ideal S8192x7680 .bf16 := m ((c : Thread nD τ).loc main_arg0)
/-- The norm's weight. -/
abbrev nArr (c : Dev nD) : Vec Ideal S512 .f32 := m ((c : Thread nD τ).loc main_arg1)
/-- The weight. -/
abbrev wArr (c : Dev nD) : Vec Ideal S512x4096 .f32 := m ((c : Thread nD τ).loc main_arg2)

/-- A compressed column among the columns of the activations. -/
def inner (k : Fin 512) : Fin 7680 := ⟨7168 + k.val, by omega⟩

/-- The activations' block, read off the array. -/
theorem xblk_apply (c : Dev nD) (t : Fin cfg0.N) (r : Fin 2048) (k : Fin 512) (R : Fin 8192)
    (hR : (R : ℕ) = 2048 * rowTile t.val + r) : xblk m c t (ix2 r k) = zArr m c (ix2 R (inner k)) := by
  obtain ⟨e0, e1⟩ := index0 t
  unfold xblk
  blk_simp [iblk]
  refine (congrFun (V_main_arg0 m c) _).trans (congrArg (zArr m c) ?_)
  blk_ext [e0, e1, inner]

/-- The weight's block, read off the array. -/
theorem wblk_apply (c : Dev nD) (t : Fin cfg0.N) (k : Fin 512) (q : Fin 1024) (C : Fin 4096)
    (hC : (C : ℕ) = 1024 * colTile t.val + q) : wblk m c t (ix2 k q) = wArr m c (ix2 k C) := by
  obtain ⟨e0, e1⟩ := index1 t
  unfold wblk
  blk_simp [iblk]
  refine (congrFun (V_main_arg2 m c) _).trans (congrArg (wArr m c) ?_)
  blk_ext [e0, e1]

/-- The norm's weight, read off the array. -/
theorem nblk_apply (c : Dev nD) (t : Fin cfg0.N) (q : Fin 512) : nblk m c t (ix2 0 q) = nArr m c (ix1 q) := by
  obtain ⟨e0, e1⟩ := index2 t
  unfold nblk
  blk_simp [iblk]
  have e : ((win0_2.blk t).view.emb (ix2 0 q) : S1x512.Idx) = ix2 0 q := by
    blk_ext [e0, e1]
  rw [e]
  entry_read
  pointwise

/-- Points of one column tile read one block of the weight. -/
theorem wblk_same (c : Dev nD) (t u : Fin cfg0.N) (h : colTile t.val = colTile u.val) : wblk m c t = wblk m c u := by
  funext y
  have hu : colTile t.val < 4 := by unfold colTile; omega
  have hy : (y 1 : ℕ) < 1024 := (y 1).isLt
  rw [eq_ix2 y]
  have C : ∃ C : Fin 4096, (C : ℕ) = 1024 * colTile t.val + (y 1 : ℕ) := ⟨⟨1024 * colTile t.val + (y 1 : ℕ), by omega⟩, rfl⟩
  obtain ⟨C, hC⟩ := C
  exact (wblk_apply m c t (y 0) (y 1) C hC).trans (wblk_apply m c u (y 0) (y 1) C (by rw [hC, h])).symm

/-- After any point the weight tile is the column tile of that point. -/
theorem wbf_eq (c : Dev nD) (t : Fin cfg0.N) : wbfAt m c t = wblk m c t :=
  kept (wbfAt m c) (wblk m c) fresh (wbf_fresh m c) (fun n h hn => wbf_kept m c ⟨n + 1, h⟩ hn)
    (fun n h hn => wblk_same m c _ _ (by
      have ht : n + 1 < 17 := lt_of_lt_of_eq h N_0
      unfold fresh at hn
      simp only [] at hn
      rw [Nat.mod_eq_of_lt ht] at hn
      unfold colTile
      dsimp only
      omega)) (fun _ => .inl rfl) t.val t.isLt

/-- The keys and values: the product of the normed compressed columns. -/
def up (z : Vec Ideal S8192x7680 .bf16) (n : Vec Ideal S512 .f32) (w : Vec Ideal S512x4096 .f32) : Vec Ideal S8192x4096 .bf16 :=
  fun j => ∑ k : Fin 512, normed (fun k => z (ix2 (j 0) (inner k))) (n (ix1 k)) k * w (ix2 k (j 1))

/-- The result array after the run. -/
theorem final (c : Dev nD) : (dats m 0 c).arrAt 3 cfg0.N = up (zArr m c) (nArr m c) (wArr m c) := by
  refine (dats m 0 c).arrAt_eq_of_covers 3 _ covers3 fun t hf y => ?_
  obtain ⟨e0, e1⟩ := index3 t
  blk_simp
  rw [after0_3]
  have ht := flush_pos t hf
  refine (out_step m c t ht y).trans ?_
  unfold up
  rw [eq_ix2 y]
  have hr : ∀ R : Fin 8192, (R : ℕ) = win0_3.index t 0 * 2048 + (y 0 : ℕ) → (R : ℕ) = 2048 * rowTile (t.val - 1) + (y 0 : ℕ) :=
    fun R h => by rw [h, e0, Nat.mul_comm]
  have hc : ∀ C : Fin 4096, (C : ℕ) = win0_3.index t 1 * 1024 + (y 1 : ℕ) → (C : ℕ) = 1024 * colTile (t.val - 1) + (y 1 : ℕ) :=
    fun C h => by rw [h, e1, Nat.mul_comm]
  refine (acc_step m c (before t) (y 0) (y 1)).trans ?_
  refine Finset.sum_congr rfl fun k _ => congrArg₂ (· * ·) (congrArg₂ (fun a b => normed a b k) (funext fun k => ?_) ?_) ?_
  · refine xblk_apply m c (before t) (y 0) k _ (hr _ ?_)
    blk_simp
  · exact nblk_apply m c (before t) k
  · refine (congrFun (wbf_eq m c (before t)) _).trans (wblk_apply m c (before t) k (y 1) _ (hc _ ?_))
    blk_simp

end Cert.Kernel11Ideal.Value

end
-- ==== Proof.KeyRope.lean ====
/-
  The shared rotary key of the compressed attention: 64 columns of the input projection, rotated and written twice side
  by side.
-/
module

public import proofs.«01_k».proof.Proof.Gen.Kernel9Ideal.Value
public import proofs.«01_k».proof.Proof.Product
public import proofs.«01_k».proof.Proof.Rotary

@[expose] public section

set_option maxRecDepth 16384

noncomputable section

namespace Cert.Kernel9Ideal.Value

open Idealize.ShloMosaic Idealize.ShloMosaic.TcCoe Idealize.SL.Sem
open Idealize.ShloMosaic.Pipeline (Dat)
open Cert.Kernel9Ideal Cert.Kernel9Ideal.Gen Cert.Tile

variable (m : (ℓ : Loc nD τ sig) → Buf (Elt Ideal) ℓ)

/-- The identity matrix the kernel transposes with. -/
theorem eye_apply (r c : Fin 256) : k0_pay2 (F := Ideal) (ix2 r c) = if r = c then (1 : EReal) else 0 := by
  unfold k0_pay2
  pointwise
  exact select_diag (by decide) r c 1 0

/-- The product of the identity with the rows of a block of the weight is that block transposed. -/
theorem tr_apply (v : Vec Ideal S128x256 .f32) (r : Fin 256) (c : Fin 128) : k0_pay3 v (ix2 r c) = v (ix2 c r) := by
  unfold k0_pay3
  pointwise
  simp only [eye_apply, ite_mul, one_mul, zero_mul, Finset.sum_ite_eq, Finset.mem_univ, if_true]

/-- One row block of the product. -/
theorem dot_apply (a : Vec Ideal S256x4096 .bf16) (b : Vec Ideal S4096x128 .bf16) (r : Fin 256) (c : Fin 128) :
    k0_pay27 a b (ix2 r c) = ∑ k : Fin 4096, a (ix2 r k) * b (ix2 k c) := by
  unfold k0_pay27
  pointwise

/-- The lanes below 64, as the kernel tells them. -/
theorem select_low (l : ℕ) (hl : l < 128) (u v : EReal) :
    Scalar.select (IntOp.cmpi CmpIPredicate.slt (BitVec.ofNat 32 l) 64#32) u v = if l < 64 then u else v := by
  have e : IntOp.cmpi CmpIPredicate.slt (BitVec.ofNat 32 l) 64#32 = if l < 64 then 1#1 else 0#1 :=
    (by decide +kernel : ∀ l : Fin 128, IntOp.cmpi CmpIPredicate.slt (BitVec.ofNat 32 l.val) 64#32 = if l.val < 64 then 1#1 else 0#1) ⟨l, hl⟩
  rw [e]
  by_cases h : l < 64
  · rw [if_pos h, if_pos h]
    rfl
  · rw [if_neg h, if_neg h]
    rfl

/-- One lane of the rotated row before it is doubled: zero from lane 64 on. -/
theorem lane_apply (A c s : Vec Ideal S256x128 .f32) (r : Fin 256) (l u v : Fin 128) (hu : u.val = (l.val + 128 - 96) % 128) (hv : v.val = (l.val + 128 - 32) % 128) :
    Scalar.select (IntOp.cmpi CmpIPredicate.slt (BitVec.ofNat 32 l.val) 64#32) (A (ix2 r l) * c (ix2 r l)) 0
      + Scalar.select (IntOp.cmpi CmpIPredicate.eq (IntOp.andi (BitVec.ofNat 32 l.val) 32#32) 0#32)
          (Scalar.select (IntOp.cmpi CmpIPredicate.slt (BitVec.ofNat 32 u.val) 64#32) (A (ix2 r u)) 0)
          (Scalar.select (IntOp.cmpi CmpIPredicate.slt (BitVec.ofNat 32 v.val) 64#32) (A (ix2 r v)) 0) * s (ix2 r l)
      = if l.val < 64 then rotAt (at' A r) (fun l => c (ix2 r l)) (fun l => s (ix2 r l)) l.val else 0 := by
  have hl := l.isLt
  rw [select_low _ l.isLt, select_low _ u.isLt, select_low _ v.isLt]
  by_cases h : l.val < 64
  · rw [if_pos h, if_pos h]
    have el : l = lane l.val := Fin.ext (by show l.val = l.val % 128; omega)
    have es := select_half l.val hl (if u.val < 64 then A (ix2 r u) else 0) (if v.val < 64 then A (ix2 r v) else 0) (at' A r (far l.val))
      (fun h => by rw [if_pos (by omega)]; exact at'_eq A r _ u (by unfold far; rw [if_pos h]; omega))
      (fun h => by rw [if_pos (by omega)]; exact at'_eq A r _ v (by unfold far; rw [if_neg h]; omega))
    rw [es]
    unfold rotAt
    rw [← el]
    exact congrArg (· + _) (congrArg (· * _) (at'_eq A r l.val l rfl))
  · rw [if_neg h, if_neg h]
    have es := select_half l.val hl (if u.val < 64 then A (ix2 r u) else 0) (if v.val < 64 then A (ix2 r v) else 0) 0
      (fun h => by rw [if_neg (by omega)]) (fun h => by rw [if_neg (by omega)])
    rw [es, zero_mul, add_zero]

/-- One element of a row block of the result: the rotation at the column within its half. -/
theorem dup_apply (A c s : Vec Ideal S256x128 .f32) (r : Fin 256) (q : Fin 128) :
    k0_pay26 A c s (ix2 r q) = rotAt (at' A r) (fun l => c (ix2 r l)) (fun l => s (ix2 r l)) (q.val % 64) := by
  unfold k0_pay26
  pointwise
  have hq := q.isLt
  have a := lane_apply A c s r q ⟨(q.val + 128 - 96) % 128, by omega⟩ ⟨(q.val + 128 - 32) % 128, by omega⟩ rfl rfl
  have b := lane_apply A c s r ⟨(q.val + 128 - 64) % 128, by omega⟩ ⟨((q.val + 128 - 64) % 128 + 128 - 96) % 128, by omega⟩
    ⟨((q.val + 128 - 64) % 128 + 128 - 32) % 128, by omega⟩ rfl rfl
  refine (congrArg₂ (fun a b : EReal => a + b) a b).trans ?_
  dsimp only
  by_cases h : q.val < 64
  · rw [if_pos h, if_neg (by omega), add_zero, Nat.mod_eq_of_lt h]
  · rw [if_neg h, if_pos (by omega), zero_add]
    congr 1
    omega

/-- A stored tile of the transposed weight, at an index of the whole buffer. -/
theorem weight_tile (B : Vec Ideal S128x4096 .f32) {o : ℕ} {inb} (x : S256x128.Idx) (r : Fin 4096) (q : Fin 128)
    (hr : (r : ℕ) = o + x 0) (hq : (q : ℕ) = x 1) :
    k0_pay3 (View.ld (Val := Elt Ideal) B (Rect.unit ![0, o] ![128, 256] inb)) x = B (ix2 q r) := by
  rw [eq_ix2 x]
  refine (tr_apply _ (x 0) (x 1)).trans (View.ld_unit_apply_of _ _ _ _ _ _ ?_)
  rw [Fin.forall_fin_two]
  exact ⟨hq.trans (Nat.zero_add _).symm, hr⟩

/-- A stored row block of the result, at an index of the whole buffer. -/
theorem dup_tile (U c s : Vec Ideal S1024x128 .f32) {o : ℕ} {inb inb' inb''} (x : S256x128.Idx) (r : Fin 1024) (q : Fin 128)
    (hr : (r : ℕ) = o + x 0) (hq : (q : ℕ) = x 1) :
    k0_pay26 (View.ld (Val := Elt Ideal) U (Rect.unit ![o, 0] ![256, 128] inb)) (View.ld (Val := Elt Ideal) c (Rect.unit ![o, 0] ![256, 128] inb'))
        (View.ld (Val := Elt Ideal) s (Rect.unit ![o, 0] ![256, 128] inb'')) x
      = rotAt (at' U r) (fun l => c (ix2 r l)) (fun l => s (ix2 r l)) (q.val % 64) := by
  have row : ∀ (A : Vec Ideal S1024x128 .f32) {inb}, (fun l : Fin 128 => View.ld (Val := Elt Ideal) A (Rect.unit ![o, 0] ![256, 128] inb) (ix2 (x 0) l))
      = fun l => A (ix2 r l) := fun A inb => funext fun l => ld_rows A (ix2 (x 0) l) (ix2 r l) hr rfl
  rw [eq_ix2 x]
  refine (dup_apply _ _ _ (x 0) (x 1)).trans ?_
  rw [row c, row s, show (x 1).val = q.val from hq.symm]
  refine congrArg (fun a => rotAt a _ _ _) (funext fun k => ?_)
  unfold at'
  by_cases hk : k < 128
  · rw [dif_pos hk, dif_pos hk]
    exact congrFun (row U) ⟨k, hk⟩
  · rw [dif_neg hk, dif_neg hk]

/-- What a point leaves in the result block. -/
abbrev outAt (c : Dev nD) (t : Fin cfg0.N) : Vec Ideal S1024x128 .bf16 := (outsAt0 m c t.val t.isLt).1
/-- What a point leaves in the transposed weight tile. -/
abbrev wbfAt (c : Dev nD) (t : Fin cfg0.N) : Vec Ideal S4096x128 .bf16 := (outsAt0 m c t.val t.isLt).2.1
/-- What a point leaves in the raw product. -/
abbrev accAt (c : Dev nD) (t : Fin cfg0.N) : Vec Ideal S1024x128 .f32 := (outsAt0 m c t.val t.isLt).2.2
/-- The block of the activations a point reads. -/
abbrev xblk (c : Dev nD) (t : Fin cfg0.N) : Vec Ideal S1024x4096 .bf16 := iblk m c 0 t
/-- The block of the cosines a point reads. -/
abbrev cblk (c : Dev nD) (t : Fin cfg0.N) : Vec Ideal S1024x128 .f32 := iblk m c 2 t
/-- The block of the sines a point reads. -/
abbrev sblk (c : Dev nD) (t : Fin cfg0.N) : Vec Ideal S1024x128 .f32 := iblk m c 3 t
/-- The point before. -/
abbrev before (t : Fin cfg0.N) : Fin cfg0.N := ⟨t.val - 1, lt_of_le_of_lt (Nat.sub_le _ _) t.isLt⟩

/-- After the first point, the result block is the point before's product, rotated and doubled. -/
theorem out_B (c : Dev nD) (t : Fin cfg0.N) (h0 : ¬ t.val % 9 = 0) (r : Fin 1024) (q : Fin 128) :
    outAt m c t (ix2 r q)
      = rotAt (at' (accAt m c (before t)) r) (fun l => cblk m c t (ix2 r l)) (fun l => sblk m c t (ix2 r l)) (q.val % 64) := by
  unfold accAt outAt
  rw [outsAt0_B m c t h0 h0]
  dsimp only
  frame_out
  simp only [read_unread_whole]
  generalize (outsAt0 m c _ _).2.2 = U
  canon_tiles x h <;> exact dup_tile U (iblk m c 2 t) (iblk m c 3 t) x r q (by have : (r : ℕ) = _ := h0; omega) h1

/-- The weight tile at the first point is the transposed block. -/
theorem s0_A (c : Dev nD) (t : Fin cfg0.N) (h0 : t.val % 9 = 0) (r : Fin 4096) (q : Fin 128) :
    wbfAt m c t (ix2 r q) = X0_1 m c t (ix2 q r) := by
  unfold wbfAt
  rw [outsAt0_A m c t h0 h0]
  dsimp only
  frame_out
  canon_tiles x h <;> exact weight_tile (X0_1 m c t) x r q (by have : (r : ℕ) = _ := h0; omega) h1

/-- Elsewhere the weight tile stays. -/
theorem s0_B (c : Dev nD) (t : Fin cfg0.N) (h0 : ¬ t.val % 9 = 0) : wbfAt m c t = wbfAt m c (before t) := by
  unfold wbfAt
  rw [outsAt0_B m c t h0 h0]
  rfl

/-- The raw product after a point. -/
theorem acc_step (c : Dev nD) (t : Fin cfg0.N) (r : Fin 1024) (q : Fin 128) :
    accAt m c t (ix2 r q) = ∑ k : Fin 4096, xblk m c t (ix2 r k) * wbfAt m c t (ix2 k q) := by
  unfold accAt wbfAt
  by_cases h0 : t.val % 9 = 0
  · rw [outsAt0_A m c t h0 h0]
    dsimp only
    frame_out
    simp (disch := decide) only [readCov_whole]
    generalize View.canon (Val := Elt Ideal) (s := S4096x128) (e := .bf16) _ = U
    refine canon_append_of_cover [_, _, _, _] [_] _ _ ?_ ?_
    · exact View.cover_of_tiledL _ ![256, 128] (by sl_kernel_rfl) _
    canon_tiles x h <;> exact product_tile _ dot_apply (iblk m c 0 t) U x r q (by have : (r : ℕ) = _ := h0; omega) h1
  · rw [outsAt0_B m c t h0 h0]
    dsimp only
    frame_out
    simp only [read_unread_whole]
    generalize (outsAt0 m c _ _).2.1 = U
    canon_tiles x h <;> exact product_tile _ dot_apply (iblk m c 0 t) U x r q (by have : (r : ℕ) = _ := h0; omega) h1

/-- Where the blocks lie: the activations' and the weight's … -/
theorem index01 (t : Fin cfg0.N) : (win0_0.index t 0 = min t.val 7 ∧ win0_0.index t 1 = 0) ∧ (win0_1.index t 0 = 60 ∧ win0_1.index t 1 = 0) := by
  revert t; decide +kernel
/-- … the tables' and the result's, one step behind. -/
theorem index234 (t : Fin cfg0.N) : (win0_2.index t 0 = t.val - 1 ∧ win0_2.index t 1 = 0) ∧ (win0_3.index t 0 = t.val - 1 ∧ win0_3.index t 1 = 0)
    ∧ (win0_4.index t 0 = t.val - 1 ∧ win0_4.index t 1 = 0) := by
  revert t; decide +kernel
/-- The written blocks cover the result. -/
theorem covers4 : (cfg0.win 4).Covers := by decide +kernel
/-- Nothing is written back at the first point. -/
theorem flush_pos (t : Fin cfg0.N) (hf : (cfg0.win 4).flush t = true) : t.val ≠ 0 := by
  revert t; decide +kernel

/-- The activations. -/
abbrev hArr (c : Dev nD) : Vec Ideal S8192x4096 .bf16 := m ((c : Thread nD τ).loc main_arg0)
/-- The weight of the projection. -/
abbrev wArr (c : Dev nD) : Vec Ideal S4096x15936 .f32 := m ((c : Thread nD τ).loc main_arg1)
/-- The cosines. -/
abbrev cosArr (c : Dev nD) : Vec Ideal S8192x128 .f32 := m ((c : Thread nD τ).loc main_arg2)
/-- The sines. -/
abbrev sinArr (c : Dev nD) : Vec Ideal S8192x128 .f32 := m ((c : Thread nD τ).loc main_arg3)

/-- The activations' block, read off the array. -/
theorem xblk_apply (c : Dev nD) (t : Fin cfg0.N) (r : Fin 1024) (k : Fin 4096) (R : Fin 8192)
    (hR : (R : ℕ) = 1024 * min t.val 7 + r) : xblk m c t (ix2 r k) = hArr m c (ix2 R k) := by
  obtain ⟨⟨e0, e1⟩, -⟩ := index01 t
  unfold xblk
  blk_simp [iblk]
  refine (congrFun (V_main_arg0 m c) _).trans (congrArg (hArr m c) ?_)
  blk_ext [e0, e1]

/-- The cosines' block, read off the array. -/
theorem cblk_apply (c : Dev nD) (t : Fin cfg0.N) (r : Fin 1024) (k : Fin 128) (R : Fin 8192)
    (hR : (R : ℕ) = 1024 * (t.val - 1) + r) : cblk m c t (ix2 r k) = cosArr m c (ix2 R k) := by
  obtain ⟨⟨e0, e1⟩, -⟩ := index234 t
  unfold cblk
  blk_simp [iblk]
  refine (congrFun (V_main_arg2 m c) _).trans (congrArg (cosArr m c) ?_)
  blk_ext [e0, e1]

/-- The sines' block, read off the array. -/
theorem sblk_apply (c : Dev nD) (t : Fin cfg0.N) (r : Fin 1024) (k : Fin 128) (R : Fin 8192)
    (hR : (R : ℕ) = 1024 * (t.val - 1) + r) : sblk m c t (ix2 r k) = sinArr m c (ix2 R k) := by
  obtain ⟨-, ⟨e0, e1⟩, -⟩ := index234 t
  unfold sblk
  blk_simp [iblk]
  refine (congrFun (V_main_arg3 m c) _).trans (congrArg (sinArr m c) ?_)
  blk_ext [e0, e1]

/-- The weight's block, read off the array. -/
theorem wblk_apply (c : Dev nD) (t : Fin cfg0.N) (q : Fin 128) (k : Fin 4096) (C : Fin 15936)
    (hC : (C : ℕ) = 7680 + q) : X0_1 m c t (ix2 q k) = wArr m c (ix2 k C) := by
  obtain ⟨-, e0, e1⟩ := index01 t
  unfold X0_1 Pipeline.Window.fill
  rw [dif_pos (moved0_1 t (ix2 q k))]
  blk_simp [iblk]
  entry_read
  pointwise
  refine congrArg₂ (fun a b => wArr m c (ix2 a b)) (Fin.ext ?_) (Fin.ext ?_)
  · refine (win0_1.rect_emb_val t _ 1).trans ?_
    rw [e1]
    exact Nat.zero_add _
  · refine (win0_1.rect_emb_val t _ 0).trans ?_
    rw [e0, hC]
    rfl

/-- After any point the weight tile is the transposed block of columns. -/
theorem wbf_apply (c : Dev nD) (q : Fin 128) (k : Fin 4096) (C : Fin 15936) (hC : (C : ℕ) = 7680 + q) :
    ∀ (n : ℕ) (hn : n < cfg0.N), wbfAt m c ⟨n, hn⟩ (ix2 k q) = wArr m c (ix2 k C)
  | 0, hn => (s0_A m c ⟨0, hn⟩ rfl k q).trans (wblk_apply m c ⟨0, hn⟩ q k C hC)
  | n + 1, hn => by
    have ht : n + 1 < 9 := lt_of_lt_of_eq hn N_0
    rw [s0_B m c ⟨n + 1, hn⟩ (by dsimp only; omega)]
    exact wbf_apply c q k C hC n (Nat.lt_of_succ_lt hn)

/-- The column of the projection a lane below 64 stands for. -/
def keyCol (l : ℕ) (h : l < 64) : Fin 15936 := ⟨7680 + l, by omega⟩

/-- The half a head away stays within the head. -/
theorem far_lt (l : ℕ) (h : l < 64) : far l < 64 := by unfold far; split <;> omega

/-- The rotated key, twice. -/
def key (h : Vec Ideal S8192x4096 .bf16) (w : Vec Ideal S4096x15936 .f32) (cs sn : Vec Ideal S8192x128 .f32) : Vec Ideal S8192x128 .bf16 := fun j =>
  have hl : (j 1).val % 64 < 64 := Nat.mod_lt _ (by decide)
  (∑ k : Fin 4096, h (ix2 (j 0) k) * w (ix2 k (keyCol _ hl))) * cs (ix2 (j 0) (lane ((j 1).val % 64)))
    + (∑ k : Fin 4096, h (ix2 (j 0) k) * w (ix2 k (keyCol _ (far_lt _ hl)))) * sn (ix2 (j 0) (lane ((j 1).val % 64)))

/-- The result block of a point, entry by entry of the array. -/
theorem out_apply (c : Dev nD) (t : Fin cfg0.N) (h0 : t.val ≠ 0) (r : Fin 1024) (q : Fin 128) (R : Fin 8192) (hR : (R : ℕ) = 1024 * (t.val - 1) + r) :
    outAt m c t (ix2 r q) = key (hArr m c) (wArr m c) (cosArr m c) (sinArr m c) (ix2 R q) := by
  have ht : t.val < 9 := lt_of_lt_of_eq t.isLt N_0
  have hacc : ∀ (l : ℕ) (h : l < 64), at' (accAt m c (before t)) r l = ∑ k : Fin 4096, hArr m c (ix2 R k) * wArr m c (ix2 k (keyCol l h)) := by
    intro l h
    refine (at'_eq _ r l ⟨l, by omega⟩ rfl).symm.trans ((acc_step m c (before t) r ⟨l, by omega⟩).trans ?_)
    refine Finset.sum_congr rfl fun k _ => congrArg₂ (· * ·) (xblk_apply m c (before t) r k R ?_) (wbf_apply m c ⟨l, by omega⟩ k _ rfl _ _)
    rw [hR, Nat.min_eq_left (by dsimp only; omega)]
  have hl : q.val % 64 < 64 := Nat.mod_lt _ (by decide)
  refine (out_B m c t (by omega) r q).trans ?_
  unfold rotAt
  exact congrArg₂ (· + ·) (congrArg₂ (· * ·) (hacc _ hl) (cblk_apply m c t r _ R hR))
    (congrArg₂ (· * ·) (hacc _ (far_lt _ hl)) (sblk_apply m c t r _ R hR))

/-- The result array after the run. -/
theorem final (c : Dev nD) : (dats m 0 c).arrAt 4 cfg0.N = key (hArr m c) (wArr m c) (cosArr m c) (sinArr m c) := by
  refine (dats m 0 c).arrAt_eq_of_covers 4 _ covers4 fun t hf y => ?_
  obtain ⟨-, -, e0, e1⟩ := index234 t
  blk_simp
  rw [after0_4]
  have ht := flush_pos t hf
  rw [eq_ix2 y]
  have h1 : ((win0_4.blk t).view.emb (ix2 (y 0) (y 1)) : S8192x128.Idx) 1 = y 1 := by
    apply Fin.ext
    blk_simp
    rw [e1]
    exact Nat.zero_add _
  refine (out_apply m c t ht (y 0) (y 1) (((win0_4.blk t).view.emb (ix2 (y 0) (y 1)) : S8192x128.Idx) 0) ?_).trans (congrArg _ ?_)
  · blk_simp
    rw [e0]
    exact congrArg (· + _) (Nat.mul_comm _ _)
  · exact (congrArg (ix2 _) h1.symm).trans (eq_ix2 _).symm

end Cert.Kernel9Ideal.Value

end
-- ==== Proof.ProjClaims.lean ====
/-
  The claims about the norm before the projections, the key and value up-projection and the rotary key: the programs run
  and keep their arguments, and the kernel's result is the reference's.
-/
module

public import proofs.«01_k».proof.Defs
public import proofs.«01_k».proof.Proof.FirstNorm
public import proofs.«01_k».proof.Proof.KvUp
public import proofs.«01_k».proof.Proof.KeyRope
public import proofs.«01_k».proof.Proof.Gen.Kernel9.Frame
public import proofs.«01_k».proof.Proof.Gen.Kernel11.Frame
public import proofs.«01_k».proof.Proof.Gen.Kernel12.Frame
public import proofs.«01_k».proof.Proof.Gen.Reference9Ideal.Run
public import proofs.«01_k».proof.Proof.Gen.Reference11Ideal.Run
public import proofs.«01_k».proof.Proof.Gen.Reference12Ideal.Run
public import Idealize.ShloMosaic.Lib.Claim

@[expose] public section

set_option maxRecDepth 16384

noncomputable section

namespace Cert.Proof.FirstNorm

open Idealize.ShloMosaic Idealize.ShloMosaic.TcCoe Idealize.SL.Sem Cert.Tile

/-- The reference of the norm runs and keeps its arguments. -/
theorem frame_ref : Cert.quiescent_Reference12Ideal := fun m g _ =>
  (θ_run Cert.Reference12Ideal.defs _ _).mono (fun r h => ⟨fun c => (h c).2, sem_eq_zero_of_no_sems (by decide) r.2⟩)
    (Cert.Reference12Ideal.Value.run m g)

/-- The kernel's norm is the reference's. -/
theorem algebraic : Cert.algebraic_Kernel12Ideal_Reference12Ideal := by
  pair_intro
  · run_from Cert.Kernel12Ideal.Value.run_blocks m g
  · run_from Cert.Reference12Ideal.Value.run m' g'
    rw [Cert.Kernel12Ideal.Value.final m c]
    funext j
    unfold Cert.Kernel12Ideal.Value.norm Cert.Kernel7Ideal.Value.normed Cert.Kernel7Ideal.Value.width Cert.Kernel7Ideal.Value.small
    pointwise

end Cert.Proof.FirstNorm

namespace Cert.Proof.KvUp

open Idealize.ShloMosaic Idealize.ShloMosaic.TcCoe Idealize.SL.Sem Cert.Tile

/-- The reference of the up-projection runs and keeps its arguments. -/
theorem frame_ref : Cert.quiescent_Reference11Ideal := fun m g _ =>
  (θ_run Cert.Reference11Ideal.defs _ _).mono (fun r h => ⟨fun c => (h c).2, sem_eq_zero_of_no_sems (by decide) r.2⟩)
    (Cert.Reference11Ideal.Value.run m g)

/-- The kernel's keys and values are the reference's. -/
theorem algebraic : Cert.algebraic_Kernel11Ideal_Reference11Ideal := by
  pair_intro
  · run_from Cert.Kernel11Ideal.Value.run_blocks m g
  · run_from Cert.Reference11Ideal.Value.run m' g'
    rw [Cert.Kernel11Ideal.Value.final m c]
    funext j
    unfold Cert.Kernel11Ideal.Value.up Cert.Kernel11Ideal.Value.normed Cert.Kernel11Ideal.Value.rank Cert.Kernel7Ideal.Value.small
    pointwise
    rfl

end Cert.Proof.KvUp

namespace Cert.Proof.KeyRope

open Idealize.ShloMosaic Idealize.ShloMosaic.TcCoe Idealize.SL.Sem Cert.Tile

/-- The reference of the rotary key runs and keeps its arguments. -/
theorem frame_ref : Cert.quiescent_Reference9Ideal := fun m g _ =>
  (θ_run Cert.Reference9Ideal.defs _ _).mono (fun r h => ⟨fun c => (h c).2, sem_eq_zero_of_no_sems (by decide) r.2⟩)
    (Cert.Reference9Ideal.Value.run m g)

/-- One entry of the rotary key, from the two columns of the projection and the place in the tables it is made of. -/
theorem key_meet (h : Vec Ideal Cert.Kernel9Ideal.S8192x4096 .bf16) (w : Vec Ideal Cert.Kernel9Ideal.S4096x15936 .f32)
    (cs sn : Vec Ideal Cert.Kernel9Ideal.S8192x128 .f32) (r : Fin 8192) (q : Fin 128) (own oth : Fin 15936) (l : Fin 128)
    (ho : own.val = 7680 + q.val % 64)
    (hf : q.val % 64 < 32 ∧ oth.val = 7680 + (q.val % 64 + 32) ∨ ¬ q.val % 64 < 32 ∧ oth.val = 7680 + (q.val % 64 - 32))
    (hl : l.val = q.val % 64) :
    (∑ k : Fin 4096, h (ix2 r k) * w (ix2 k own)) * cs (ix2 r l) + (∑ k : Fin 4096, h (ix2 r k) * w (ix2 k oth)) * sn (ix2 r l)
      = Cert.Kernel9Ideal.Value.key h w cs sn (ix2 r q) := by
  have hq : q.val % 64 < 64 := Nat.mod_lt _ (by decide)
  have el : l = lane (q.val % 64) := Fin.ext (hl.trans (Nat.mod_eq_of_lt (by omega)).symm)
  have eo : own = Cert.Kernel9Ideal.Value.keyCol (q.val % 64) hq := Fin.ext ho
  have ef : oth = Cert.Kernel9Ideal.Value.keyCol (far (q.val % 64)) (Cert.Kernel9Ideal.Value.far_lt _ hq) := by
    refine Fin.ext ?_
    show oth.val = 7680 + far (q.val % 64)
    unfold far
    rcases hf with ⟨h, e⟩ | ⟨h, e⟩
    · rw [if_pos (by omega), e]
    · rw [if_neg (by omega), e]
  subst el eo ef
  rfl

/-- The kernel's rotary key is the reference's. -/
theorem algebraic : Cert.algebraic_Kernel9Ideal_Reference9Ideal := by
  pair_intro
  · run_from Cert.Kernel9Ideal.Value.run_blocks m g
  · run_from Cert.Reference9Ideal.Value.run m' g'
    rw [Cert.Kernel9Ideal.Value.final m c]
    funext j
    obtain ⟨r, q, rfl⟩ : ∃ r q, j = ix2 r q := ⟨j 0, j 1, eq_ix2 j⟩
    rw [(hagree c).2.2.2]
    pointwise
    have meet := key_meet (Cert.Kernel9Ideal.Value.hArr m c) (Cert.Kernel9Ideal.Value.wArr m c) (Cert.Kernel9Ideal.Value.cosArr m c)
      (Cert.Kernel9Ideal.Value.sinArr m c) r q
    have hq := q.isLt
    by_cases h1 : q.val < 32
    · refine (dif_pos h1).trans ?_
      exact meet ⟨7680 + q.val, by omega⟩ ⟨7712 + q.val, by omega⟩ q (by dsimp only; omega) (.inl ⟨by omega, by dsimp only; omega⟩) (by omega)
    refine (dif_neg h1).trans ?_
    by_cases h2 : q.val - 32 < 32
    · refine (dif_pos h2).trans ?_
      exact meet ⟨7712 + (q.val - 32), by omega⟩ ⟨7680 + (q.val - 32), by omega⟩ ⟨32 + (q.val - 32), by omega⟩ (by dsimp only; omega)
        (.inr ⟨by omega, by dsimp only; omega⟩) (by dsimp only; omega)
    refine (dif_neg h2).trans ?_
    by_cases h3 : q.val - 32 - 32 < 32
    · refine (dif_pos h3).trans ?_
      exact meet ⟨7680 + (q.val - 32 - 32), by omega⟩ ⟨7712 + (q.val - 32 - 32), by omega⟩ ⟨q.val - 32 - 32, by omega⟩ (by dsimp only; omega)
        (.inl ⟨by omega, by dsimp only; omega⟩) (by dsimp only; omega)
    · refine (dif_neg h3).trans ?_
      exact meet ⟨7712 + (q.val - 32 - 32 - 32), by omega⟩ ⟨7680 + (q.val - 32 - 32 - 32), by omega⟩ ⟨32 + (q.val - 32 - 32 - 32), by omega⟩
        (by dsimp only; omega) (.inr ⟨by omega, by dsimp only; omega⟩) (by dsimp only; omega)

end Cert.Proof.KeyRope

end
-- ==== Proof.QueryUpPoint.lean ====
/-
  The query up-projection of the compressed attention, one grid point at a time: what a point leaves in the weight tile,
  in the raw product and in the result block. The first points only scale the product the point before left; the points
  from the ninth on also rotate it.
-/
module

public import proofs.«01_k».proof.Proof.Gen.Kernel10Ideal.Value
public import proofs.«01_k».proof.Proof.Rotary
public import proofs.«01_k».proof.Proof.Product
public import proofs.«01_k».proof.Proof.FinalNorm

@[expose] public section

set_option maxRecDepth 16384

noncomputable section

namespace Cert.Kernel10Ideal.Value

open Idealize.ShloMosaic Idealize.ShloMosaic.TcCoe Idealize.SL.Sem
open Idealize.ShloMosaic.Pipeline (Dat)
open Cert.Kernel10Ideal Cert.Kernel10Ideal.Gen Cert.Tile
open Cert.Kernel7Ideal.Value (small)

variable (m : (ℓ : Loc nD τ sig) → Buf (Elt Ideal) ℓ)

/-- The number of compressed columns, as the program writes it. -/
def rank : EReal := Scalar.ofBits (F := Ideal) .f32 0x44800000#32

/-- The softmax scale, in base two. -/
def scale : EReal := Named.named (F := Ideal) κ "scale" (φ := .f32) 0x3DD53B95#32

/-- One element of a row's norm. -/
def normed (x : Fin 1024 → EReal) (w : EReal) (q : Fin 1024) : EReal :=
  x q * Ideal.rsqrt (Ideal.div (∑ k : Fin 1024, x k * x k) rank + small) * w

/-- One row block of the product of the normed rows. -/
theorem dot_apply (a : Vec Ideal S256x1024 .bf16) (w : Vec Ideal S1x1024 .f32) (b : Vec Ideal S1024x1024 .bf16) (r : Fin 256) (c : Fin 1024) :
    k0_pay13 a w b (ix2 r c) = ∑ k : Fin 1024, normed (fun k => a (ix2 r k)) (w (ix2 0 k)) k * b (ix2 k c) := by
  unfold k0_pay13 normed rank small
  pointwise

/-- Rounding the weight's block to bfloat16 changes nothing over the extended reals. -/
theorem cast_eq (v : Vec Ideal S1024x1024 .f32) : k0_pay153 v = v := by
  funext y
  unfold k0_pay153
  pointwise

/-- A buffer, scaled. -/
def scaled {R C : ℕ} (A : (⟨2, ![R, C]⟩ : Shape).Idx → EReal) : (⟨2, ![R, C]⟩ : Shape).Idx → EReal := fun y => A y * scale

/-- The scaled row block. -/
theorem scaled_eq (A : Vec Ideal S256x1024 .f32) : k0_pay1 A = scaled A := by
  funext y
  unfold k0_pay1 scaled scale
  pointwise

/-- One row block scaled and rotated, as the kernel computes it from its eight chunks of 128 columns. -/
def ropeBlock (A : Vec Ideal S256x1024 .f32) (c s : Vec Ideal S256x128 .f32) : FVec Ideal S256x1024 .bf16 :=
  k0_pay12 (k0_pay1 A) c s (k0_pay2 A c s) (k0_pay3 A c s) (k0_pay4 A c s) (k0_pay5 (k0_pay1 A) c s) (k0_pay6 (k0_pay1 A) c s)
    (k0_pay7 (k0_pay1 A) c s) (k0_pay8 (k0_pay1 A)) (k0_pay9 (k0_pay1 A) c) k0_pay10 (k0_pay11 (k0_pay1 A)) 32#32

set_option maxHeartbeats 1000000 in
/-- The rotated row block, column by column. -/
theorem rope_apply (A : Vec Ideal S256x1024 .f32) (c s : Vec Ideal S256x128 .f32) (r : Fin 256) (q : Fin 1024) :
    ropeBlock A c s (ix2 r q) = rotAt (at' (scaled A) r) (fun l => c (ix2 r l)) (fun l => s (ix2 r l)) q.val := by
  unfold ropeBlock k0_pay2 k0_pay3 k0_pay4
  rw [scaled_eq]
  generalize scaled A = B
  unfold k0_pay12 k0_pay5 k0_pay6 k0_pay7
  pointwise
  have hq := q.isLt
  by_cases h1 : q.val < 128
  · refine (dif_pos h1).trans (rot_chunk B c s r q.val 0 rfl ⟨q.val, h1⟩ (Nat.zero_add _) _ _ _ rfl ?_ ?_) <;> dsimp only <;> omega
  refine (dif_neg h1).trans ?_
  by_cases h2 : q.val - 128 < 128
  · refine (dif_pos h2).trans (rot_chunk B c s r q.val 128 rfl ⟨q.val - 128, h2⟩ ?_ _ _ _ ?_ rfl rfl) <;> dsimp only <;> omega
  refine (dif_neg h2).trans ?_
  by_cases h3 : q.val - 128 - 128 < 128
  · refine (dif_pos h3).trans (rot_chunk B c s r q.val 256 rfl ⟨q.val - 128 - 128, h3⟩ ?_ _ _ _ ?_ rfl rfl) <;> dsimp only <;> omega
  refine (dif_neg h3).trans ?_
  by_cases h4 : q.val - 128 - 128 - 128 < 128
  · refine (dif_pos h4).trans (rot_chunk B c s r q.val 384 rfl ⟨q.val - 128 - 128 - 128, h4⟩ ?_ _ _ _ ?_ rfl rfl) <;> dsimp only <;> omega
  refine (dif_neg h4).trans ?_
  by_cases h5 : q.val - 128 - 128 - 128 - 128 < 128
  · refine (dif_pos h5).trans (rot_chunk B c s r q.val 512 rfl ⟨q.val - 128 - 128 - 128 - 128, h5⟩ ?_ _ _ _ ?_ rfl rfl) <;> dsimp only <;> omega
  refine (dif_neg h5).trans ?_
  by_cases h6 : q.val - 128 - 128 - 128 - 128 - 128 < 128
  · refine (dif_pos h6).trans (rot_chunk B c s r q.val 640 rfl ⟨q.val - 128 - 128 - 128 - 128 - 128, h6⟩ ?_ _ _ _ ?_ rfl rfl) <;> dsimp only <;> omega
  refine (dif_neg h6).trans ?_
  by_cases h7 : q.val - 128 - 128 - 128 - 128 - 128 - 128 < 128
  · refine (dif_pos h7).trans ?_
    unfold k0_pay9 k0_pay10 k0_pay11 k0_pay8
    pointwise
    refine rot_chunk B c s r q.val 768 rfl ⟨q.val - 128 - 128 - 128 - 128 - 128 - 128, h7⟩ ?_ _ _ _ ?_ rfl rfl <;> dsimp only <;> omega
  refine (dif_neg h7).trans ?_
  refine rot_chunk B c s r q.val 896 rfl ⟨q.val - 128 - 128 - 128 - 128 - 128 - 128 - 128, by omega⟩ ?_ _ _ _ ?_ rfl rfl <;> dsimp only <;> omega

/-- A stored row block of the product, at an index of the whole buffer. -/
theorem row_tile (A : Vec Ideal S2048x1024 .bf16) (w : Vec Ideal S1x1024 .f32) (U : Vec Ideal S1024x1024 .bf16) {o : ℕ} {inb} (x : S256x1024.Idx)
    (r : Fin 2048) (q : Fin 1024) (hr : (r : ℕ) = o + x 0) (hq : (q : ℕ) = x 1) :
    k0_pay13 (View.ld (Val := Elt Ideal) A (Rect.unit ![o, 0] ![256, 1024] inb)) w U x
      = ∑ k : Fin 1024, normed (fun k => A (ix2 r k)) (w (ix2 0 k)) k * U (ix2 k q) := by
  rw [eq_ix2 x]
  refine (dot_apply _ _ _ (x 0) (x 1)).trans (Finset.sum_congr rfl fun k _ => ?_)
  refine congrArg₂ (· * ·) (congrArg (fun a => normed a (w (ix2 0 k)) k) (funext fun k => ?_)) (congrArg U ?_)
  · exact ld_rows A (ix2 (x 0) k) (ix2 r k) hr rfl
  · exact congrArg (ix2 k) (Fin.ext hq.symm)

/-- A scaled row block, at an index of the whole buffer. -/
theorem scale_tile (U : Vec Ideal S2048x1024 .f32) {o : ℕ} {inb} (x : S256x1024.Idx) (y : S2048x1024.Idx) (hr : (y 0 : ℕ) = o + x 0) (hq : (y 1 : ℕ) = x 1) :
    k0_pay131 (F := Ideal) (View.ld (Val := Elt Ideal) U (Rect.unit ![o, 0] ![256, 1024] inb)) x = scaled U y := by
  refine (show _ = View.ld (Val := Elt Ideal) U (Rect.unit ![o, 0] ![256, 1024] inb) x * scale from ?_).trans
    (congrArg (· * scale) (ld_rows U x y hr hq))
  unfold k0_pay131 scale
  pointwise

/-- A scaled and rotated row block, at an index of the whole buffer. -/
theorem rope_tile (U : Vec Ideal S2048x1024 .f32) (c s : Vec Ideal S2048x128 .f32) {o : ℕ} {inb inb' inb''} (x : S256x1024.Idx)
    (r : Fin 2048) (q : Fin 1024) (hr : (r : ℕ) = o + x 0) (hq : (q : ℕ) = x 1) :
    ropeBlock (View.ld (Val := Elt Ideal) U (Rect.unit ![o, 0] ![256, 1024] inb)) (View.ld (Val := Elt Ideal) c (Rect.unit ![o, 0] ![256, 128] inb'))
        (View.ld (Val := Elt Ideal) s (Rect.unit ![o, 0] ![256, 128] inb'')) x
      = rotAt (at' (scaled U) r) (fun l => c (ix2 r l)) (fun l => s (ix2 r l)) q.val := by
  rw [eq_ix2 x]
  refine (rope_apply _ _ _ (x 0) (x 1)).trans ?_
  have hU : at' (scaled (View.ld (Val := Elt Ideal) U (Rect.unit ![o, 0] ![256, 1024] inb))) (x 0) = at' (scaled U) r := by
    funext k
    unfold at' scaled
    by_cases hk : k < 1024
    · rw [dif_pos hk, dif_pos hk]
      exact congrArg (· * scale) (ld_rows U (ix2 (x 0) ⟨k, hk⟩) (ix2 r ⟨k, hk⟩) hr rfl)
    · rw [dif_neg hk, dif_neg hk]
  rw [hU, show (x 1).val = q.val from hq.symm]
  exact congrArg₂ (fun c s => rotAt (at' (scaled U) r) c s q.val) (funext fun l => ld_rows c (ix2 (x 0) l) (ix2 r l) hr rfl)
    (funext fun l => ld_rows s (ix2 (x 0) l) (ix2 r l) hr rfl)

/-- The block of the activations a point reads. -/
abbrev xblk (c : Dev nD) (t : Fin cfg0.N) : Vec Ideal S2048x1024 .bf16 := X0_0 m c t
/-- The block of the weight a point reads. -/
abbrev wblk (c : Dev nD) (t : Fin cfg0.N) : Vec Ideal S1024x1024 .f32 := iblk m c 1 t
/-- The norm's weight. -/
abbrev nblk (c : Dev nD) (t : Fin cfg0.N) : Vec Ideal S1x1024 .f32 := iblk m c 2 t
/-- The block of the cosines a point reads. -/
abbrev cblk (c : Dev nD) (t : Fin cfg0.N) : Vec Ideal S2048x128 .f32 := iblk m c 3 t
/-- The block of the sines a point reads. -/
abbrev sblk (c : Dev nD) (t : Fin cfg0.N) : Vec Ideal S2048x128 .f32 := iblk m c 4 t
/-- What a point leaves in the result block. -/
abbrev outAt (c : Dev nD) (t : Fin cfg0.N) : Vec Ideal S2048x1024 .bf16 := (outsAt0 m c t.val t.isLt).1
/-- What a point leaves in the weight tile. -/
abbrev wbfAt (c : Dev nD) (t : Fin cfg0.N) : Vec Ideal S1024x1024 .bf16 := (outsAt0 m c t.val t.isLt).2.1
/-- What a point leaves in the raw product. -/
abbrev accAt (c : Dev nD) (t : Fin cfg0.N) : Vec Ideal S2048x1024 .f32 := (outsAt0 m c t.val t.isLt).2.2
/-- The point before. -/
abbrev before (t : Fin cfg0.N) : Fin cfg0.N := ⟨t.val - 1, lt_of_le_of_lt (Nat.sub_le _ _) t.isLt⟩

/-- The points where a new column tile begins. -/
abbrev fresh (t : Fin cfg0.N) : Prop := t.val % 13 = 0 ∨ t.val % 13 = 4 ∨ t.val % 13 = 8

/-- They all only scale. -/
theorem fresh_lt (t : Fin cfg0.N) (h : fresh t) : t.val < 9 := by
  have ht : t.val < 13 := lt_of_lt_of_eq t.isLt N_0
  unfold fresh at h
  rw [Nat.mod_eq_of_lt ht] at h
  omega

/-- Where a new column tile begins, the weight tile is the block. -/
theorem wbf_fresh (c : Dev nD) (t : Fin cfg0.N) (h1 : fresh t) : wbfAt m c t = wblk m c t := by
  have h3 := fresh_lt t h1
  unfold wbfAt
  by_cases h0 : t.val % 13 = 0
  · rw [outsAt0_A m c t h0 h1 (by omega) h3]
    dsimp only
    frame_out
    exact cast_eq _
  · rw [outsAt0_C m c t h0 h1 (by omega) h3]
    dsimp only
    frame_out
    exact cast_eq _

/-- Elsewhere the weight tile stays. -/
theorem wbf_kept (c : Dev nD) (t : Fin cfg0.N) (h1 : ¬ fresh t) : wbfAt m c t = wbfAt m c (before t) := by
  unfold wbfAt
  by_cases h3 : t.val < 9
  · rw [outsAt0_B m c t (fun h => h1 (.inl h)) h1 (by omega) h3]
    rfl
  · rw [outsAt0_D m c t (fun h => h1 (.inl h)) h1 (by omega) h3]
    rfl

/-- The raw product after a point where a new column tile begins. -/
theorem acc_fresh (c : Dev nD) (t : Fin cfg0.N) (h1 : fresh t) (r : Fin 2048) (q : Fin 1024) :
    accAt m c t (ix2 r q) = ∑ k : Fin 1024, normed (fun k => xblk m c t (ix2 r k)) (nblk m c t (ix2 0 k)) k * wbfAt m c t (ix2 k q) := by
  have h3 := fresh_lt t h1
  unfold accAt wbfAt
  by_cases h0 : t.val % 13 = 0
  · rw [outsAt0_A m c t h0 h1 (by omega) h3]
    dsimp only
    frame_out
    generalize k0_pay153 (iblk m c 1 t) = U
    refine canon_append_of_cover [_, _, _, _, _, _, _, _] [_] _ _ ?_ ?_
    · exact View.cover_of_tiledL _ ![256, 1024] (by sl_kernel_rfl) _
    canon_tiles x h <;> exact row_tile (X0_0 m c t) (iblk m c 2 t) U x r q (by have : (r : ℕ) = _ := h0; omega) h1
  · rw [outsAt0_C m c t h0 h1 (by omega) h3]
    dsimp only
    frame_out
    generalize k0_pay153 (iblk m c 1 t) = U
    canon_tiles x h <;> exact row_tile (X0_0 m c t) (iblk m c 2 t) U x r q (by have : (r : ℕ) = _ := h0; omega) h1

/-- The raw product after any other point. -/
theorem acc_kept (c : Dev nD) (t : Fin cfg0.N) (h1 : ¬ fresh t) (r : Fin 2048) (q : Fin 1024) :
    accAt m c t (ix2 r q) = ∑ k : Fin 1024, normed (fun k => xblk m c t (ix2 r k)) (nblk m c t (ix2 0 k)) k * wbfAt m c t (ix2 k q) := by
  unfold accAt wbfAt
  by_cases h3 : t.val < 9
  · rw [outsAt0_B m c t (fun h => h1 (.inl h)) h1 (by omega) h3]
    dsimp only
    frame_out
    simp only [read_unread_whole]
    generalize (outsAt0 m c _ _).2.1 = U
    canon_tiles x h <;> exact row_tile (X0_0 m c t) (iblk m c 2 t) U x r q (by have : (r : ℕ) = _ := h0; omega) h1
  · rw [outsAt0_D m c t (fun h => h1 (.inl h)) h1 (by omega) h3]
    dsimp only
    frame_out
    simp only [read_unread_whole]
    generalize (outsAt0 m c _ _).2.1 = U
    canon_tiles x h <;> exact row_tile (X0_0 m c t) (iblk m c 2 t) U x r q (by have : (r : ℕ) = _ := h0; omega) h1

/-- Through the eighth point after the first, the result block is the scaled product the point before left. -/
theorem out_plain (c : Dev nD) (t : Fin cfg0.N) (h0 : t.val ≠ 0) (h3 : t.val < 9) (y : S2048x1024.Idx) :
    outAt m c t y = scaled (accAt m c (before t)) y := by
  have h0 : ¬ t.val % 13 = 0 := by omega
  unfold accAt outAt
  by_cases h1 : fresh t
  · rw [outsAt0_C m c t h0 h1 (by omega) h3]
    dsimp only
    frame_out
    simp only [read_unread_whole]
    generalize (outsAt0 m c _ _).2.2 = U
    canon_tiles x h <;> exact scale_tile U x y (by have : (y 0 : ℕ) = _ := h0; omega) h1
  · rw [outsAt0_B m c t h0 h1 (by omega) h3]
    dsimp only
    frame_out
    simp only [read_unread_whole]
    generalize (outsAt0 m c _ _).2.2 = U
    canon_tiles x h <;> exact scale_tile U x y (by have : (y 0 : ℕ) = _ := h0; omega) h1

/-- Later it is also rotated. -/
theorem out_rotated (c : Dev nD) (t : Fin cfg0.N) (h3 : ¬ t.val < 9) (r : Fin 2048) (q : Fin 1024) :
    outAt m c t (ix2 r q) = rotAt (at' (scaled (accAt m c (before t))) r) (fun l => cblk m c t (ix2 r l)) (fun l => sblk m c t (ix2 r l)) q.val := by
  have h1 : ¬ fresh t := fun h => h3 (fresh_lt t h)
  unfold accAt outAt
  rw [outsAt0_D m c t (fun h => h1 (.inl h)) h1 (by omega) h3]
  dsimp only
  frame_out
  rw [read_unread_whole, (hs0_3 t).read_unread, (hs0_4 t).read_unread]
  generalize (outsAt0 m c _ _).2.2 = U
  canon_tiles x h <;> exact rope_tile U (iblk m c 3 t) (iblk m c 4 t) x r q (by have : (r : ℕ) = _ := h0; omega) h1

end Cert.Kernel10Ideal.Value

end
-- ==== Proof.QueryUpArray.lean ====
/-
  The query up-projection as a whole: where the blocks lie, the weight tile and the raw product after any point, and the
  result array after the run.
-/
module

public import proofs.«01_k».proof.Proof.QueryUpPoint

@[expose] public section

set_option maxRecDepth 16384

noncomputable section

namespace Cert.Kernel10Ideal.Value

open Idealize.ShloMosaic Idealize.ShloMosaic.TcCoe Idealize.SL.Sem
open Idealize.ShloMosaic.Pipeline (Dat)
open Cert.Kernel10Ideal Cert.Kernel10Ideal.Gen Cert.Tile

variable (m : (ℓ : Loc nD τ sig) → Buf (Elt Ideal) ℓ)

/-- The column tile of a step of the walk (the walk goes down the rows first). -/
abbrev colTile (n : ℕ) : ℕ := min n 11 / 4
/-- The row tile of a step of the walk. -/
abbrev rowTile (n : ℕ) : ℕ := min n 11 % 4

/-- Where the activations' block lies: the seventh tile of 1024 columns. -/
theorem index0 (t : Fin cfg0.N) : win0_0.index t 0 = rowTile t.val ∧ win0_0.index t 1 = 6 := by
  revert t; decide +kernel
/-- Where the weight's block lies. -/
theorem index1 (t : Fin cfg0.N) : win0_1.index t 0 = 0 ∧ win0_1.index t 1 = colTile t.val := by
  revert t; decide +kernel
/-- Where the norm's weight lies. -/
theorem index2 (t : Fin cfg0.N) : win0_2.index t 0 = 0 ∧ win0_2.index t 1 = 0 := by
  revert t; decide +kernel
/-- Where the cosines' block lies: one step behind. -/
theorem index3 (t : Fin cfg0.N) : win0_3.index t 0 = rowTile (t.val - 1) ∧ win0_3.index t 1 = 0 := by
  revert t; decide +kernel
/-- Where the sines' block lies: one step behind. -/
theorem index4 (t : Fin cfg0.N) : win0_4.index t 0 = rowTile (t.val - 1) ∧ win0_4.index t 1 = 0 := by
  revert t; decide +kernel
/-- Where the result's block lies: one step behind. -/
theorem index5 (t : Fin cfg0.N) : win0_5.index t 0 = rowTile (t.val - 1) ∧ win0_5.index t 1 = colTile (t.val - 1) := by
  revert t; decide +kernel
/-- The written blocks cover the result. -/
theorem covers5 : (cfg0.win 5).Covers := by decide +kernel
/-- Nothing is written back at the first point. -/
theorem flush_pos (t : Fin cfg0.N) (hf : (cfg0.win 5).flush t = true) : t.val ≠ 0 := by
  revert t; decide +kernel

/-- The projected activations. -/
abbrev zArr (c : Dev nD) : Vec Ideal S8192x7680 .bf16 := m ((c : Thread nD τ).loc main_arg0)
/-- The norm's weight. -/
abbrev nArr (c : Dev nD) : Vec Ideal S1024 .f32 := m ((c : Thread nD τ).loc main_arg1)
/-- The weight, head by head. -/
abbrev wArr (c : Dev nD) : Vec Ideal S1024x3072 .f32 := m ((c : Thread nD τ).loc main_arg2)
/-- The cosines. -/
abbrev cosArr (c : Dev nD) : Vec Ideal S8192x128 .f32 := m ((c : Thread nD τ).loc main_arg3)
/-- The sines. -/
abbrev sinArr (c : Dev nD) : Vec Ideal S8192x128 .f32 := m ((c : Thread nD τ).loc main_arg4)

/-- A compressed column among the columns of the activations. -/
def inner (k : Fin 1024) : Fin 7680 := ⟨6144 + k.val, by omega⟩

/-- A column of the result among the columns of the weight: the result holds the 128 plain columns of every head first,
    then the 64 rotated columns of every head. -/
def orig (j : Fin 3072) : Fin 3072 :=
  if h : j.val < 2048 then ⟨j.val / 128 * 192 + j.val % 128, by omega⟩ else ⟨(j.val - 2048) / 64 * 192 + (128 + (j.val - 2048) % 64), by omega⟩

/-- The weight with its columns in that order. -/
theorem perm_apply (w : Vec Ideal S1024x3072 .f32) (k : Fin 1024) (j : Fin 3072) :
    (if h : j.val < 2048 then w (ix2 k ⟨j.val / 128 * 192 + j.val % 128, by omega⟩)
      else w (ix2 k ⟨(j.val - 2048) / 64 * 192 + (128 + (j.val - 2048) % 64), by omega⟩)) = w (ix2 k (orig j)) := by
  unfold orig
  by_cases h : j.val < 2048
  · simp only [dif_pos h]
  · simp only [dif_neg h]

/-- The activations' block, read off the array. -/
theorem xblk_apply (c : Dev nD) (t : Fin cfg0.N) (r : Fin 2048) (k : Fin 1024) (R : Fin 8192)
    (hR : (R : ℕ) = 2048 * rowTile t.val + r) : xblk m c t (ix2 r k) = zArr m c (ix2 R (inner k)) := by
  obtain ⟨e0, e1⟩ := index0 t
  unfold xblk X0_0 Pipeline.Window.fill
  rw [dif_pos (moved0_0 t (ix2 r k))]
  blk_simp [iblk]
  refine (congrFun (V_main_arg0 m c) _).trans ?_
  refine (congrArg (zArr m c) (eq_ix2 _)).trans (congrArg₂ (fun a b => zArr m c (ix2 a b)) (Fin.ext ?_) (Fin.ext ?_))
  · refine (win0_0.rect_emb_val t _ 0).trans ?_
    rw [e0, hR]
    exact congrArg (· + _) (Nat.mul_comm _ _)
  · refine (win0_0.rect_emb_val t _ 1).trans ?_
    rw [e1]
    exact congrArg (· + k.val) (show 6 * 1024 = 6144 from by norm_num)

/-- The cosines' block, read off the array. -/
theorem cblk_apply (c : Dev nD) (t : Fin cfg0.N) (r : Fin 2048) (k : Fin 128) (R : Fin 8192)
    (hR : (R : ℕ) = 2048 * rowTile (t.val - 1) + r) : cblk m c t (ix2 r k) = cosArr m c (ix2 R k) := by
  obtain ⟨e0, e1⟩ := index3 t
  unfold cblk
  blk_simp [iblk]
  refine (congrFun (V_main_arg3 m c) _).trans (congrArg (cosArr m c) ?_)
  blk_ext [e0, e1]

/-- The sines' block, read off the array. -/
theorem sblk_apply (c : Dev nD) (t : Fin cfg0.N) (r : Fin 2048) (k : Fin 128) (R : Fin 8192)
    (hR : (R : ℕ) = 2048 * rowTile (t.val - 1) + r) : sblk m c t (ix2 r k) = sinArr m c (ix2 R k) := by
  obtain ⟨e0, e1⟩ := index4 t
  unfold sblk
  blk_simp [iblk]
  refine (congrFun (V_main_arg4 m c) _).trans (congrArg (sinArr m c) ?_)
  blk_ext [e0, e1]

/-- The norm's weight, read off the array. -/
theorem nblk_apply (c : Dev nD) (t : Fin cfg0.N) (q : Fin 1024) : nblk m c t (ix2 0 q) = nArr m c (ix1 q) := by
  obtain ⟨e0, e1⟩ := index2 t
  unfold nblk
  blk_simp [iblk]
  have e : ((win0_2.blk t).view.emb (ix2 0 q) : S1x1024.Idx) = ix2 0 q := by
    blk_ext [e0, e1]
  rw [e]
  entry_read
  pointwise

/-- The weight's block, read off the array. -/
theorem wblk_apply (c : Dev nD) (t : Fin cfg0.N) (k : Fin 1024) (q : Fin 1024) (C : Fin 3072)
    (hC : (C : ℕ) = 1024 * colTile t.val + q) : wblk m c t (ix2 k q) = wArr m c (ix2 k (orig C)) := by
  obtain ⟨e0, e1⟩ := index1 t
  unfold wblk
  blk_simp [iblk]
  have e : ((win0_1.blk t).view.emb (ix2 k q) : S1024x3072.Idx) = ix2 k C := by
    blk_ext [e0, e1]
  rw [e]
  entry_read
  pointwise
  exact perm_apply (wArr m c) k C

/-- Points of one column tile read one block of the weight. -/
theorem wblk_same (c : Dev nD) (t u : Fin cfg0.N) (h : colTile t.val = colTile u.val) : wblk m c t = wblk m c u := by
  funext y
  have hu : colTile t.val < 3 := by unfold colTile; omega
  have hy : (y 1 : ℕ) < 1024 := (y 1).isLt
  rw [eq_ix2 y]
  have C : ∃ C : Fin 3072, (C : ℕ) = 1024 * colTile t.val + (y 1 : ℕ) := ⟨⟨1024 * colTile t.val + (y 1 : ℕ), by omega⟩, rfl⟩
  obtain ⟨C, hC⟩ := C
  exact (wblk_apply m c t (y 0) (y 1) C hC).trans (wblk_apply m c u (y 0) (y 1) C (by rw [hC, h])).symm

/-- After any point the weight tile is the column tile of that point. -/
theorem wbf_eq (c : Dev nD) (t : Fin cfg0.N) : wbfAt m c t = wblk m c t :=
  kept (wbfAt m c) (wblk m c) fresh (wbf_fresh m c) (fun n h hn => wbf_kept m c ⟨n + 1, h⟩ hn)
    (fun n h hn => wblk_same m c _ _ (by
      have ht : n + 1 < 13 := lt_of_lt_of_eq h N_0
      unfold fresh at hn
      simp only [] at hn
      rw [Nat.mod_eq_of_lt ht] at hn
      unfold colTile
      dsimp only
      omega)) (fun _ => .inl rfl) t.val t.isLt

/-- One entry of the product of the normed compressed columns, by a column of the weight. -/
abbrev proj (z : Vec Ideal S8192x7680 .bf16) (n : Vec Ideal S1024 .f32) (w : Vec Ideal S1024x3072 .f32) (R : Fin 8192) (C : Fin 3072) : EReal :=
  ∑ k : Fin 1024, normed (fun k => z (ix2 R (inner k))) (n (ix1 k)) k * w (ix2 k C)

/-- The raw product after a point is the full product of the point's tile. -/
theorem acc_apply (c : Dev nD) (t : Fin cfg0.N) (r : Fin 2048) (q : Fin 1024) (R : Fin 8192) (C : Fin 3072)
    (hR : (R : ℕ) = 2048 * rowTile t.val + r) (hC : (C : ℕ) = 1024 * colTile t.val + q) :
    accAt m c t (ix2 r q) = proj (zArr m c) (nArr m c) (wArr m c) R (orig C) := by
  have e : accAt m c t (ix2 r q) = ∑ k : Fin 1024, normed (fun k => xblk m c t (ix2 r k)) (nblk m c t (ix2 0 k)) k * wbfAt m c t (ix2 k q) := by
    by_cases h1 : fresh t
    · exact acc_fresh m c t h1 r q
    · exact acc_kept m c t h1 r q
  rw [e]
  refine Finset.sum_congr rfl fun k _ => congrArg₂ (· * ·) (congrArg₂ (fun a b => normed a b k) (funext fun k => ?_) ?_) ?_
  · exact xblk_apply m c t r k R hR
  · exact nblk_apply m c t k
  · exact (congrFun (wbf_eq m c t) _).trans (wblk_apply m c t k q C hC)

/-- The column half a head away. -/
def farCol (j : Fin 3072) : Fin 3072 := ⟨far j.val, by unfold far; split <;> omega⟩

/-- The queries: the scaled product, its last 1024 columns rotated. -/
def queries (z : Vec Ideal S8192x7680 .bf16) (n : Vec Ideal S1024 .f32) (w : Vec Ideal S1024x3072 .f32) (cs sn : Vec Ideal S8192x128 .f32) :
    Vec Ideal S8192x3072 .bf16 := fun j =>
  if (j 1).val < 2048 then proj z n w (j 0) (orig (j 1)) * scale
  else proj z n w (j 0) (orig (j 1)) * scale * cs (ix2 (j 0) (lane (j 1).val))
    + proj z n w (j 0) (orig (farCol (j 1))) * scale * sn (ix2 (j 0) (lane (j 1).val))

/-- The result block of a point, entry by entry of the array. -/
theorem out_apply (c : Dev nD) (t : Fin cfg0.N) (h0 : t.val ≠ 0) (r : Fin 2048) (q : Fin 1024) (R : Fin 8192) (C : Fin 3072)
    (hR : (R : ℕ) = 2048 * rowTile (t.val - 1) + r) (hC : (C : ℕ) = 1024 * colTile (t.val - 1) + q) :
    outAt m c t (ix2 r q) = queries (zArr m c) (nArr m c) (wArr m c) (cosArr m c) (sinArr m c) (ix2 R C) := by
  have ht : t.val < 13 := lt_of_lt_of_eq t.isLt N_0
  have hq := q.isLt
  have hacc : ∀ (p : Fin 1024) (D : Fin 3072), (D : ℕ) = 1024 * colTile (t.val - 1) + p →
      scaled (accAt m c (before t)) (ix2 r p) = proj (zArr m c) (nArr m c) (wArr m c) R (orig D) * scale :=
    fun p D hD => congrArg (· * scale) (acc_apply m c (before t) r p R D hR hD)
  by_cases h2 : t.val < 9
  · refine (out_plain m c t h0 h2 (ix2 r q)).trans (Eq.trans ?_ (if_pos (show C.val < 2048 by rw [hC]; unfold colTile; omega)).symm)
    exact hacc q C hC
  · refine (out_rotated m c t h2 r q).trans (Eq.trans ?_ (if_neg (show ¬ C.val < 2048 by rw [hC]; unfold colTile; omega)).symm)
    have el : lane q.val = lane C.val := Fin.ext (by show q.val % 128 = C.val % 128; rw [hC]; omega)
    have ef : far q.val < 1024 ∧ far C.val = 1024 * colTile (t.val - 1) + far q.val := by
      rw [hC]
      unfold far
      have : (1024 * colTile (t.val - 1) + q.val) / 32 % 2 = q.val / 32 % 2 := by omega
      rw [this]
      split <;> omega
    unfold rotAt
    have hc : cblk m c t (ix2 r (lane q.val)) = cosArr m c (ix2 R (lane C.val)) :=
      (cblk_apply m c t r _ R hR).trans (congrArg (fun l => cosArr m c (ix2 R l)) el)
    have hs : sblk m c t (ix2 r (lane q.val)) = sinArr m c (ix2 R (lane C.val)) :=
      (sblk_apply m c t r _ R hR).trans (congrArg (fun l => sinArr m c (ix2 R l)) el)
    refine congrArg₂ (· + ·) (congrArg₂ (· * ·) ?_ hc) (congrArg₂ (· * ·) ?_ hs)
    · exact (at'_eq _ r q.val q rfl).symm.trans (hacc q C hC)
    · exact (at'_eq _ r _ ⟨far q.val, ef.1⟩ rfl).symm.trans (hacc ⟨far q.val, ef.1⟩ (farCol C) ef.2)

/-- The result array after the run. -/
theorem final (c : Dev nD) : (dats m 0 c).arrAt 5 cfg0.N = queries (zArr m c) (nArr m c) (wArr m c) (cosArr m c) (sinArr m c) := by
  refine (dats m 0 c).arrAt_eq_of_covers 5 _ covers5 fun t hf y => ?_
  obtain ⟨e0, e1⟩ := index5 t
  blk_simp
  rw [after0_5]
  have ht := flush_pos t hf
  rw [eq_ix2 y]
  refine (out_apply m c t ht (y 0) (y 1) _ _ ?_ ?_).trans (congrArg _ (eq_ix2 _).symm)
  · blk_simp
    rw [e0]
    exact congrArg (· + _) (Nat.mul_comm _ _)
  · blk_simp
    rw [e1]
    exact congrArg (· + _) (Nat.mul_comm _ _)

end Cert.Kernel10Ideal.Value

end
-- ==== Proof.QueryUpClaim.lean ====
/-
  The claims about the query up-projection: the programs run and keep their arguments, the kernel's literal is the
  rounding of the scale it stands for, and the kernel's result is the reference's.
-/
module

public import proofs.«01_k».proof.Defs
public import proofs.«01_k».proof.Proof.QueryUpArray
public import proofs.«01_k».proof.Proof.Gen.Kernel10.Frame
public import proofs.«01_k».proof.Proof.Gen.Reference10Ideal.Run
public import Idealize.ShloMosaic.Lib.Claim

@[expose] public section

set_option maxRecDepth 16384

noncomputable section

namespace Cert.Proof.QueryUp

open Idealize.ShloMosaic Idealize.ShloMosaic.TcCoe Idealize.SL.Sem Cert.Tile

/-- The reference runs and keeps its arguments. -/
theorem frame_ref : Cert.quiescent_Reference10Ideal := fun m g _ =>
  (θ_run Cert.Reference10Ideal.defs _ _).mono (fun r h => ⟨fun c => (h c).2, sem_eq_zero_of_no_sems (by decide) r.2⟩)
    (Cert.Reference10Ideal.Value.run m g)

/-- The literal, as in the idealized kernel, has the value it is named for. -/
theorem preserves : Cert.preserves_Kernel10_Kernel10Ideal :=
  IdealRules.named_const.statement Cert.Kernel10Ideal.κ "scale" .f32 0x3DD53B95#32 (((Real.sqrt 192)⁻¹ * (Real.log 2)⁻¹ : ℝ) : EReal) rfl

/-- The reference's two quotients, by `√192` and by `log 2`, are the kernel's one factor. -/
theorem scale_eq (x : EReal) :
    Ideal.div (Ideal.div x (id (Host.sqrt (F := Ideal) (constant Cert.Reference10Ideal.S_ FTy.f32 0x43400000#32)) ix0))
      (id (Host.log (F := Ideal) (constant Cert.Reference10Ideal.S_ FTy.f32 0x40000000#32)) ix0) = x * Cert.Kernel10Ideal.Value.scale := by
  have e1 : Ideal.ofBits FTy.f32 0x43400000#32 = ((192 : ℝ) : EReal) := by simp [Ideal.ofBits, Ideal.ieee, -EReal.coe_mul]; norm_num
  have e2 : Ideal.ofBits FTy.f32 0x40000000#32 = ((2 : ℝ) : EReal) := by simp [Ideal.ofBits, Ideal.ieee, -EReal.coe_mul]; norm_num
  have es : id (Host.sqrt (F := Ideal) (constant Cert.Reference10Ideal.S_ FTy.f32 0x43400000#32)) ix0 = ((Real.sqrt 192 : ℝ) : EReal) := by
    simp only [id, Host.sqrt, constant, Ideal.hostUnary_sqrt_def, Ideal.ofBits_def, e1, Ideal.sqrt_coe, show ¬ (192 : ℝ) < 0 from by norm_num, ↓reduceIte]
  have el : id (Host.log (F := Ideal) (constant Cert.Reference10Ideal.S_ FTy.f32 0x40000000#32)) ix0 = ((Real.log 2 : ℝ) : EReal) := by
    simp only [id, Host.log, constant, Ideal.hostUnary_log_def, Ideal.ofBits_def, e2, Ideal.log_coe, show ¬ (2 : ℝ) ≤ 0 from by norm_num, ↓reduceIte]
  have en : Cert.Kernel10Ideal.Value.scale = (((Real.sqrt 192)⁻¹ * (Real.log 2)⁻¹ : ℝ) : EReal) :=
    IdealRules.named_const.ideal_named_scalar _ _ _ _ rfl
  rw [el, es, en, Ideal.div_coe (Real.log_pos (by norm_num)).ne', Ideal.div_coe (Real.sqrt_pos.mpr (by norm_num)).ne', mul_assoc, ← EReal.coe_mul, one_div, one_div]

/-- One entry of the reference's product, scaled as it writes it, is the kernel's. -/
theorem div_meet (z : Vec Ideal Cert.Kernel10Ideal.S8192x7680 .bf16) (n : Vec Ideal Cert.Kernel10Ideal.S1024 .f32) (w : Vec Ideal Cert.Kernel10Ideal.S1024x3072 .f32)
    (r : Fin 8192) (C D : Fin 3072) (h : C.val = D.val) :
    Ideal.div (Ideal.div (∑ x : Fin 1024, z (ix2 r ⟨6144 + x.val, by omega⟩)
          * Ideal.rsqrt (Ideal.div (∑ x : Fin 1024, z (ix2 r ⟨6144 + x.val, by omega⟩) * z (ix2 r ⟨6144 + x.val, by omega⟩)) (Ideal.ofBits FTy.f32 1149239296#32)
            + Ideal.ofBits FTy.f32 897988541#32) * n (ix1 x) * w (ix2 x C))
        (id (Host.sqrt (F := Ideal) (constant Cert.Reference10Ideal.S_ FTy.f32 1128267776#32)) ix0))
      (id (Host.log (F := Ideal) (constant Cert.Reference10Ideal.S_ FTy.f32 1073741824#32)) ix0)
      = Cert.Kernel10Ideal.Value.proj z n w r D * Cert.Kernel10Ideal.Value.scale := by
  obtain rfl : C = D := Fin.ext h
  exact scale_eq _

/-- Where a plain column lies in the weight. -/
theorem orig_plain (j : Fin 3072) (h : j.val < 2048) : (Cert.Kernel10Ideal.Value.orig j).val = j.val / 128 * 192 + j.val % 128 := by
  unfold Cert.Kernel10Ideal.Value.orig
  simp only [dif_pos h]

/-- Where a rotated column lies in the weight. -/
theorem orig_rotated (j : Fin 3072) (h : ¬ j.val < 2048) :
    (Cert.Kernel10Ideal.Value.orig j).val = (j.val - 2048) / 64 * 192 + (128 + (j.val - 2048) % 64) := by
  unfold Cert.Kernel10Ideal.Value.orig
  simp only [dif_neg h]

set_option maxHeartbeats 2000000 in
/-- The reference's result, entry by entry. -/
theorem ref_apply (m : (ℓ : Loc Cert.Reference10Ideal.nD Cert.Reference10Ideal.τ Cert.Reference10Ideal.sig) → Buf (Elt Ideal) ℓ)
    (c : Dev Cert.Reference10Ideal.nD) (r : Fin 8192) (q : Fin 3072) :
    Cert.Reference10Ideal.Value.res_main_v44 m c (ix2 r q)
      = Cert.Kernel10Ideal.Value.queries (m ((c : Thread Cert.Reference10Ideal.nD Cert.Reference10Ideal.τ).loc Cert.Reference10Ideal.main_arg0)) (m ((c : Thread Cert.Reference10Ideal.nD Cert.Reference10Ideal.τ).loc Cert.Reference10Ideal.main_arg1))
          (m ((c : Thread Cert.Reference10Ideal.nD Cert.Reference10Ideal.τ).loc Cert.Reference10Ideal.main_arg2)) (m ((c : Thread Cert.Reference10Ideal.nD Cert.Reference10Ideal.τ).loc Cert.Reference10Ideal.main_arg3))
          (m ((c : Thread Cert.Reference10Ideal.nD Cert.Reference10Ideal.τ).loc Cert.Reference10Ideal.main_arg4)) (ix2 r q) := by
  unfold Cert.Reference10Ideal.Value.res_main_v44
  pointwise
  unfold Cert.Kernel10Ideal.Value.queries
  have hq := q.isLt
  have meet := div_meet (m ((c : Thread Cert.Reference10Ideal.nD Cert.Reference10Ideal.τ).loc Cert.Reference10Ideal.main_arg0)) (m ((c : Thread Cert.Reference10Ideal.nD Cert.Reference10Ideal.τ).loc Cert.Reference10Ideal.main_arg1))
    (m ((c : Thread Cert.Reference10Ideal.nD Cert.Reference10Ideal.τ).loc Cert.Reference10Ideal.main_arg2)) r
  by_cases h1 : q.val < 2048
  · refine (dif_pos h1).trans ?_
    refine Eq.trans ?_ (if_pos (show q.val < 2048 from h1)).symm
    exact meet ⟨q.val / 128 * 192 + q.val % 128, by omega⟩ (Cert.Kernel10Ideal.Value.orig q) (orig_plain q h1).symm
  refine (dif_neg h1).trans ?_
  refine Eq.trans ?_ (if_neg (show ¬ q.val < 2048 from h1)).symm
  have el : ∀ h, (⟨(q.val - 2048) % 128, h⟩ : Fin 128) = lane q.val := fun h => Fin.ext (by show (q.val - 2048) % 128 = q.val % 128; omega)
  have ef : (Cert.Kernel10Ideal.Value.farCol q).val = far q.val := rfl
  have hf : ¬ (Cert.Kernel10Ideal.Value.farCol q).val < 2048 := by rw [ef]; unfold far; split <;> omega
  refine congrArg₂ (· + ·) (congrArg₂ (· * ·) ?_ (congrArg (fun l => (m ((c : Thread Cert.Reference10Ideal.nD Cert.Reference10Ideal.τ).loc Cert.Reference10Ideal.main_arg3)) (ix2 r l)) (el _)))
    (congrArg₂ (· * ·) ?_ (congrArg (fun l => (m ((c : Thread Cert.Reference10Ideal.nD Cert.Reference10Ideal.τ).loc Cert.Reference10Ideal.main_arg4)) (ix2 r l)) (el _)))
  · refine meet ⟨((q.val - 2048) / 128 * 2 + (q.val - 2048) % 128 / 64) * 192 + (128 + (q.val - 2048) % 128 % 64), by omega⟩ (Cert.Kernel10Ideal.Value.orig q) (Eq.trans ?_ (orig_rotated q h1).symm)
    dsimp only
    omega
  by_cases h2 : (q.val - 2048) % 128 % 64 < 32
  · refine (dif_pos h2).trans (meet ⟨((q.val - 2048) / 128 * 2 + (q.val - 2048) % 128 / 64) * 192 + (128 + (32 + (q.val - 2048) % 128 % 64)), by omega⟩ (Cert.Kernel10Ideal.Value.orig (Cert.Kernel10Ideal.Value.farCol q)) (Eq.trans ?_ (orig_rotated _ hf).symm))
    rw [ef, show far q.val = q.val + 32 from if_pos (by omega)]
    dsimp only
    omega
  · refine (dif_neg h2).trans (meet ⟨((q.val - 2048) / 128 * 2 + (q.val - 2048) % 128 / 64) * 192 + (128 + ((q.val - 2048) % 128 % 64 - 32)), by omega⟩ (Cert.Kernel10Ideal.Value.orig (Cert.Kernel10Ideal.Value.farCol q)) (Eq.trans ?_ (orig_rotated _ hf).symm))
    rw [ef, show far q.val = q.val - 32 from if_neg (by omega)]
    dsimp only
    omega

/-- The kernel's queries are the reference's. -/
theorem algebraic : Cert.algebraic_Kernel10Ideal_Reference10Ideal := by
  pair_intro
  · run_from Cert.Kernel10Ideal.Value.run_blocks m g
  · run_from Cert.Reference10Ideal.Value.run m' g'
    rw [Cert.Kernel10Ideal.Value.final m c]
    funext j
    obtain ⟨r, q, rfl⟩ : ∃ r q, j = ix2 r q := ⟨j 0, j 1, eq_ix2 j⟩
    rw [ref_apply m' c r q, (hagree c).1, (hagree c).2.1, (hagree c).2.2.1, (hagree c).2.2.2.1, (hagree c).2.2.2.2]

end Cert.Proof.QueryUp

end
-- ==== Proof.lean ====
module

public import proofs.«01_k».proof.Proof.GatesClaim
public import proofs.«01_k».proof.Proof.SumClaims
public import proofs.«01_k».proof.Proof.MergeClaims
public import proofs.«01_k».proof.Proof.FfnUpClaim
public import proofs.«01_k».proof.Proof.MainProjClaim
public import proofs.«01_k».proof.Proof.ProjClaims
public import proofs.«01_k».proof.Proof.QueryUpClaim
public import proofs.«01_k».proof.Defs
public import Idealize.ShloMosaic.Adequacy
public import Idealize.ShloMosaic.Init

@[expose] public section

noncomputable section

-- The frame claims also say that every semaphore counter ends at zero.

namespace Cert.Proof

open Idealize.ShloMosaic Idealize.SL.Sem Cert.Kernel

/-- Everything claimed, in the claim's order. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    fun m g _ => Cert.Kernel.Gen.frame m g, fun m g _ => Cert.KernelIdeal.Gen.frame m g, Gates.frame_ref,
    fun m g _ => Cert.Kernel2.Gen.frame m g, fun m g _ => Cert.Kernel2Ideal.Gen.frame m g, DownLo.frame_ref,
    fun m g _ => Cert.Kernel3.Gen.frame m g, fun m g _ => Cert.Kernel3Ideal.Gen.frame m g, DownHi.frame_ref,
    fun m g _ => Cert.Kernel4.Gen.frame m g, fun m g _ => Cert.Kernel4Ideal.Gen.frame m g, BranchMerge.frame_ref,
    FfnUp.frame, FfnUp.frame_ideal, FfnUp.frame_ref,
    fun m g _ => Cert.Kernel6.Gen.frame m g, fun m g _ => Cert.Kernel6Ideal.Gen.frame m g, OutProj.frame_ref,
    fun m g _ => Cert.Kernel7.Gen.frame m g, fun m g _ => Cert.Kernel7Ideal.Gen.frame m g, FinalNorm.frame_ref,
    fun m g _ => Cert.Kernel8.Gen.frame m g, fun m g _ => Cert.Kernel8Ideal.Gen.frame m g, MainProj.frame_ref,
    fun m g _ => Cert.Kernel9.Gen.frame m g, fun m g _ => Cert.Kernel9Ideal.Gen.frame m g, KeyRope.frame_ref,
    fun m g _ => Cert.Kernel10.Gen.frame m g, fun m g _ => Cert.Kernel10Ideal.Gen.frame m g, QueryUp.frame_ref,
    fun m g _ => Cert.Kernel11.Gen.frame m g, fun m g _ => Cert.Kernel11Ideal.Gen.frame m g, KvUp.frame_ref,
    fun m g _ => Cert.Kernel12.Gen.frame m g, fun m g _ => Cert.Kernel12Ideal.Gen.frame m g, FirstNorm.frame_ref,
    trivial, Gates.algebraic,
    trivial, DownLo.algebraic,
    trivial, DownHi.algebraic,
    trivial, BranchMerge.algebraic,
    trivial, FfnUp.algebraic,
    trivial, OutProj.algebraic,
    trivial, FinalNorm.algebraic,
    MainProj.preserves, MainProj.algebraic,
    trivial, KeyRope.algebraic,
    QueryUp.preserves, QueryUp.algebraic,
    trivial, KvUp.algebraic,
    trivial, FirstNorm.algebraic⟩

end Cert.Proof

end
